-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInRefIdeal (m : (ℓ : Loc Cert.WInRefIdeal.nD Cert.WInRefIdeal.τ Cert.WInRefIdeal.sig) → Buf (Elt Ideal) ℓ) : Prop :=
  True

def Pre_WPe (m : (ℓ : Loc Cert.WPe.nD Cert.WPe.τ Cert.WPe.sig) → Buf (Elt Bits) ℓ) : Prop :=
  True

def Pre_WPeIdeal (m : (ℓ : Loc Cert.WPeIdeal.nD Cert.WPeIdeal.τ Cert.WPeIdeal.sig) → Buf (Elt Ideal) ℓ) : Prop :=
  True

def Pre_WPeRefIdeal (m : (ℓ : Loc Cert.WPeRefIdeal.nD Cert.WPeRefIdeal.τ Cert.WPeRefIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutRefIdeal (m : (ℓ : Loc Cert.WOutRefIdeal.nD Cert.WOutRefIdeal.τ Cert.WOutRefIdeal.sig) → Buf (Elt Ideal) ℓ) : Prop :=
  True

def Pre_WF (m : (ℓ : Loc Cert.WF.nD Cert.WF.τ Cert.WF.sig) → Buf (Elt Bits) ℓ) : Prop :=
  True

def Pre_WFIdeal (m : (ℓ : Loc Cert.WFIdeal.nD Cert.WFIdeal.τ Cert.WFIdeal.sig) → Buf (Elt Ideal) ℓ) : Prop :=
  True

def Pre_WFRefIdeal (m : (ℓ : Loc Cert.WFRefIdeal.nD Cert.WFRefIdeal.τ Cert.WFRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_PoolW (m : (ℓ : Loc Cert.PoolW.nD Cert.PoolW.τ Cert.PoolW.sig) → Buf (Elt Bits) ℓ) : Prop :=
  True

def Pre_PoolWIdeal (m : (ℓ : Loc Cert.PoolWIdeal.nD Cert.PoolWIdeal.τ Cert.PoolWIdeal.sig) → Buf (Elt Ideal) ℓ) : Prop :=
  True

def Pre_PoolWRefIdeal (m : (ℓ : Loc Cert.PoolWRefIdeal.nD Cert.PoolWRefIdeal.τ Cert.PoolWRefIdeal.sig) → Buf (Elt Ideal) ℓ) : Prop :=
  True

def Pre_LossGrad (m : (ℓ : Loc Cert.LossGrad.nD Cert.LossGrad.τ Cert.LossGrad.sig) → Buf (Elt Bits) ℓ) : Prop :=
  True

def Pre_LossGradIdeal (m : (ℓ : Loc Cert.LossGradIdeal.nD Cert.LossGradIdeal.τ Cert.LossGradIdeal.sig) → Buf (Elt Ideal) ℓ) : Prop :=
  True

def Pre_LossGradRefIdeal (m : (ℓ : Loc Cert.LossGradRefIdeal.nD Cert.LossGradRefIdeal.τ Cert.LossGradRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ r.2.sem = fun _ => 0)

def quiescent_WInRefIdeal [hWInRefIdeal : Cert.WInRefIdeal.Facts] : Prop :=
  ∀ (m : (ℓ : Loc Cert.WInRefIdeal.nD Cert.WInRefIdeal.τ Cert.WInRefIdeal.sig) → Buf (Elt Ideal) ℓ) (g : Dev Cert.WInRefIdeal.nD → PrngReg), Pre_WInRefIdeal m →
    θ_run (Cert.WInRefIdeal.defs (F := Ideal)) (onTc (τ := Cert.WInRefIdeal.τ) (Cert.WInRefIdeal.main (F := Ideal))) ⟨m, fun _ => 0, g⟩ (fun r => (∀ c : Dev Cert.WInRefIdeal.nD,
      r.2.mem ((c.tc : Thread Cert.WInRefIdeal.nD Cert.WInRefIdeal.τ).loc Cert.WInRefIdeal.main_arg0) = m ((c.tc : Thread Cert.WInRefIdeal.nD Cert.WInRefIdeal.τ).loc Cert.WInRefIdeal.main_arg0)
      ∧ r.2.mem ((c.tc : Thread Cert.WInRefIdeal.nD Cert.WInRefIdeal.τ).loc Cert.WInRefIdeal.main_arg1) = m ((c.tc : Thread Cert.WInRefIdeal.nD Cert.WInRefIdeal.τ).loc Cert.WInRefIdeal.main_arg1))
      ∧ r.2.sem = fun _ => 0)

def quiescent_WPe [hWPe : Cert.WPe.Facts] : Prop :=
  ∀ (m : (ℓ : Loc Cert.WPe.nD Cert.WPe.τ Cert.WPe.sig) → Buf (Elt Bits) ℓ) (g : Dev Cert.WPe.nD → PrngReg), Pre_WPe m →
    θ_run (Cert.WPe.defs (F := Bits)) (onTc (τ := Cert.WPe.τ) (Cert.WPe.main (F := Bits))) ⟨m, fun _ => 0, g⟩ (fun r => (∀ c : Dev Cert.WPe.nD,
      r.2.mem ((c.tc : Thread Cert.WPe.nD Cert.WPe.τ).loc Cert.WPe.main_arg0) = m ((c.tc : Thread Cert.WPe.nD Cert.WPe.τ).loc Cert.WPe.main_arg0)
      ∧ r.2.mem ((c.tc : Thread Cert.WPe.nD Cert.WPe.τ).loc Cert.WPe.main_arg1) = m ((c.tc : Thread Cert.WPe.nD Cert.WPe.τ).loc Cert.WPe.main_arg1))
      ∧ r.2.sem = fun _ => 0)

def quiescent_WPeIdeal [hWPeIdeal : Cert.WPeIdeal.Facts] : Prop :=
  ∀ (m : (ℓ : Loc Cert.WPeIdeal.nD Cert.WPeIdeal.τ Cert.WPeIdeal.sig) → Buf (Elt Ideal) ℓ) (g : Dev Cert.WPeIdeal.nD → PrngReg), Pre_WPeIdeal m →
    θ_run (Cert.WPeIdeal.defs (F := Ideal)) (onTc (τ := Cert.WPeIdeal.τ) (Cert.WPeIdeal.main (F := Ideal))) ⟨m, fun _ => 0, g⟩ (fun r => (∀ c : Dev Cert.WPeIdeal.nD,
      r.2.mem ((c.tc : Thread Cert.WPeIdeal.nD Cert.WPeIdeal.τ).loc Cert.WPeIdeal.main_arg0) = m ((c.tc : Thread Cert.WPeIdeal.nD Cert.WPeIdeal.τ).loc Cert.WPeIdeal.main_arg0)
      ∧ r.2.mem ((c.tc : Thread Cert.WPeIdeal.nD Cert.WPeIdeal.τ).loc Cert.WPeIdeal.main_arg1) = m ((c.tc : Thread Cert.WPeIdeal.nD Cert.WPeIdeal.τ).loc Cert.WPeIdeal.main_arg1))
      ∧ r.2.sem = fun _ => 0)

def quiescent_WPeRefIdeal [hWPeRefIdeal : Cert.WPeRefIdeal.Facts] : Prop :=
  ∀ (m : (ℓ : Loc Cert.WPeRefIdeal.nD Cert.WPeRefIdeal.τ Cert.WPeRefIdeal.sig) → Buf (Elt Ideal) ℓ) (g : Dev Cert.WPeRefIdeal.nD → PrngReg), Pre_WPeRefIdeal m →
    θ_run (Cert.WPeRefIdeal.defs (F := Ideal)) (onTc (τ := Cert.WPeRefIdeal.τ) (Cert.WPeRefIdeal.main (F := Ideal))) ⟨m, fun _ => 0, g⟩ (fun r => (∀ c : Dev Cert.WPeRefIdeal.nD,
      r.2.mem ((c.tc : Thread Cert.WPeRefIdeal.nD Cert.WPeRefIdeal.τ).loc Cert.WPeRefIdeal.main_arg0) = m ((c.tc : Thread Cert.WPeRefIdeal.nD Cert.WPeRefIdeal.τ).loc Cert.WPeRefIdeal.main_arg0)
      ∧ r.2.mem ((c.tc : Thread Cert.WPeRefIdeal.nD Cert.WPeRefIdeal.τ).loc Cert.WPeRefIdeal.main_arg1) = m ((c.tc : Thread Cert.WPeRefIdeal.nD Cert.WPeRefIdeal.τ).loc Cert.WPeRefIdeal.main_arg1))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ r.2.sem = fun _ => 0)

def quiescent_WOutRefIdeal [hWOutRefIdeal : Cert.WOutRefIdeal.Facts] : Prop :=
  ∀ (m : (ℓ : Loc Cert.WOutRefIdeal.nD Cert.WOutRefIdeal.τ Cert.WOutRefIdeal.sig) → Buf (Elt Ideal) ℓ) (g : Dev Cert.WOutRefIdeal.nD → PrngReg), Pre_WOutRefIdeal m →
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1))
      ∧ r.2.sem = fun _ => 0)

def quiescent_WF [hWF : Cert.WF.Facts] : Prop :=
  ∀ (m : (ℓ : Loc Cert.WF.nD Cert.WF.τ Cert.WF.sig) → Buf (Elt Bits) ℓ) (g : Dev Cert.WF.nD → PrngReg), Pre_WF m →
    θ_run (Cert.WF.defs (F := Bits)) (onTc (τ := Cert.WF.τ) (Cert.WF.main (F := Bits))) ⟨m, fun _ => 0, g⟩ (fun r => (∀ c : Dev Cert.WF.nD,
      r.2.mem ((c.tc : Thread Cert.WF.nD Cert.WF.τ).loc Cert.WF.main_arg0) = m ((c.tc : Thread Cert.WF.nD Cert.WF.τ).loc Cert.WF.main_arg0)
      ∧ r.2.mem ((c.tc : Thread Cert.WF.nD Cert.WF.τ).loc Cert.WF.main_arg1) = m ((c.tc : Thread Cert.WF.nD Cert.WF.τ).loc Cert.WF.main_arg1))
      ∧ r.2.sem = fun _ => 0)

def quiescent_WFIdeal [hWFIdeal : Cert.WFIdeal.Facts] : Prop :=
  ∀ (m : (ℓ : Loc Cert.WFIdeal.nD Cert.WFIdeal.τ Cert.WFIdeal.sig) → Buf (Elt Ideal) ℓ) (g : Dev Cert.WFIdeal.nD → PrngReg), Pre_WFIdeal m →
    θ_run (Cert.WFIdeal.defs (F := Ideal)) (onTc (τ := Cert.WFIdeal.τ) (Cert.WFIdeal.main (F := Ideal))) ⟨m, fun _ => 0, g⟩ (fun r => (∀ c : Dev Cert.WFIdeal.nD,
      r.2.mem ((c.tc : Thread Cert.WFIdeal.nD Cert.WFIdeal.τ).loc Cert.WFIdeal.main_arg0) = m ((c.tc : Thread Cert.WFIdeal.nD Cert.WFIdeal.τ).loc Cert.WFIdeal.main_arg0)
      ∧ r.2.mem ((c.tc : Thread Cert.WFIdeal.nD Cert.WFIdeal.τ).loc Cert.WFIdeal.main_arg1) = m ((c.tc : Thread Cert.WFIdeal.nD Cert.WFIdeal.τ).loc Cert.WFIdeal.main_arg1))
      ∧ r.2.sem = fun _ => 0)

def quiescent_WFRefIdeal [hWFRefIdeal : Cert.WFRefIdeal.Facts] : Prop :=
  ∀ (m : (ℓ : Loc Cert.WFRefIdeal.nD Cert.WFRefIdeal.τ Cert.WFRefIdeal.sig) → Buf (Elt Ideal) ℓ) (g : Dev Cert.WFRefIdeal.nD → PrngReg), Pre_WFRefIdeal m →
    θ_run (Cert.WFRefIdeal.defs (F := Ideal)) (onTc (τ := Cert.WFRefIdeal.τ) (Cert.WFRefIdeal.main (F := Ideal))) ⟨m, fun _ => 0, g⟩ (fun r => (∀ c : Dev Cert.WFRefIdeal.nD,
      r.2.mem ((c.tc : Thread Cert.WFRefIdeal.nD Cert.WFRefIdeal.τ).loc Cert.WFRefIdeal.main_arg0) = m ((c.tc : Thread Cert.WFRefIdeal.nD Cert.WFRefIdeal.τ).loc Cert.WFRefIdeal.main_arg0)
      ∧ r.2.mem ((c.tc : Thread Cert.WFRefIdeal.nD Cert.WFRefIdeal.τ).loc Cert.WFRefIdeal.main_arg1) = m ((c.tc : Thread Cert.WFRefIdeal.nD Cert.WFRefIdeal.τ).loc Cert.WFRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9)
      ∧ r.2.mem ((c.tc : Thread Cert.InProj.nD Cert.InProj.τ).loc Cert.InProj.main_arg10) = m ((c.tc : Thread Cert.InProj.nD Cert.InProj.τ).loc Cert.InProj.main_arg10))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
      ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9)
      ∧ r.2.mem ((c.tc : Thread Cert.InProjRefIdeal.nD Cert.InProjRefIdeal.τ).loc Cert.InProjRefIdeal.main_arg10) = m ((c.tc : Thread Cert.InProjRefIdeal.nD Cert.InProjRefIdeal.τ).loc Cert.InProjRefIdeal.main_arg10))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1)
      ∧ r.2.mem ((c.tc : Thread Cert.OutGrad.nD Cert.OutGrad.τ).loc Cert.OutGrad.main_arg2) = m ((c.tc : Thread Cert.OutGrad.nD Cert.OutGrad.τ).loc Cert.OutGrad.main_arg2)
      ∧ r.2.mem ((c.tc : Thread Cert.OutGrad.nD Cert.OutGrad.τ).loc Cert.OutGrad.main_arg3) = m ((c.tc : Thread Cert.OutGrad.nD Cert.OutGrad.τ).loc Cert.OutGrad.main_arg3)
      ∧ r.2.mem ((c.tc : Thread Cert.OutGrad.nD Cert.OutGrad.τ).loc Cert.OutGrad.main_arg4) = m ((c.tc : Thread Cert.OutGrad.nD Cert.OutGrad.τ).loc Cert.OutGrad.main_arg4)
      ∧ r.2.mem ((c.tc : Thread Cert.OutGrad.nD Cert.OutGrad.τ).loc Cert.OutGrad.main_arg5) = m ((c.tc : Thread Cert.OutGrad.nD Cert.OutGrad.τ).loc Cert.OutGrad.main_arg5)
      ∧ r.2.mem ((c.tc : Thread Cert.OutGrad.nD Cert.OutGrad.τ).loc Cert.OutGrad.main_arg6) = m ((c.tc : Thread Cert.OutGrad.nD Cert.OutGrad.τ).loc Cert.OutGrad.main_arg6)
      ∧ r.2.mem ((c.tc : Thread Cert.OutGrad.nD Cert.OutGrad.τ).loc Cert.OutGrad.main_arg7) = m ((c.tc : Thread Cert.OutGrad.nD Cert.OutGrad.τ).loc Cert.OutGrad.main_arg7)
      ∧ r.2.mem ((c.tc : Thread Cert.OutGrad.nD Cert.OutGrad.τ).loc Cert.OutGrad.main_arg8) = m ((c.tc : Thread Cert.OutGrad.nD Cert.OutGrad.τ).loc Cert.OutGrad.main_arg8)
      ∧ r.2.mem ((c.tc : Thread Cert.OutGrad.nD Cert.OutGrad.τ).loc Cert.OutGrad.main_arg9) = m ((c.tc : Thread Cert.OutGrad.nD Cert.OutGrad.τ).loc Cert.OutGrad.main_arg9))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
      ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2)
      ∧ r.2.mem ((c.tc : Thread Cert.OutGradIdeal.nD Cert.OutGradIdeal.τ).loc Cert.OutGradIdeal.main_arg3) = m ((c.tc : Thread Cert.OutGradIdeal.nD Cert.OutGradIdeal.τ).loc Cert.OutGradIdeal.main_arg3)
      ∧ r.2.mem ((c.tc : Thread Cert.OutGradIdeal.nD Cert.OutGradIdeal.τ).loc Cert.OutGradIdeal.main_arg4) = m ((c.tc : Thread Cert.OutGradIdeal.nD Cert.OutGradIdeal.τ).loc Cert.OutGradIdeal.main_arg4)
      ∧ r.2.mem ((c.tc : Thread Cert.OutGradIdeal.nD Cert.OutGradIdeal.τ).loc Cert.OutGradIdeal.main_arg5) = m ((c.tc : Thread Cert.OutGradIdeal.nD Cert.OutGradIdeal.τ).loc Cert.OutGradIdeal.main_arg5)
      ∧ r.2.mem ((c.tc : Thread Cert.OutGradIdeal.nD Cert.OutGradIdeal.τ).loc Cert.OutGradIdeal.main_arg6) = m ((c.tc : Thread Cert.OutGradIdeal.nD Cert.OutGradIdeal.τ).loc Cert.OutGradIdeal.main_arg6)
      ∧ r.2.mem ((c.tc : Thread Cert.OutGradIdeal.nD Cert.OutGradIdeal.τ).loc Cert.OutGradIdeal.main_arg7) = m ((c.tc : Thread Cert.OutGradIdeal.nD Cert.OutGradIdeal.τ).loc Cert.OutGradIdeal.main_arg7)
      ∧ r.2.mem ((c.tc : Thread Cert.OutGradIdeal.nD Cert.OutGradIdeal.τ).loc Cert.OutGradIdeal.main_arg8) = m ((c.tc : Thread Cert.OutGradIdeal.nD Cert.OutGradIdeal.τ).loc Cert.OutGradIdeal.main_arg8)
      ∧ r.2.mem ((c.tc : Thread Cert.OutGradIdeal.nD Cert.OutGradIdeal.τ).loc Cert.OutGradIdeal.main_arg9) = m ((c.tc : Thread Cert.OutGradIdeal.nD Cert.OutGradIdeal.τ).loc Cert.OutGradIdeal.main_arg9))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1)
      ∧ r.2.mem ((c.tc : Thread Cert.OutGradRefIdeal.nD Cert.OutGradRefIdeal.τ).loc Cert.OutGradRefIdeal.main_arg2) = m ((c.tc : Thread Cert.OutGradRefIdeal.nD Cert.OutGradRefIdeal.τ).loc Cert.OutGradRefIdeal.main_arg2)
      ∧ r.2.mem ((c.tc : Thread Cert.OutGradRefIdeal.nD Cert.OutGradRefIdeal.τ).loc Cert.OutGradRefIdeal.main_arg3) = m ((c.tc : Thread Cert.OutGradRefIdeal.nD Cert.OutGradRefIdeal.τ).loc Cert.OutGradRefIdeal.main_arg3)
      ∧ r.2.mem ((c.tc : Thread Cert.OutGradRefIdeal.nD Cert.OutGradRefIdeal.τ).loc Cert.OutGradRefIdeal.main_arg4) = m ((c.tc : Thread Cert.OutGradRefIdeal.nD Cert.OutGradRefIdeal.τ).loc Cert.OutGradRefIdeal.main_arg4)
      ∧ r.2.mem ((c.tc : Thread Cert.OutGradRefIdeal.nD Cert.OutGradRefIdeal.τ).loc Cert.OutGradRefIdeal.main_arg5) = m ((c.tc : Thread Cert.OutGradRefIdeal.nD Cert.OutGradRefIdeal.τ).loc Cert.OutGradRefIdeal.main_arg5)
      ∧ r.2.mem ((c.tc : Thread Cert.OutGradRefIdeal.nD Cert.OutGradRefIdeal.τ).loc Cert.OutGradRefIdeal.main_arg6) = m ((c.tc : Thread Cert.OutGradRefIdeal.nD Cert.OutGradRefIdeal.τ).loc Cert.OutGradRefIdeal.main_arg6)
      ∧ r.2.mem ((c.tc : Thread Cert.OutGradRefIdeal.nD Cert.OutGradRefIdeal.τ).loc Cert.OutGradRefIdeal.main_arg7) = m ((c.tc : Thread Cert.OutGradRefIdeal.nD Cert.OutGradRefIdeal.τ).loc Cert.OutGradRefIdeal.main_arg7)
      ∧ r.2.mem ((c.tc : Thread Cert.OutGradRefIdeal.nD Cert.OutGradRefIdeal.τ).loc Cert.OutGradRefIdeal.main_arg8) = m ((c.tc : Thread Cert.OutGradRefIdeal.nD Cert.OutGradRefIdeal.τ).loc Cert.OutGradRefIdeal.main_arg8)
      ∧ r.2.mem ((c.tc : Thread Cert.OutGradRefIdeal.nD Cert.OutGradRefIdeal.τ).loc Cert.OutGradRefIdeal.main_arg9) = m ((c.tc : Thread Cert.OutGradRefIdeal.nD Cert.OutGradRefIdeal.τ).loc Cert.OutGradRefIdeal.main_arg9))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_PoolW [hPoolW : Cert.PoolW.Facts] : Prop :=
  ∀ (m : (ℓ : Loc Cert.PoolW.nD Cert.PoolW.τ Cert.PoolW.sig) → Buf (Elt Bits) ℓ) (g : Dev Cert.PoolW.nD → PrngReg), Pre_PoolW m →
    θ_run (Cert.PoolW.defs (F := Bits)) (onTc (τ := Cert.PoolW.τ) (Cert.PoolW.main (F := Bits))) ⟨m, fun _ => 0, g⟩ (fun r => (∀ c : Dev Cert.PoolW.nD,
      r.2.mem ((c.tc : Thread Cert.PoolW.nD Cert.PoolW.τ).loc Cert.PoolW.main_arg0) = m ((c.tc : Thread Cert.PoolW.nD Cert.PoolW.τ).loc Cert.PoolW.main_arg0)
      ∧ r.2.mem ((c.tc : Thread Cert.PoolW.nD Cert.PoolW.τ).loc Cert.PoolW.main_arg1) = m ((c.tc : Thread Cert.PoolW.nD Cert.PoolW.τ).loc Cert.PoolW.main_arg1))
      ∧ r.2.sem = fun _ => 0)

def quiescent_PoolWIdeal [hPoolWIdeal : Cert.PoolWIdeal.Facts] : Prop :=
  ∀ (m : (ℓ : Loc Cert.PoolWIdeal.nD Cert.PoolWIdeal.τ Cert.PoolWIdeal.sig) → Buf (Elt Ideal) ℓ) (g : Dev Cert.PoolWIdeal.nD → PrngReg), Pre_PoolWIdeal m →
    θ_run (Cert.PoolWIdeal.defs (F := Ideal)) (onTc (τ := Cert.PoolWIdeal.τ) (Cert.PoolWIdeal.main (F := Ideal))) ⟨m, fun _ => 0, g⟩ (fun r => (∀ c : Dev Cert.PoolWIdeal.nD,
      r.2.mem ((c.tc : Thread Cert.PoolWIdeal.nD Cert.PoolWIdeal.τ).loc Cert.PoolWIdeal.main_arg0) = m ((c.tc : Thread Cert.PoolWIdeal.nD Cert.PoolWIdeal.τ).loc Cert.PoolWIdeal.main_arg0)
      ∧ r.2.mem ((c.tc : Thread Cert.PoolWIdeal.nD Cert.PoolWIdeal.τ).loc Cert.PoolWIdeal.main_arg1) = m ((c.tc : Thread Cert.PoolWIdeal.nD Cert.PoolWIdeal.τ).loc Cert.PoolWIdeal.main_arg1))
      ∧ r.2.sem = fun _ => 0)

def quiescent_PoolWRefIdeal [hPoolWRefIdeal : Cert.PoolWRefIdeal.Facts] : Prop :=
  ∀ (m : (ℓ : Loc Cert.PoolWRefIdeal.nD Cert.PoolWRefIdeal.τ Cert.PoolWRefIdeal.sig) → Buf (Elt Ideal) ℓ) (g : Dev Cert.PoolWRefIdeal.nD → PrngReg), Pre_PoolWRefIdeal m →
    θ_run (Cert.PoolWRefIdeal.defs (F := Ideal)) (onTc (τ := Cert.PoolWRefIdeal.τ) (Cert.PoolWRefIdeal.main (F := Ideal))) ⟨m, fun _ => 0, g⟩ (fun r => (∀ c : Dev Cert.PoolWRefIdeal.nD,
      r.2.mem ((c.tc : Thread Cert.PoolWRefIdeal.nD Cert.PoolWRefIdeal.τ).loc Cert.PoolWRefIdeal.main_arg0) = m ((c.tc : Thread Cert.PoolWRefIdeal.nD Cert.PoolWRefIdeal.τ).loc Cert.PoolWRefIdeal.main_arg0)
      ∧ r.2.mem ((c.tc : Thread Cert.PoolWRefIdeal.nD Cert.PoolWRefIdeal.τ).loc Cert.PoolWRefIdeal.main_arg1) = m ((c.tc : Thread Cert.PoolWRefIdeal.nD Cert.PoolWRefIdeal.τ).loc Cert.PoolWRefIdeal.main_arg1))
      ∧ r.2.sem = fun _ => 0)

def quiescent_LossGrad [hLossGrad : Cert.LossGrad.Facts] : Prop :=
  ∀ (m : (ℓ : Loc Cert.LossGrad.nD Cert.LossGrad.τ Cert.LossGrad.sig) → Buf (Elt Bits) ℓ) (g : Dev Cert.LossGrad.nD → PrngReg), Pre_LossGrad m →
    θ_run (Cert.LossGrad.defs (F := Bits)) (onTc (τ := Cert.LossGrad.τ) (Cert.LossGrad.main (F := Bits))) ⟨m, fun _ => 0, g⟩ (fun r => (∀ c : Dev Cert.LossGrad.nD,
      r.2.mem ((c.tc : Thread Cert.LossGrad.nD Cert.LossGrad.τ).loc Cert.LossGrad.main_arg0) = m ((c.tc : Thread Cert.LossGrad.nD Cert.LossGrad.τ).loc Cert.LossGrad.main_arg0)
      ∧ r.2.mem ((c.tc : Thread Cert.LossGrad.nD Cert.LossGrad.τ).loc Cert.LossGrad.main_arg1) = m ((c.tc : Thread Cert.LossGrad.nD Cert.LossGrad.τ).loc Cert.LossGrad.main_arg1))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1))
      ∧ r.2.sem = fun _ => 0)

def quiescent_LossGradRefIdeal [hLossGradRefIdeal : Cert.LossGradRefIdeal.Facts] : Prop :=
  ∀ (m : (ℓ : Loc Cert.LossGradRefIdeal.nD Cert.LossGradRefIdeal.τ Cert.LossGradRefIdeal.sig) → Buf (Elt Ideal) ℓ) (g : Dev Cert.LossGradRefIdeal.nD → PrngReg), Pre_LossGradRefIdeal m →
    θ_run (Cert.LossGradRefIdeal.defs (F := Ideal)) (onTc (τ := Cert.LossGradRefIdeal.τ) (Cert.LossGradRefIdeal.main (F := Ideal))) ⟨m, fun _ => 0, g⟩ (fun r => (∀ c : Dev Cert.LossGradRefIdeal.nD,
      r.2.mem ((c.tc : Thread Cert.LossGradRefIdeal.nD Cert.LossGradRefIdeal.τ).loc Cert.LossGradRefIdeal.main_arg0) = m ((c.tc : Thread Cert.LossGradRefIdeal.nD Cert.LossGradRefIdeal.τ).loc Cert.LossGradRefIdeal.main_arg0)
      ∧ r.2.mem ((c.tc : Thread Cert.LossGradRefIdeal.nD Cert.LossGradRefIdeal.τ).loc Cert.LossGradRefIdeal.main_arg1) = m ((c.tc : Thread Cert.LossGradRefIdeal.nD Cert.LossGradRefIdeal.τ).loc Cert.LossGradRefIdeal.main_arg1))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12))
      ∧ r.2.sem = fun _ => 0)

def preserves_Kernel_KernelIdeal : Prop :=
  True

def preserves_WIn_WInIdeal : Prop :=
  True

def algebraic_WInIdeal_WInRefIdeal [hWInIdeal : Cert.WInIdeal.Facts] [hWInRefIdeal : Cert.WInRefIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInRefIdeal.nD Cert.WInRefIdeal.τ Cert.WInRefIdeal.sig) → Buf (Elt Ideal) ℓ) (g' : Dev Cert.WInRefIdeal.nD → PrngReg), Pre_WInIdeal m →
    (∀ c : Dev Cert.WInIdeal.nD,
      m' ((c.tc : Thread Cert.WInRefIdeal.nD Cert.WInRefIdeal.τ).loc Cert.WInRefIdeal.main_arg0) = m ((c.tc : Thread Cert.WInIdeal.nD Cert.WInIdeal.τ).loc Cert.WInIdeal.main_arg0)
      ∧ m' ((c.tc : Thread Cert.WInRefIdeal.nD Cert.WInRefIdeal.τ).loc Cert.WInRefIdeal.main_arg1) = m ((c.tc : Thread Cert.WInIdeal.nD Cert.WInIdeal.τ).loc Cert.WInIdeal.main_arg1)) →
    ∃ (v0 : (c : Dev Cert.WInIdeal.nD) → Buf (Elt Ideal) ((c.tc : Thread Cert.WInIdeal.nD Cert.WInIdeal.τ).loc Cert.WInIdeal.main_v0)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v0) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ θ_run (Cert.WInRefIdeal.defs (F := Ideal)) (onTc (τ := Cert.WInRefIdeal.τ) (Cert.WInRefIdeal.main (F := Ideal))) ⟨m', fun _ => 0, g'⟩ (fun r => ∀ c : Dev Cert.WInRefIdeal.nD,
          r.2.mem ((c.tc : Thread Cert.WInRefIdeal.nD Cert.WInRefIdeal.τ).loc Cert.WInRefIdeal.main_v6) = v0 c
          ∧ r.2.mem ((c.tc : Thread Cert.WInRefIdeal.nD Cert.WInRefIdeal.τ).loc Cert.WInRefIdeal.main_arg0) = m' ((c.tc : Thread Cert.WInRefIdeal.nD Cert.WInRefIdeal.τ).loc Cert.WInRefIdeal.main_arg0)
          ∧ r.2.mem ((c.tc : Thread Cert.WInRefIdeal.nD Cert.WInRefIdeal.τ).loc Cert.WInRefIdeal.main_arg1) = m' ((c.tc : Thread Cert.WInRefIdeal.nD Cert.WInRefIdeal.τ).loc Cert.WInRefIdeal.main_arg1))

def preserves_WPe_WPeIdeal : Prop :=
  True

def algebraic_WPeIdeal_WPeRefIdeal [hWPeIdeal : Cert.WPeIdeal.Facts] [hWPeRefIdeal : Cert.WPeRefIdeal.Facts] : Prop :=
  ∀ (m : (ℓ : Loc Cert.WPeIdeal.nD Cert.WPeIdeal.τ Cert.WPeIdeal.sig) → Buf (Elt Ideal) ℓ) (g : Dev Cert.WPeIdeal.nD → PrngReg)
    (m' : (ℓ : Loc Cert.WPeRefIdeal.nD Cert.WPeRefIdeal.τ Cert.WPeRefIdeal.sig) → Buf (Elt Ideal) ℓ) (g' : Dev Cert.WPeRefIdeal.nD → PrngReg), Pre_WPeIdeal m →
    (∀ c : Dev Cert.WPeIdeal.nD,
      m' ((c.tc : Thread Cert.WPeRefIdeal.nD Cert.WPeRefIdeal.τ).loc Cert.WPeRefIdeal.main_arg0) = m ((c.tc : Thread Cert.WPeIdeal.nD Cert.WPeIdeal.τ).loc Cert.WPeIdeal.main_arg0)
      ∧ m' ((c.tc : Thread Cert.WPeRefIdeal.nD Cert.WPeRefIdeal.τ).loc Cert.WPeRefIdeal.main_arg1) = m ((c.tc : Thread Cert.WPeIdeal.nD Cert.WPeIdeal.τ).loc Cert.WPeIdeal.main_arg1)) →
    ∃ (v0 : (c : Dev Cert.WPeIdeal.nD) → Buf (Elt Ideal) ((c.tc : Thread Cert.WPeIdeal.nD Cert.WPeIdeal.τ).loc Cert.WPeIdeal.main_v0)),
      θ_run (Cert.WPeIdeal.defs (F := Ideal)) (onTc (τ := Cert.WPeIdeal.τ) (Cert.WPeIdeal.main (F := Ideal))) ⟨m, fun _ => 0, g⟩ (fun r => ∀ c : Dev Cert.WPeIdeal.nD,
          r.2.mem ((c.tc : Thread Cert.WPeIdeal.nD Cert.WPeIdeal.τ).loc Cert.WPeIdeal.main_v0) = v0 c
          ∧ r.2.mem ((c.tc : Thread Cert.WPeIdeal.nD Cert.WPeIdeal.τ).loc Cert.WPeIdeal.main_arg0) = m ((c.tc : Thread Cert.WPeIdeal.nD Cert.WPeIdeal.τ).loc Cert.WPeIdeal.main_arg0)
          ∧ r.2.mem ((c.tc : Thread Cert.WPeIdeal.nD Cert.WPeIdeal.τ).loc Cert.WPeIdeal.main_arg1) = m ((c.tc : Thread Cert.WPeIdeal.nD Cert.WPeIdeal.τ).loc Cert.WPeIdeal.main_arg1))
      ∧ θ_run (Cert.WPeRefIdeal.defs (F := Ideal)) (onTc (τ := Cert.WPeRefIdeal.τ) (Cert.WPeRefIdeal.main (F := Ideal))) ⟨m', fun _ => 0, g'⟩ (fun r => ∀ c : Dev Cert.WPeRefIdeal.nD,
          r.2.mem ((c.tc : Thread Cert.WPeRefIdeal.nD Cert.WPeRefIdeal.τ).loc Cert.WPeRefIdeal.main_v5) = v0 c
          ∧ r.2.mem ((c.tc : Thread Cert.WPeRefIdeal.nD Cert.WPeRefIdeal.τ).loc Cert.WPeRefIdeal.main_arg0) = m' ((c.tc : Thread Cert.WPeRefIdeal.nD Cert.WPeRefIdeal.τ).loc Cert.WPeRefIdeal.main_arg0)
          ∧ r.2.mem ((c.tc : Thread Cert.WPeRefIdeal.nD Cert.WPeRefIdeal.τ).loc Cert.WPeRefIdeal.main_arg1) = m' ((c.tc : Thread Cert.WPeRefIdeal.nD Cert.WPeRefIdeal.τ).loc Cert.WPeRefIdeal.main_arg1))

def preserves_WOut_WOutIdeal : Prop :=
  True

def algebraic_WOutIdeal_WOutRefIdeal [hWOutIdeal : Cert.WOutIdeal.Facts] [hWOutRefIdeal : Cert.WOutRefIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutRefIdeal.nD Cert.WOutRefIdeal.τ Cert.WOutRefIdeal.sig) → Buf (Elt Ideal) ℓ) (g' : Dev Cert.WOutRefIdeal.nD → PrngReg), Pre_WOutIdeal m →
    (∀ c : Dev Cert.WOutIdeal.nD,
      m' ((c.tc : Thread Cert.WOutRefIdeal.nD Cert.WOutRefIdeal.τ).loc Cert.WOutRefIdeal.main_arg0) = m ((c.tc : Thread Cert.WOutIdeal.nD Cert.WOutIdeal.τ).loc Cert.WOutIdeal.main_arg0)
      ∧ m' ((c.tc : Thread Cert.WOutRefIdeal.nD Cert.WOutRefIdeal.τ).loc Cert.WOutRefIdeal.main_arg1) = m ((c.tc : Thread Cert.WOutIdeal.nD Cert.WOutIdeal.τ).loc Cert.WOutIdeal.main_arg1)) →
    ∃ (v0 : (c : Dev Cert.WOutIdeal.nD) → Buf (Elt Ideal) ((c.tc : Thread Cert.WOutIdeal.nD Cert.WOutIdeal.τ).loc Cert.WOutIdeal.main_v0)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v0) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ θ_run (Cert.WOutRefIdeal.defs (F := Ideal)) (onTc (τ := Cert.WOutRefIdeal.τ) (Cert.WOutRefIdeal.main (F := Ideal))) ⟨m', fun _ => 0, g'⟩ (fun r => ∀ c : Dev Cert.WOutRefIdeal.nD,
          r.2.mem ((c.tc : Thread Cert.WOutRefIdeal.nD Cert.WOutRefIdeal.τ).loc Cert.WOutRefIdeal.main_v6) = v0 c
          ∧ r.2.mem ((c.tc : Thread Cert.WOutRefIdeal.nD Cert.WOutRefIdeal.τ).loc Cert.WOutRefIdeal.main_arg0) = m' ((c.tc : Thread Cert.WOutRefIdeal.nD Cert.WOutRefIdeal.τ).loc Cert.WOutRefIdeal.main_arg0)
          ∧ r.2.mem ((c.tc : Thread Cert.WOutRefIdeal.nD Cert.WOutRefIdeal.τ).loc Cert.WOutRefIdeal.main_arg1) = m' ((c.tc : Thread Cert.WOutRefIdeal.nD Cert.WOutRefIdeal.τ).loc Cert.WOutRefIdeal.main_arg1))

def preserves_WF_WFIdeal : Prop :=
  True

def algebraic_WFIdeal_WFRefIdeal [hWFIdeal : Cert.WFIdeal.Facts] [hWFRefIdeal : Cert.WFRefIdeal.Facts] : Prop :=
  ∀ (m : (ℓ : Loc Cert.WFIdeal.nD Cert.WFIdeal.τ Cert.WFIdeal.sig) → Buf (Elt Ideal) ℓ) (g : Dev Cert.WFIdeal.nD → PrngReg)
    (m' : (ℓ : Loc Cert.WFRefIdeal.nD Cert.WFRefIdeal.τ Cert.WFRefIdeal.sig) → Buf (Elt Ideal) ℓ) (g' : Dev Cert.WFRefIdeal.nD → PrngReg), Pre_WFIdeal m →
    (∀ c : Dev Cert.WFIdeal.nD,
      m' ((c.tc : Thread Cert.WFRefIdeal.nD Cert.WFRefIdeal.τ).loc Cert.WFRefIdeal.main_arg0) = m ((c.tc : Thread Cert.WFIdeal.nD Cert.WFIdeal.τ).loc Cert.WFIdeal.main_arg0)
      ∧ m' ((c.tc : Thread Cert.WFRefIdeal.nD Cert.WFRefIdeal.τ).loc Cert.WFRefIdeal.main_arg1) = m ((c.tc : Thread Cert.WFIdeal.nD Cert.WFIdeal.τ).loc Cert.WFIdeal.main_arg1)) →
    ∃ (v0 : (c : Dev Cert.WFIdeal.nD) → Buf (Elt Ideal) ((c.tc : Thread Cert.WFIdeal.nD Cert.WFIdeal.τ).loc Cert.WFIdeal.main_v0)),
      θ_run (Cert.WFIdeal.defs (F := Ideal)) (onTc (τ := Cert.WFIdeal.τ) (Cert.WFIdeal.main (F := Ideal))) ⟨m, fun _ => 0, g⟩ (fun r => ∀ c : Dev Cert.WFIdeal.nD,
          r.2.mem ((c.tc : Thread Cert.WFIdeal.nD Cert.WFIdeal.τ).loc Cert.WFIdeal.main_v0) = v0 c
          ∧ r.2.mem ((c.tc : Thread Cert.WFIdeal.nD Cert.WFIdeal.τ).loc Cert.WFIdeal.main_arg0) = m ((c.tc : Thread Cert.WFIdeal.nD Cert.WFIdeal.τ).loc Cert.WFIdeal.main_arg0)
          ∧ r.2.mem ((c.tc : Thread Cert.WFIdeal.nD Cert.WFIdeal.τ).loc Cert.WFIdeal.main_arg1) = m ((c.tc : Thread Cert.WFIdeal.nD Cert.WFIdeal.τ).loc Cert.WFIdeal.main_arg1))
      ∧ θ_run (Cert.WFRefIdeal.defs (F := Ideal)) (onTc (τ := Cert.WFRefIdeal.τ) (Cert.WFRefIdeal.main (F := Ideal))) ⟨m', fun _ => 0, g'⟩ (fun r => ∀ c : Dev Cert.WFRefIdeal.nD,
          r.2.mem ((c.tc : Thread Cert.WFRefIdeal.nD Cert.WFRefIdeal.τ).loc Cert.WFRefIdeal.main_v5) = v0 c
          ∧ r.2.mem ((c.tc : Thread Cert.WFRefIdeal.nD Cert.WFRefIdeal.τ).loc Cert.WFRefIdeal.main_arg0) = m' ((c.tc : Thread Cert.WFRefIdeal.nD Cert.WFRefIdeal.τ).loc Cert.WFRefIdeal.main_arg0)
          ∧ r.2.mem ((c.tc : Thread Cert.WFRefIdeal.nD Cert.WFRefIdeal.τ).loc Cert.WFRefIdeal.main_arg1) = m' ((c.tc : Thread Cert.WFRefIdeal.nD Cert.WFRefIdeal.τ).loc Cert.WFRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)
      ∧ m' ((c.tc : Thread Cert.InProjRefIdeal.nD Cert.InProjRefIdeal.τ).loc Cert.InProjRefIdeal.main_arg9) = m ((c.tc : Thread Cert.InProjIdeal.nD Cert.InProjIdeal.τ).loc Cert.InProjIdeal.main_arg9)
      ∧ m' ((c.tc : Thread Cert.InProjRefIdeal.nD Cert.InProjRefIdeal.τ).loc Cert.InProjRefIdeal.main_arg10) = m ((c.tc : Thread Cert.InProjIdeal.nD Cert.InProjIdeal.τ).loc Cert.InProjIdeal.main_arg10)) →
    ∃ (v0 : (c : Dev Cert.InProjIdeal.nD) → Buf (Elt Ideal) ((c.tc : Thread Cert.InProjIdeal.nD Cert.InProjIdeal.τ).loc Cert.InProjIdeal.main_v6_0)) (v1 : (c : Dev Cert.InProjIdeal.nD) → Buf (Elt Ideal) ((c.tc : Thread Cert.InProjIdeal.nD Cert.InProjIdeal.τ).loc Cert.InProjIdeal.main_v6_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v6_0) = v0 c
          ∧ r.2.mem ((c.tc : Thread Cert.InProjIdeal.nD Cert.InProjIdeal.τ).loc Cert.InProjIdeal.main_v6_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
          ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v44) = v0 c
          ∧ r.2.mem ((c.tc : Thread Cert.InProjRefIdeal.nD Cert.InProjRefIdeal.τ).loc Cert.InProjRefIdeal.main_v27) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8)
          ∧ r.2.mem ((c.tc : Thread Cert.InProjRefIdeal.nD Cert.InProjRefIdeal.τ).loc Cert.InProjRefIdeal.main_arg9) = m' ((c.tc : Thread Cert.InProjRefIdeal.nD Cert.InProjRefIdeal.τ).loc Cert.InProjRefIdeal.main_arg9)
          ∧ r.2.mem ((c.tc : Thread Cert.InProjRefIdeal.nD Cert.InProjRefIdeal.τ).loc Cert.InProjRefIdeal.main_arg10) = m' ((c.tc : Thread Cert.InProjRefIdeal.nD Cert.InProjRefIdeal.τ).loc Cert.InProjRefIdeal.main_arg10))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)
      ∧ m' ((c.tc : Thread Cert.OutGradRefIdeal.nD Cert.OutGradRefIdeal.τ).loc Cert.OutGradRefIdeal.main_arg2) = m ((c.tc : Thread Cert.OutGradIdeal.nD Cert.OutGradIdeal.τ).loc Cert.OutGradIdeal.main_arg2)
      ∧ m' ((c.tc : Thread Cert.OutGradRefIdeal.nD Cert.OutGradRefIdeal.τ).loc Cert.OutGradRefIdeal.main_arg3) = m ((c.tc : Thread Cert.OutGradIdeal.nD Cert.OutGradIdeal.τ).loc Cert.OutGradIdeal.main_arg3)
      ∧ m' ((c.tc : Thread Cert.OutGradRefIdeal.nD Cert.OutGradRefIdeal.τ).loc Cert.OutGradRefIdeal.main_arg4) = m ((c.tc : Thread Cert.OutGradIdeal.nD Cert.OutGradIdeal.τ).loc Cert.OutGradIdeal.main_arg4)
      ∧ m' ((c.tc : Thread Cert.OutGradRefIdeal.nD Cert.OutGradRefIdeal.τ).loc Cert.OutGradRefIdeal.main_arg5) = m ((c.tc : Thread Cert.OutGradIdeal.nD Cert.OutGradIdeal.τ).loc Cert.OutGradIdeal.main_arg5)
      ∧ m' ((c.tc : Thread Cert.OutGradRefIdeal.nD Cert.OutGradRefIdeal.τ).loc Cert.OutGradRefIdeal.main_arg6) = m ((c.tc : Thread Cert.OutGradIdeal.nD Cert.OutGradIdeal.τ).loc Cert.OutGradIdeal.main_arg6)
      ∧ m' ((c.tc : Thread Cert.OutGradRefIdeal.nD Cert.OutGradRefIdeal.τ).loc Cert.OutGradRefIdeal.main_arg7) = m ((c.tc : Thread Cert.OutGradIdeal.nD Cert.OutGradIdeal.τ).loc Cert.OutGradIdeal.main_arg7)
      ∧ m' ((c.tc : Thread Cert.OutGradRefIdeal.nD Cert.OutGradRefIdeal.τ).loc Cert.OutGradRefIdeal.main_arg8) = m ((c.tc : Thread Cert.OutGradIdeal.nD Cert.OutGradIdeal.τ).loc Cert.OutGradIdeal.main_arg8)
      ∧ m' ((c.tc : Thread Cert.OutGradRefIdeal.nD Cert.OutGradRefIdeal.τ).loc Cert.OutGradRefIdeal.main_arg9) = m ((c.tc : Thread Cert.OutGradIdeal.nD Cert.OutGradIdeal.τ).loc Cert.OutGradIdeal.main_arg9)) →
    ∃ (v0 : (c : Dev Cert.OutGradIdeal.nD) → Buf (Elt Ideal) ((c.tc : Thread Cert.OutGradIdeal.nD Cert.OutGradIdeal.τ).loc Cert.OutGradIdeal.main_v0_0)) (v1 : (c : Dev Cert.OutGradIdeal.nD) → Buf (Elt Ideal) ((c.tc : Thread Cert.OutGradIdeal.nD Cert.OutGradIdeal.τ).loc Cert.OutGradIdeal.main_v0_1)) (v2 : (c : Dev Cert.OutGradIdeal.nD) → Buf (Elt Ideal) ((c.tc : Thread Cert.OutGradIdeal.nD Cert.OutGradIdeal.τ).loc Cert.OutGradIdeal.main_v0_2)) (v3 : (c : Dev Cert.OutGradIdeal.nD) → Buf (Elt Ideal) ((c.tc : Thread Cert.OutGradIdeal.nD Cert.OutGradIdeal.τ).loc Cert.OutGradIdeal.main_v0_3)) (v4 : (c : Dev Cert.OutGradIdeal.nD) → Buf (Elt Ideal) ((c.tc : Thread Cert.OutGradIdeal.nD Cert.OutGradIdeal.τ).loc Cert.OutGradIdeal.main_v0_4)) (v5 : (c : Dev Cert.OutGradIdeal.nD) → Buf (Elt Ideal) ((c.tc : Thread Cert.OutGradIdeal.nD Cert.OutGradIdeal.τ).loc Cert.OutGradIdeal.main_v0_5)) (v6 : (c : Dev Cert.OutGradIdeal.nD) → Buf (Elt Ideal) ((c.tc : Thread Cert.OutGradIdeal.nD Cert.OutGradIdeal.τ).loc Cert.OutGradIdeal.main_v10_0)) (v7 : (c : Dev Cert.OutGradIdeal.nD) → Buf (Elt Ideal) ((c.tc : Thread Cert.OutGradIdeal.nD Cert.OutGradIdeal.τ).loc Cert.OutGradIdeal.main_v10_1)) (v8 : (c : Dev Cert.OutGradIdeal.nD) → Buf (Elt Ideal) ((c.tc : Thread Cert.OutGradIdeal.nD Cert.OutGradIdeal.τ).loc Cert.OutGradIdeal.main_v10_2)) (v9 : (c : Dev Cert.OutGradIdeal.nD) → Buf (Elt Ideal) ((c.tc : Thread Cert.OutGradIdeal.nD Cert.OutGradIdeal.τ).loc Cert.OutGradIdeal.main_v10_3)) (v10 : (c : Dev Cert.OutGradIdeal.nD) → Buf (Elt Ideal) ((c.tc : Thread Cert.OutGradIdeal.nD Cert.OutGradIdeal.τ).loc Cert.OutGradIdeal.main_v10_4)) (v11 : (c : Dev Cert.OutGradIdeal.nD) → Buf (Elt Ideal) ((c.tc : Thread Cert.OutGradIdeal.nD Cert.OutGradIdeal.τ).loc Cert.OutGradIdeal.main_v10_6)) (v12 : (c : Dev Cert.OutGradIdeal.nD) → Buf (Elt Ideal) ((c.tc : Thread Cert.OutGradIdeal.nD Cert.OutGradIdeal.τ).loc Cert.OutGradIdeal.main_v10_8)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0_0) = v0 c
          ∧ r.2.mem ((c.tc : Thread Cert.OutGradIdeal.nD Cert.OutGradIdeal.τ).loc Cert.OutGradIdeal.main_v0_1) = v1 c
          ∧ r.2.mem ((c.tc : Thread Cert.OutGradIdeal.nD Cert.OutGradIdeal.τ).loc Cert.OutGradIdeal.main_v0_2) = v2 c
          ∧ r.2.mem ((c.tc : Thread Cert.OutGradIdeal.nD Cert.OutGradIdeal.τ).loc Cert.OutGradIdeal.main_v0_3) = v3 c
          ∧ r.2.mem ((c.tc : Thread Cert.OutGradIdeal.nD Cert.OutGradIdeal.τ).loc Cert.OutGradIdeal.main_v0_4) = v4 c
          ∧ r.2.mem ((c.tc : Thread Cert.OutGradIdeal.nD Cert.OutGradIdeal.τ).loc Cert.OutGradIdeal.main_v0_5) = v5 c
          ∧ r.2.mem ((c.tc : Thread Cert.OutGradIdeal.nD Cert.OutGradIdeal.τ).loc Cert.OutGradIdeal.main_v10_0) = v6 c
          ∧ r.2.mem ((c.tc : Thread Cert.OutGradIdeal.nD Cert.OutGradIdeal.τ).loc Cert.OutGradIdeal.main_v10_1) = v7 c
          ∧ r.2.mem ((c.tc : Thread Cert.OutGradIdeal.nD Cert.OutGradIdeal.τ).loc Cert.OutGradIdeal.main_v10_2) = v8 c
          ∧ r.2.mem ((c.tc : Thread Cert.OutGradIdeal.nD Cert.OutGradIdeal.τ).loc Cert.OutGradIdeal.main_v10_3) = v9 c
          ∧ r.2.mem ((c.tc : Thread Cert.OutGradIdeal.nD Cert.OutGradIdeal.τ).loc Cert.OutGradIdeal.main_v10_4) = v10 c
          ∧ r.2.mem ((c.tc : Thread Cert.OutGradIdeal.nD Cert.OutGradIdeal.τ).loc Cert.OutGradIdeal.main_v10_6) = v11 c
          ∧ r.2.mem ((c.tc : Thread Cert.OutGradIdeal.nD Cert.OutGradIdeal.τ).loc Cert.OutGradIdeal.main_v10_8) = v12 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
          ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2)
          ∧ r.2.mem ((c.tc : Thread Cert.OutGradIdeal.nD Cert.OutGradIdeal.τ).loc Cert.OutGradIdeal.main_arg3) = m ((c.tc : Thread Cert.OutGradIdeal.nD Cert.OutGradIdeal.τ).loc Cert.OutGradIdeal.main_arg3)
          ∧ r.2.mem ((c.tc : Thread Cert.OutGradIdeal.nD Cert.OutGradIdeal.τ).loc Cert.OutGradIdeal.main_arg4) = m ((c.tc : Thread Cert.OutGradIdeal.nD Cert.OutGradIdeal.τ).loc Cert.OutGradIdeal.main_arg4)
          ∧ r.2.mem ((c.tc : Thread Cert.OutGradIdeal.nD Cert.OutGradIdeal.τ).loc Cert.OutGradIdeal.main_arg5) = m ((c.tc : Thread Cert.OutGradIdeal.nD Cert.OutGradIdeal.τ).loc Cert.OutGradIdeal.main_arg5)
          ∧ r.2.mem ((c.tc : Thread Cert.OutGradIdeal.nD Cert.OutGradIdeal.τ).loc Cert.OutGradIdeal.main_arg6) = m ((c.tc : Thread Cert.OutGradIdeal.nD Cert.OutGradIdeal.τ).loc Cert.OutGradIdeal.main_arg6)
          ∧ r.2.mem ((c.tc : Thread Cert.OutGradIdeal.nD Cert.OutGradIdeal.τ).loc Cert.OutGradIdeal.main_arg7) = m ((c.tc : Thread Cert.OutGradIdeal.nD Cert.OutGradIdeal.τ).loc Cert.OutGradIdeal.main_arg7)
          ∧ r.2.mem ((c.tc : Thread Cert.OutGradIdeal.nD Cert.OutGradIdeal.τ).loc Cert.OutGradIdeal.main_arg8) = m ((c.tc : Thread Cert.OutGradIdeal.nD Cert.OutGradIdeal.τ).loc Cert.OutGradIdeal.main_arg8)
          ∧ r.2.mem ((c.tc : Thread Cert.OutGradIdeal.nD Cert.OutGradIdeal.τ).loc Cert.OutGradIdeal.main_arg9) = m ((c.tc : Thread Cert.OutGradIdeal.nD Cert.OutGradIdeal.τ).loc Cert.OutGradIdeal.main_arg9))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v36) = v0 c
          ∧ r.2.mem ((c.tc : Thread Cert.OutGradRefIdeal.nD Cert.OutGradRefIdeal.τ).loc Cert.OutGradRefIdeal.main_v6) = v1 c
          ∧ r.2.mem ((c.tc : Thread Cert.OutGradRefIdeal.nD Cert.OutGradRefIdeal.τ).loc Cert.OutGradRefIdeal.main_v67) = v2 c
          ∧ r.2.mem ((c.tc : Thread Cert.OutGradRefIdeal.nD Cert.OutGradRefIdeal.τ).loc Cert.OutGradRefIdeal.main_v73) = v3 c
          ∧ r.2.mem ((c.tc : Thread Cert.OutGradRefIdeal.nD Cert.OutGradRefIdeal.τ).loc Cert.OutGradRefIdeal.main_v25) = v4 c
          ∧ r.2.mem ((c.tc : Thread Cert.OutGradRefIdeal.nD Cert.OutGradRefIdeal.τ).loc Cert.OutGradRefIdeal.main_v74) = v5 c
          ∧ r.2.mem ((c.tc : Thread Cert.OutGradRefIdeal.nD Cert.OutGradRefIdeal.τ).loc Cert.OutGradRefIdeal.main_v43) = v6 c
          ∧ r.2.mem ((c.tc : Thread Cert.OutGradRefIdeal.nD Cert.OutGradRefIdeal.τ).loc Cert.OutGradRefIdeal.main_v75) = v7 c
          ∧ r.2.mem ((c.tc : Thread Cert.OutGradRefIdeal.nD Cert.OutGradRefIdeal.τ).loc Cert.OutGradRefIdeal.main_v76) = v8 c
          ∧ r.2.mem ((c.tc : Thread Cert.OutGradRefIdeal.nD Cert.OutGradRefIdeal.τ).loc Cert.OutGradRefIdeal.main_v77) = v9 c
          ∧ r.2.mem ((c.tc : Thread Cert.OutGradRefIdeal.nD Cert.OutGradRefIdeal.τ).loc Cert.OutGradRefIdeal.main_v78) = v10 c
          ∧ r.2.mem ((c.tc : Thread Cert.OutGradRefIdeal.nD Cert.OutGradRefIdeal.τ).loc Cert.OutGradRefIdeal.main_v65) = v11 c
          ∧ r.2.mem ((c.tc : Thread Cert.OutGradRefIdeal.nD Cert.OutGradRefIdeal.τ).loc Cert.OutGradRefIdeal.main_v46) = v12 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1)
          ∧ r.2.mem ((c.tc : Thread Cert.OutGradRefIdeal.nD Cert.OutGradRefIdeal.τ).loc Cert.OutGradRefIdeal.main_arg2) = m' ((c.tc : Thread Cert.OutGradRefIdeal.nD Cert.OutGradRefIdeal.τ).loc Cert.OutGradRefIdeal.main_arg2)
          ∧ r.2.mem ((c.tc : Thread Cert.OutGradRefIdeal.nD Cert.OutGradRefIdeal.τ).loc Cert.OutGradRefIdeal.main_arg3) = m' ((c.tc : Thread Cert.OutGradRefIdeal.nD Cert.OutGradRefIdeal.τ).loc Cert.OutGradRefIdeal.main_arg3)
          ∧ r.2.mem ((c.tc : Thread Cert.OutGradRefIdeal.nD Cert.OutGradRefIdeal.τ).loc Cert.OutGradRefIdeal.main_arg4) = m' ((c.tc : Thread Cert.OutGradRefIdeal.nD Cert.OutGradRefIdeal.τ).loc Cert.OutGradRefIdeal.main_arg4)
          ∧ r.2.mem ((c.tc : Thread Cert.OutGradRefIdeal.nD Cert.OutGradRefIdeal.τ).loc Cert.OutGradRefIdeal.main_arg5) = m' ((c.tc : Thread Cert.OutGradRefIdeal.nD Cert.OutGradRefIdeal.τ).loc Cert.OutGradRefIdeal.main_arg5)
          ∧ r.2.mem ((c.tc : Thread Cert.OutGradRefIdeal.nD Cert.OutGradRefIdeal.τ).loc Cert.OutGradRefIdeal.main_arg6) = m' ((c.tc : Thread Cert.OutGradRefIdeal.nD Cert.OutGradRefIdeal.τ).loc Cert.OutGradRefIdeal.main_arg6)
          ∧ r.2.mem ((c.tc : Thread Cert.OutGradRefIdeal.nD Cert.OutGradRefIdeal.τ).loc Cert.OutGradRefIdeal.main_arg7) = m' ((c.tc : Thread Cert.OutGradRefIdeal.nD Cert.OutGradRefIdeal.τ).loc Cert.OutGradRefIdeal.main_arg7)
          ∧ r.2.mem ((c.tc : Thread Cert.OutGradRefIdeal.nD Cert.OutGradRefIdeal.τ).loc Cert.OutGradRefIdeal.main_arg8) = m' ((c.tc : Thread Cert.OutGradRefIdeal.nD Cert.OutGradRefIdeal.τ).loc Cert.OutGradRefIdeal.main_arg8)
          ∧ r.2.mem ((c.tc : Thread Cert.OutGradRefIdeal.nD Cert.OutGradRefIdeal.τ).loc Cert.OutGradRefIdeal.main_arg9) = m' ((c.tc : Thread Cert.OutGradRefIdeal.nD Cert.OutGradRefIdeal.τ).loc Cert.OutGradRefIdeal.main_arg9))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v5_0)) (v1 : (c : Dev Cert.InFwdIdeal.nD) → Buf (Elt Ideal) ((c.tc : Thread Cert.InFwdIdeal.nD Cert.InFwdIdeal.τ).loc Cert.InFwdIdeal.main_v5_1)) (v2 : (c : Dev Cert.InFwdIdeal.nD) → Buf (Elt Ideal) ((c.tc : Thread Cert.InFwdIdeal.nD Cert.InFwdIdeal.τ).loc Cert.InFwdIdeal.main_v5_2)) (v3 : (c : Dev Cert.InFwdIdeal.nD) → Buf (Elt Ideal) ((c.tc : Thread Cert.InFwdIdeal.nD Cert.InFwdIdeal.τ).loc Cert.InFwdIdeal.main_v5_3)) (v4 : (c : Dev Cert.InFwdIdeal.nD) → Buf (Elt Ideal) ((c.tc : Thread Cert.InFwdIdeal.nD Cert.InFwdIdeal.τ).loc Cert.InFwdIdeal.main_v6)) (v5 : (c : Dev Cert.InFwdIdeal.nD) → Buf (Elt Ideal) ((c.tc : Thread Cert.InFwdIdeal.nD Cert.InFwdIdeal.τ).loc Cert.InFwdIdeal.main_v5_4)) (v6 : (c : Dev Cert.InFwdIdeal.nD) → Buf (Elt Ideal) ((c.tc : Thread Cert.InFwdIdeal.nD Cert.InFwdIdeal.τ).loc Cert.InFwdIdeal.main_v5_5)) (v7 : (c : Dev Cert.InFwdIdeal.nD) → Buf (Elt Ideal) ((c.tc : Thread Cert.InFwdIdeal.nD Cert.InFwdIdeal.τ).loc Cert.InFwdIdeal.main_v5_7)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v5_0) = v0 c
          ∧ r.2.mem ((c.tc : Thread Cert.InFwdIdeal.nD Cert.InFwdIdeal.τ).loc Cert.InFwdIdeal.main_v5_1) = v1 c
          ∧ r.2.mem ((c.tc : Thread Cert.InFwdIdeal.nD Cert.InFwdIdeal.τ).loc Cert.InFwdIdeal.main_v5_2) = v2 c
          ∧ r.2.mem ((c.tc : Thread Cert.InFwdIdeal.nD Cert.InFwdIdeal.τ).loc Cert.InFwdIdeal.main_v5_3) = v3 c
          ∧ r.2.mem ((c.tc : Thread Cert.InFwdIdeal.nD Cert.InFwdIdeal.τ).loc Cert.InFwdIdeal.main_v6) = v4 c
          ∧ r.2.mem ((c.tc : Thread Cert.InFwdIdeal.nD Cert.InFwdIdeal.τ).loc Cert.InFwdIdeal.main_v5_4) = v5 c
          ∧ r.2.mem ((c.tc : Thread Cert.InFwdIdeal.nD Cert.InFwdIdeal.τ).loc Cert.InFwdIdeal.main_v5_5) = v6 c
          ∧ r.2.mem ((c.tc : Thread Cert.InFwdIdeal.nD Cert.InFwdIdeal.τ).loc Cert.InFwdIdeal.main_v5_7) = v7 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v21) = v0 c
          ∧ r.2.mem ((c.tc : Thread Cert.InFwdRefIdeal.nD Cert.InFwdRefIdeal.τ).loc Cert.InFwdRefIdeal.main_v22) = v1 c
          ∧ r.2.mem ((c.tc : Thread Cert.InFwdRefIdeal.nD Cert.InFwdRefIdeal.τ).loc Cert.InFwdRefIdeal.main_v23) = v2 c
          ∧ r.2.mem ((c.tc : Thread Cert.InFwdRefIdeal.nD Cert.InFwdRefIdeal.τ).loc Cert.InFwdRefIdeal.main_v17) = v3 c
          ∧ r.2.mem ((c.tc : Thread Cert.InFwdRefIdeal.nD Cert.InFwdRefIdeal.τ).loc Cert.InFwdRefIdeal.main_v18) = v4 c
          ∧ r.2.mem ((c.tc : Thread Cert.InFwdRefIdeal.nD Cert.InFwdRefIdeal.τ).loc Cert.InFwdRefIdeal.main_v19) = v5 c
          ∧ r.2.mem ((c.tc : Thread Cert.InFwdRefIdeal.nD Cert.InFwdRefIdeal.τ).loc Cert.InFwdRefIdeal.main_v20) = v6 c
          ∧ r.2.mem ((c.tc : Thread Cert.InFwdRefIdeal.nD Cert.InFwdRefIdeal.τ).loc Cert.InFwdRefIdeal.main_v24) = v7 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_PoolW_PoolWIdeal : Prop :=
  True

def algebraic_PoolWIdeal_PoolWRefIdeal [hPoolWIdeal : Cert.PoolWIdeal.Facts] [hPoolWRefIdeal : Cert.PoolWRefIdeal.Facts] : Prop :=
  ∀ (m : (ℓ : Loc Cert.PoolWIdeal.nD Cert.PoolWIdeal.τ Cert.PoolWIdeal.sig) → Buf (Elt Ideal) ℓ) (g : Dev Cert.PoolWIdeal.nD → PrngReg)
    (m' : (ℓ : Loc Cert.PoolWRefIdeal.nD Cert.PoolWRefIdeal.τ Cert.PoolWRefIdeal.sig) → Buf (Elt Ideal) ℓ) (g' : Dev Cert.PoolWRefIdeal.nD → PrngReg), Pre_PoolWIdeal m →
    (∀ c : Dev Cert.PoolWIdeal.nD,
      m' ((c.tc : Thread Cert.PoolWRefIdeal.nD Cert.PoolWRefIdeal.τ).loc Cert.PoolWRefIdeal.main_arg0) = m ((c.tc : Thread Cert.PoolWIdeal.nD Cert.PoolWIdeal.τ).loc Cert.PoolWIdeal.main_arg0)
      ∧ m' ((c.tc : Thread Cert.PoolWRefIdeal.nD Cert.PoolWRefIdeal.τ).loc Cert.PoolWRefIdeal.main_arg1) = m ((c.tc : Thread Cert.PoolWIdeal.nD Cert.PoolWIdeal.τ).loc Cert.PoolWIdeal.main_arg1)) →
    ∃ (v0 : (c : Dev Cert.PoolWIdeal.nD) → Buf (Elt Ideal) ((c.tc : Thread Cert.PoolWIdeal.nD Cert.PoolWIdeal.τ).loc Cert.PoolWIdeal.main_v0)),
      θ_run (Cert.PoolWIdeal.defs (F := Ideal)) (onTc (τ := Cert.PoolWIdeal.τ) (Cert.PoolWIdeal.main (F := Ideal))) ⟨m, fun _ => 0, g⟩ (fun r => ∀ c : Dev Cert.PoolWIdeal.nD,
          r.2.mem ((c.tc : Thread Cert.PoolWIdeal.nD Cert.PoolWIdeal.τ).loc Cert.PoolWIdeal.main_v0) = v0 c
          ∧ r.2.mem ((c.tc : Thread Cert.PoolWIdeal.nD Cert.PoolWIdeal.τ).loc Cert.PoolWIdeal.main_arg0) = m ((c.tc : Thread Cert.PoolWIdeal.nD Cert.PoolWIdeal.τ).loc Cert.PoolWIdeal.main_arg0)
          ∧ r.2.mem ((c.tc : Thread Cert.PoolWIdeal.nD Cert.PoolWIdeal.τ).loc Cert.PoolWIdeal.main_arg1) = m ((c.tc : Thread Cert.PoolWIdeal.nD Cert.PoolWIdeal.τ).loc Cert.PoolWIdeal.main_arg1))
      ∧ θ_run (Cert.PoolWRefIdeal.defs (F := Ideal)) (onTc (τ := Cert.PoolWRefIdeal.τ) (Cert.PoolWRefIdeal.main (F := Ideal))) ⟨m', fun _ => 0, g'⟩ (fun r => ∀ c : Dev Cert.PoolWRefIdeal.nD,
          r.2.mem ((c.tc : Thread Cert.PoolWRefIdeal.nD Cert.PoolWRefIdeal.τ).loc Cert.PoolWRefIdeal.main_v10) = v0 c
          ∧ r.2.mem ((c.tc : Thread Cert.PoolWRefIdeal.nD Cert.PoolWRefIdeal.τ).loc Cert.PoolWRefIdeal.main_arg0) = m' ((c.tc : Thread Cert.PoolWRefIdeal.nD Cert.PoolWRefIdeal.τ).loc Cert.PoolWRefIdeal.main_arg0)
          ∧ r.2.mem ((c.tc : Thread Cert.PoolWRefIdeal.nD Cert.PoolWRefIdeal.τ).loc Cert.PoolWRefIdeal.main_arg1) = m' ((c.tc : Thread Cert.PoolWRefIdeal.nD Cert.PoolWRefIdeal.τ).loc Cert.PoolWRefIdeal.main_arg1))

def preserves_LossGrad_LossGradIdeal : Prop :=
  True

def algebraic_LossGradIdeal_LossGradRefIdeal [hLossGradIdeal : Cert.LossGradIdeal.Facts] [hLossGradRefIdeal : Cert.LossGradRefIdeal.Facts] : Prop :=
  ∀ (m : (ℓ : Loc Cert.LossGradIdeal.nD Cert.LossGradIdeal.τ Cert.LossGradIdeal.sig) → Buf (Elt Ideal) ℓ) (g : Dev Cert.LossGradIdeal.nD → PrngReg)
    (m' : (ℓ : Loc Cert.LossGradRefIdeal.nD Cert.LossGradRefIdeal.τ Cert.LossGradRefIdeal.sig) → Buf (Elt Ideal) ℓ) (g' : Dev Cert.LossGradRefIdeal.nD → PrngReg), Pre_LossGradIdeal m →
    (∀ c : Dev Cert.LossGradIdeal.nD,
      m' ((c.tc : Thread Cert.LossGradRefIdeal.nD Cert.LossGradRefIdeal.τ).loc Cert.LossGradRefIdeal.main_arg0) = m ((c.tc : Thread Cert.LossGradIdeal.nD Cert.LossGradIdeal.τ).loc Cert.LossGradIdeal.main_arg0)
      ∧ m' ((c.tc : Thread Cert.LossGradRefIdeal.nD Cert.LossGradRefIdeal.τ).loc Cert.LossGradRefIdeal.main_arg1) = m ((c.tc : Thread Cert.LossGradIdeal.nD Cert.LossGradIdeal.τ).loc Cert.LossGradIdeal.main_arg1)) →
    ∃ (v0 : (c : Dev Cert.LossGradIdeal.nD) → Buf (Elt Ideal) ((c.tc : Thread Cert.LossGradIdeal.nD Cert.LossGradIdeal.τ).loc Cert.LossGradIdeal.main_v2)) (v1 : (c : Dev Cert.LossGradIdeal.nD) → Buf (Elt Ideal) ((c.tc : Thread Cert.LossGradIdeal.nD Cert.LossGradIdeal.τ).loc Cert.LossGradIdeal.main_v0_0)),
      θ_run (Cert.LossGradIdeal.defs (F := Ideal)) (onTc (τ := Cert.LossGradIdeal.τ) (Cert.LossGradIdeal.main (F := Ideal))) ⟨m, fun _ => 0, g⟩ (fun r => ∀ c : Dev Cert.LossGradIdeal.nD,
          r.2.mem ((c.tc : Thread Cert.LossGradIdeal.nD Cert.LossGradIdeal.τ).loc Cert.LossGradIdeal.main_v2) = v0 c
          ∧ r.2.mem ((c.tc : Thread Cert.LossGradIdeal.nD Cert.LossGradIdeal.τ).loc Cert.LossGradIdeal.main_v0_0) = v1 c
          ∧ r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1))
      ∧ θ_run (Cert.LossGradRefIdeal.defs (F := Ideal)) (onTc (τ := Cert.LossGradRefIdeal.τ) (Cert.LossGradRefIdeal.main (F := Ideal))) ⟨m', fun _ => 0, g'⟩ (fun r => ∀ c : Dev Cert.LossGradRefIdeal.nD,
          r.2.mem ((c.tc : Thread Cert.LossGradRefIdeal.nD Cert.LossGradRefIdeal.τ).loc Cert.LossGradRefIdeal.main_v8) = v0 c
          ∧ r.2.mem ((c.tc : Thread Cert.LossGradRefIdeal.nD Cert.LossGradRefIdeal.τ).loc Cert.LossGradRefIdeal.main_v14) = v1 c
          ∧ r.2.mem ((c.tc : Thread Cert.LossGradRefIdeal.nD Cert.LossGradRefIdeal.τ).loc Cert.LossGradRefIdeal.main_arg0) = m' ((c.tc : Thread Cert.LossGradRefIdeal.nD Cert.LossGradRefIdeal.τ).loc Cert.LossGradRefIdeal.main_arg0)
          ∧ r.2.mem ((c.tc : Thread Cert.LossGradRefIdeal.nD Cert.LossGradRefIdeal.τ).loc Cert.LossGradRefIdeal.main_arg1) = m' ((c.tc : Thread Cert.LossGradRefIdeal.nD Cert.LossGradRefIdeal.τ).loc Cert.LossGradRefIdeal.main_arg1))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)) →
    ∃ (v0 : (c : Dev Cert.AdamSmallIdeal.nD) → Buf (Elt Ideal) ((c.tc : Thread Cert.AdamSmallIdeal.nD Cert.AdamSmallIdeal.τ).loc Cert.AdamSmallIdeal.main_v16)) (v1 : (c : Dev Cert.AdamSmallIdeal.nD) → Buf (Elt Ideal) ((c.tc : Thread Cert.AdamSmallIdeal.nD Cert.AdamSmallIdeal.τ).loc Cert.AdamSmallIdeal.main_v17)) (v2 : (c : Dev Cert.AdamSmallIdeal.nD) → Buf (Elt Ideal) ((c.tc : Thread Cert.AdamSmallIdeal.nD Cert.AdamSmallIdeal.τ).loc Cert.AdamSmallIdeal.main_v18)) (v3 : (c : Dev Cert.AdamSmallIdeal.nD) → Buf (Elt Ideal) ((c.tc : Thread Cert.AdamSmallIdeal.nD Cert.AdamSmallIdeal.τ).loc Cert.AdamSmallIdeal.main_v19)) (v4 : (c : Dev Cert.AdamSmallIdeal.nD) → Buf (Elt Ideal) ((c.tc : Thread Cert.AdamSmallIdeal.nD Cert.AdamSmallIdeal.τ).loc Cert.AdamSmallIdeal.main_v20)) (v5 : (c : Dev Cert.AdamSmallIdeal.nD) → Buf (Elt Ideal) ((c.tc : Thread Cert.AdamSmallIdeal.nD Cert.AdamSmallIdeal.τ).loc Cert.AdamSmallIdeal.main_v21)) (v6 : (c : Dev Cert.AdamSmallIdeal.nD) → Buf (Elt Ideal) ((c.tc : Thread Cert.AdamSmallIdeal.nD Cert.AdamSmallIdeal.τ).loc Cert.AdamSmallIdeal.main_v22)) (v7 : (c : Dev Cert.AdamSmallIdeal.nD) → Buf (Elt Ideal) ((c.tc : Thread Cert.AdamSmallIdeal.nD Cert.AdamSmallIdeal.τ).loc Cert.AdamSmallIdeal.main_v23)) (v8 : (c : Dev Cert.AdamSmallIdeal.nD) → Buf (Elt Ideal) ((c.tc : Thread Cert.AdamSmallIdeal.nD Cert.AdamSmallIdeal.τ).loc Cert.AdamSmallIdeal.main_v24)) (v9 : (c : Dev Cert.AdamSmallIdeal.nD) → Buf (Elt Ideal) ((c.tc : Thread Cert.AdamSmallIdeal.nD Cert.AdamSmallIdeal.τ).loc Cert.AdamSmallIdeal.main_v25)) (v10 : (c : Dev Cert.AdamSmallIdeal.nD) → Buf (Elt Ideal) ((c.tc : Thread Cert.AdamSmallIdeal.nD Cert.AdamSmallIdeal.τ).loc Cert.AdamSmallIdeal.main_v26)) (v11 : (c : Dev Cert.AdamSmallIdeal.nD) → Buf (Elt Ideal) ((c.tc : Thread Cert.AdamSmallIdeal.nD Cert.AdamSmallIdeal.τ).loc Cert.AdamSmallIdeal.main_v27)) (v12 : (c : Dev Cert.AdamSmallIdeal.nD) → Buf (Elt Ideal) ((c.tc : Thread Cert.AdamSmallIdeal.nD Cert.AdamSmallIdeal.τ).loc Cert.AdamSmallIdeal.main_v28)) (v13 : (c : Dev Cert.AdamSmallIdeal.nD) → Buf (Elt Ideal) ((c.tc : Thread Cert.AdamSmallIdeal.nD Cert.AdamSmallIdeal.τ).loc Cert.AdamSmallIdeal.main_v29)) (v14 : (c : Dev Cert.AdamSmallIdeal.nD) → Buf (Elt Ideal) ((c.tc : Thread Cert.AdamSmallIdeal.nD Cert.AdamSmallIdeal.τ).loc Cert.AdamSmallIdeal.main_v30)) (v15 : (c : Dev Cert.AdamSmallIdeal.nD) → Buf (Elt Ideal) ((c.tc : Thread Cert.AdamSmallIdeal.nD Cert.AdamSmallIdeal.τ).loc Cert.AdamSmallIdeal.main_v31)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v16) = v0 c
          ∧ r.2.mem ((c.tc : Thread Cert.AdamSmallIdeal.nD Cert.AdamSmallIdeal.τ).loc Cert.AdamSmallIdeal.main_v17) = v1 c
          ∧ r.2.mem ((c.tc : Thread Cert.AdamSmallIdeal.nD Cert.AdamSmallIdeal.τ).loc Cert.AdamSmallIdeal.main_v18) = v2 c
          ∧ r.2.mem ((c.tc : Thread Cert.AdamSmallIdeal.nD Cert.AdamSmallIdeal.τ).loc Cert.AdamSmallIdeal.main_v19) = v3 c
          ∧ r.2.mem ((c.tc : Thread Cert.AdamSmallIdeal.nD Cert.AdamSmallIdeal.τ).loc Cert.AdamSmallIdeal.main_v20) = v4 c
          ∧ r.2.mem ((c.tc : Thread Cert.AdamSmallIdeal.nD Cert.AdamSmallIdeal.τ).loc Cert.AdamSmallIdeal.main_v21) = v5 c
          ∧ r.2.mem ((c.tc : Thread Cert.AdamSmallIdeal.nD Cert.AdamSmallIdeal.τ).loc Cert.AdamSmallIdeal.main_v22) = v6 c
          ∧ r.2.mem ((c.tc : Thread Cert.AdamSmallIdeal.nD Cert.AdamSmallIdeal.τ).loc Cert.AdamSmallIdeal.main_v23) = v7 c
          ∧ r.2.mem ((c.tc : Thread Cert.AdamSmallIdeal.nD Cert.AdamSmallIdeal.τ).loc Cert.AdamSmallIdeal.main_v24) = v8 c
          ∧ r.2.mem ((c.tc : Thread Cert.AdamSmallIdeal.nD Cert.AdamSmallIdeal.τ).loc Cert.AdamSmallIdeal.main_v25) = v9 c
          ∧ r.2.mem ((c.tc : Thread Cert.AdamSmallIdeal.nD Cert.AdamSmallIdeal.τ).loc Cert.AdamSmallIdeal.main_v26) = v10 c
          ∧ r.2.mem ((c.tc : Thread Cert.AdamSmallIdeal.nD Cert.AdamSmallIdeal.τ).loc Cert.AdamSmallIdeal.main_v27) = v11 c
          ∧ r.2.mem ((c.tc : Thread Cert.AdamSmallIdeal.nD Cert.AdamSmallIdeal.τ).loc Cert.AdamSmallIdeal.main_v28) = v12 c
          ∧ r.2.mem ((c.tc : Thread Cert.AdamSmallIdeal.nD Cert.AdamSmallIdeal.τ).loc Cert.AdamSmallIdeal.main_v29) = v13 c
          ∧ r.2.mem ((c.tc : Thread Cert.AdamSmallIdeal.nD Cert.AdamSmallIdeal.τ).loc Cert.AdamSmallIdeal.main_v30) = v14 c
          ∧ r.2.mem ((c.tc : Thread Cert.AdamSmallIdeal.nD Cert.AdamSmallIdeal.τ).loc Cert.AdamSmallIdeal.main_v31) = v15 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v1) = v0 c
          ∧ r.2.mem ((c.tc : Thread Cert.AdamSmallRefIdeal.nD Cert.AdamSmallRefIdeal.τ).loc Cert.AdamSmallRefIdeal.main_v2) = v1 c
          ∧ r.2.mem ((c.tc : Thread Cert.AdamSmallRefIdeal.nD Cert.AdamSmallRefIdeal.τ).loc Cert.AdamSmallRefIdeal.main_v3) = v2 c
          ∧ r.2.mem ((c.tc : Thread Cert.AdamSmallRefIdeal.nD Cert.AdamSmallRefIdeal.τ).loc Cert.AdamSmallRefIdeal.main_v4) = v3 c
          ∧ r.2.mem ((c.tc : Thread Cert.AdamSmallRefIdeal.nD Cert.AdamSmallRefIdeal.τ).loc Cert.AdamSmallRefIdeal.main_v28) = v4 c
          ∧ r.2.mem ((c.tc : Thread Cert.AdamSmallRefIdeal.nD Cert.AdamSmallRefIdeal.τ).loc Cert.AdamSmallRefIdeal.main_v52) = v5 c
          ∧ r.2.mem ((c.tc : Thread Cert.AdamSmallRefIdeal.nD Cert.AdamSmallRefIdeal.τ).loc Cert.AdamSmallRefIdeal.main_v76) = v6 c
          ∧ r.2.mem ((c.tc : Thread Cert.AdamSmallRefIdeal.nD Cert.AdamSmallRefIdeal.τ).loc Cert.AdamSmallRefIdeal.main_v100) = v7 c
          ∧ r.2.mem ((c.tc : Thread Cert.AdamSmallRefIdeal.nD Cert.AdamSmallRefIdeal.τ).loc Cert.AdamSmallRefIdeal.main_v9) = v8 c
          ∧ r.2.mem ((c.tc : Thread Cert.AdamSmallRefIdeal.nD Cert.AdamSmallRefIdeal.τ).loc Cert.AdamSmallRefIdeal.main_v33) = v9 c
          ∧ r.2.mem ((c.tc : Thread Cert.AdamSmallRefIdeal.nD Cert.AdamSmallRefIdeal.τ).loc Cert.AdamSmallRefIdeal.main_v57) = v10 c
          ∧ r.2.mem ((c.tc : Thread Cert.AdamSmallRefIdeal.nD Cert.AdamSmallRefIdeal.τ).loc Cert.AdamSmallRefIdeal.main_v81) = v11 c
          ∧ r.2.mem ((c.tc : Thread Cert.AdamSmallRefIdeal.nD Cert.AdamSmallRefIdeal.τ).loc Cert.AdamSmallRefIdeal.main_v15) = v12 c
          ∧ r.2.mem ((c.tc : Thread Cert.AdamSmallRefIdeal.nD Cert.AdamSmallRefIdeal.τ).loc Cert.AdamSmallRefIdeal.main_v39) = v13 c
          ∧ r.2.mem ((c.tc : Thread Cert.AdamSmallRefIdeal.nD Cert.AdamSmallRefIdeal.τ).loc Cert.AdamSmallRefIdeal.main_v63) = v14 c
          ∧ r.2.mem ((c.tc : Thread Cert.AdamSmallRefIdeal.nD Cert.AdamSmallRefIdeal.τ).loc Cert.AdamSmallRefIdeal.main_v87) = v15 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12))

def Claim : Prop :=
  ∃ (hKernel : Cert.Kernel.Facts) (hKernelIdeal : Cert.KernelIdeal.Facts) (hWIn : Cert.WIn.Facts) (hWInIdeal : Cert.WInIdeal.Facts) (hWInRefIdeal : Cert.WInRefIdeal.Facts) (hWPe : Cert.WPe.Facts) (hWPeIdeal : Cert.WPeIdeal.Facts) (hWPeRefIdeal : Cert.WPeRefIdeal.Facts) (hWOut : Cert.WOut.Facts) (hWOutIdeal : Cert.WOutIdeal.Facts) (hWOutRefIdeal : Cert.WOutRefIdeal.Facts) (hWF : Cert.WF.Facts) (hWFIdeal : Cert.WFIdeal.Facts) (hWFRefIdeal : Cert.WFRefIdeal.Facts) (hInProj : Cert.InProj.Facts) (hInProjIdeal : Cert.InProjIdeal.Facts) (hInProjRefIdeal : Cert.InProjRefIdeal.Facts) (hOutGrad : Cert.OutGrad.Facts) (hOutGradIdeal : Cert.OutGradIdeal.Facts) (hOutGradRefIdeal : Cert.OutGradRefIdeal.Facts) (hInFwd : Cert.InFwd.Facts) (hInFwdIdeal : Cert.InFwdIdeal.Facts) (hInFwdRefIdeal : Cert.InFwdRefIdeal.Facts) (hPoolW : Cert.PoolW.Facts) (hPoolWIdeal : Cert.PoolWIdeal.Facts) (hPoolWRefIdeal : Cert.PoolWRefIdeal.Facts) (hLossGrad : Cert.LossGrad.Facts) (hLossGradIdeal : Cert.LossGradIdeal.Facts) (hLossGradRefIdeal : Cert.LossGradRefIdeal.Facts) (hAdamSmall : Cert.AdamSmall.Facts) (hAdamSmallIdeal : Cert.AdamSmallIdeal.Facts) (hAdamSmallRefIdeal : Cert.AdamSmallRefIdeal.Facts),
    quiescent_Kernel (hKernel := hKernel)
    ∧ quiescent_KernelIdeal (hKernelIdeal := hKernelIdeal)
    ∧ quiescent_WIn (hWIn := hWIn)
    ∧ quiescent_WInIdeal (hWInIdeal := hWInIdeal)
    ∧ quiescent_WInRefIdeal (hWInRefIdeal := hWInRefIdeal)
    ∧ quiescent_WPe (hWPe := hWPe)
    ∧ quiescent_WPeIdeal (hWPeIdeal := hWPeIdeal)
    ∧ quiescent_WPeRefIdeal (hWPeRefIdeal := hWPeRefIdeal)
    ∧ quiescent_WOut (hWOut := hWOut)
    ∧ quiescent_WOutIdeal (hWOutIdeal := hWOutIdeal)
    ∧ quiescent_WOutRefIdeal (hWOutRefIdeal := hWOutRefIdeal)
    ∧ quiescent_WF (hWF := hWF)
    ∧ quiescent_WFIdeal (hWFIdeal := hWFIdeal)
    ∧ quiescent_WFRefIdeal (hWFRefIdeal := hWFRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_PoolW (hPoolW := hPoolW)
    ∧ quiescent_PoolWIdeal (hPoolWIdeal := hPoolWIdeal)
    ∧ quiescent_PoolWRefIdeal (hPoolWRefIdeal := hPoolWRefIdeal)
    ∧ quiescent_LossGrad (hLossGrad := hLossGrad)
    ∧ quiescent_LossGradIdeal (hLossGradIdeal := hLossGradIdeal)
    ∧ quiescent_LossGradRefIdeal (hLossGradRefIdeal := hLossGradRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ preserves_WIn_WInIdeal
    ∧ algebraic_WInIdeal_WInRefIdeal (hWInIdeal := hWInIdeal) (hWInRefIdeal := hWInRefIdeal)
    ∧ preserves_WPe_WPeIdeal
    ∧ algebraic_WPeIdeal_WPeRefIdeal (hWPeIdeal := hWPeIdeal) (hWPeRefIdeal := hWPeRefIdeal)
    ∧ preserves_WOut_WOutIdeal
    ∧ algebraic_WOutIdeal_WOutRefIdeal (hWOutIdeal := hWOutIdeal) (hWOutRefIdeal := hWOutRefIdeal)
    ∧ preserves_WF_WFIdeal
    ∧ algebraic_WFIdeal_WFRefIdeal (hWFIdeal := hWFIdeal) (hWFRefIdeal := hWFRefIdeal)
    ∧ preserves_InProj_InProjIdeal
    ∧ algebraic_InProjIdeal_InProjRefIdeal (hInProjIdeal := hInProjIdeal) (hInProjRefIdeal := hInProjRefIdeal)
    ∧ preserves_OutGrad_OutGradIdeal
    ∧ algebraic_OutGradIdeal_OutGradRefIdeal (hOutGradIdeal := hOutGradIdeal) (hOutGradRefIdeal := hOutGradRefIdeal)
    ∧ preserves_InFwd_InFwdIdeal
    ∧ algebraic_InFwdIdeal_InFwdRefIdeal (hInFwdIdeal := hInFwdIdeal) (hInFwdRefIdeal := hInFwdRefIdeal)
    ∧ preserves_PoolW_PoolWIdeal
    ∧ algebraic_PoolWIdeal_PoolWRefIdeal (hPoolWIdeal := hPoolWIdeal) (hPoolWRefIdeal := hPoolWRefIdeal)
    ∧ preserves_LossGrad_LossGradIdeal
    ∧ algebraic_LossGradIdeal_LossGradRefIdeal (hLossGradIdeal := hLossGradIdeal) (hLossGradRefIdeal := hLossGradRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Kernel.lean ====
abbrev S4096x1024 : Shape := ⟨2, ![4096, 1024]⟩
abbrev S2x8x2x2048 : Shape := ⟨4, ![2, 8, 2, 2048]⟩
abbrev S2048x128 : Shape := ⟨2, ![2048, 128]⟩
abbrev S512x128 : Shape := ⟨2, ![512, 128]⟩
abbrev S1x1x2x512 : Shape := ⟨4, ![1, 1, 2, 512]⟩
abbrev S1x1x2x2048 : Shape := ⟨4, ![1, 1, 2, 2048]⟩
abbrev S2x512x128 : Shape := ⟨3, ![2, 512, 128]⟩
abbrev S2x512x512 : Shape := ⟨3, ![2, 512, 512]⟩
abbrev S1x512x128 : Shape := ⟨3, ![1, 512, 128]⟩
abbrev S1x1x1x512 : Shape := ⟨4, ![1, 1, 1, 512]⟩
abbrev S1x512 : Shape := ⟨2, ![1, 512]⟩
abbrev S128x512 : Shape := ⟨2, ![128, 512]⟩
abbrev S16x128 : Shape := ⟨2, ![16, 128]⟩
abbrev S2x512 : Shape := ⟨2, ![2, 512]⟩
abbrev S1x256x128 : Shape := ⟨3, ![1, 256, 128]⟩
abbrev S256x128 : Shape := ⟨2, ![256, 128]⟩
abbrev S256x512 : Shape := ⟨2, ![256, 512]⟩
abbrev S1x256x512 : Shape := ⟨3, ![1, 256, 512]⟩
abbrev S256x256 : Shape := ⟨2, ![256, 256]⟩
abbrev S1x256x256 : Shape := ⟨3, ![1, 256, 256]⟩
abbrev S1x16x128 : Shape := ⟨3, ![1, 16, 128]⟩
abbrev S1x128 : Shape := ⟨2, ![1, 128]⟩
abbrev S512x512 : Shape := ⟨2, ![512, 512]⟩
abbrev S1x512x512 : Shape := ⟨3, ![1, 512, 512]⟩

abbrev nBuf : Space → Nat
  | .hbm => 12
  | .vmem => 36
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S2x8x2x2048, .f32⟩
  | .hbm, ⟨5, _⟩ => ⟨S2x8x2x2048, .f32⟩
  | .hbm, ⟨6, _⟩ => ⟨S2x8x2x2048, .f32⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S2x8x2x2048, .f32⟩
  | .hbm, ⟨11, _⟩ => ⟨S2x8x2x2048, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S1x1x2x512, .f32⟩
  | .local _ .vmem, ⟨9, _⟩ => ⟨S1x1x2x512, .f32⟩
  | .local _ .vmem, ⟨10, _⟩ => ⟨S1x1x2x2048, .f32⟩
  | .local _ .vmem, ⟨11, _⟩ => ⟨S1x1x2x2048, .f32⟩
  | .local _ .vmem, ⟨12, _⟩ => ⟨S1x1x2x2048, .f32⟩
  | .local _ .vmem, ⟨13, _⟩ => ⟨S1x1x2x2048, .f32⟩
  | .local _ .vmem, ⟨14, _⟩ => ⟨S2048x128, .bf16⟩
  | .local _ .vmem, ⟨15, _⟩ => ⟨S2048x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S1x1x2x512, .f32⟩
  | .local _ .vmem, ⟨21, _⟩ => ⟨S1x1x2x512, .f32⟩
  | .local _ .vmem, ⟨22, _⟩ => ⟨S1x1x2x2048, .f32⟩
  | .local _ .vmem, ⟨23, _⟩ => ⟨S1x1x2x2048, .f32⟩
  | .local _ .vmem, ⟨24, _⟩ => ⟨S2x512x128, .bf16⟩
  | .local _ .vmem, ⟨25, _⟩ => ⟨S2x512x128, .bf16⟩
  | .local _ .vmem, ⟨26, _⟩ => ⟨S2x512x128, .bf16⟩
  | .local _ .vmem, ⟨27, _⟩ => ⟨S2x512x128, .f32⟩
  | .local _ .vmem, ⟨28, _⟩ => ⟨S2x512x512, .f32⟩
  | .local _ .vmem, ⟨29, _⟩ => ⟨S2x512x512, .f32⟩
  | .local _ .vmem, ⟨30, _⟩ => ⟨S2x512x512, .bf16⟩
  | .local _ .vmem, ⟨31, _⟩ => ⟨S2x512x512, .bf16⟩
  | .local _ .vmem, ⟨32, _⟩ => ⟨S2x512x128, .f32⟩
  | .local _ .vmem, ⟨33, _⟩ => ⟨S2x512x128, .f32⟩
  | .local _ .vmem, ⟨34, _⟩ => ⟨S2048x128, .f32⟩
  | .local _ .vmem, ⟨35, _⟩ => ⟨S2048x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_scratch9 : Ref sig .tc := ⟨.vmem, 33, rfl⟩
abbrev cc0_scratch10 : Ref sig .tc := ⟨.vmem, 34, rfl⟩
abbrev cc0_scratch11 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![2, 8, 4], ![false, false, false]⟩

def k0_mult1 (i : grid0.Coords) : BitVec 32 :=
  let arg2 : BitVec 32 := BitVec.ofNat 32 (i 2).val
  let c512_i32 : BitVec 32 := 512#32
  let v60 : BitVec 32 := Scalar.muli arg2 c512_i32
  v60
def k0_off1 (i : grid0.Coords) : Fin 2 → Nat :=
  let arg2 : BitVec 32 := BitVec.ofNat 32 (i 2).val
  let c512_i32 : BitVec 32 := 512#32
  let v60 : BitVec 32 := Scalar.muli arg2 c512_i32
  let v61 : BitVec 32 := v60
  let v62 : Index := Scalar.indexCast v61
  let c0_44 : Index := 0#32
  ![v62.toNat, 0]
def k0_off2 (i : grid0.Coords) : Fin 4 → Nat :=
  let c0_47 : Index := 0#32
  let c0_48 : Index := 0#32
  let c0_49 : Index := 0#32
  let arg2 : BitVec 32 := BitVec.ofNat 32 (i 2).val
  let c512_i32 : BitVec 32 := 512#32
  let v60 : BitVec 32 := Scalar.muli arg2 c512_i32
  let v61 : BitVec 32 := v60
  let v68 : Index := Scalar.indexCast v61
  ![0, 0, 0, v68.toNat]
def k0_off3 (i : grid0.Coords) : Fin 2 → Nat :=
  let arg2 : BitVec 32 := BitVec.ofNat 32 (i 2).val
  let c512_i32 : BitVec 32 := 512#32
  let v60 : BitVec 32 := Scalar.muli arg2 c512_i32
  let v61 : BitVec 32 := v60
  let c0_i32_1958 : BitVec 32 := 0#32
  let v3376 : BitVec 32 := Scalar.addi v61 c0_i32_1958
  let v3377 : Index := Scalar.indexCast v3376
  let c0_1959 : Index := 0#32
  ![v3377.toNat, 0]
def k0_off4 (i : grid0.Coords) : Fin 2 → Nat :=
  let arg2 : BitVec 32 := BitVec.ofNat 32 (i 2).val
  let c512_i32 : BitVec 32 := 512#32
  let v60 : BitVec 32 := Scalar.muli arg2 c512_i32
  let v61 : BitVec 32 := v60
  let c256_i32_3045 : BitVec 32 := 256#32
  let v5302 : BitVec 32 := Scalar.addi v61 c256_i32_3045
  let v5303 : Index := Scalar.indexCast v5302
  let c0_3046 : Index := 0#32
  ![v5303.toNat, 0]
@[reducible] def k0_t1_loop (i : grid0.Coords) : Scf.Loop 32 :=
  let arg2 : BitVec 32 := BitVec.ofNat 32 (i 2).val
  let c1_i32 : BitVec 32 := 1#32
  let v5324 : BitVec 32 := Scalar.addi arg2 c1_i32
  let c4_i32 : BitVec 32 := 4#32
  let v5325 : BitVec 32 := Scalar.subi c4_i32 v5324
  let c1_i32_3053 : BitVec 32 := 1#32
  let v5327 : BitVec 32 := Scalar.divsi v5325 c1_i32_3053
  let v5328 : BitVec 32 := Scalar.muli v5327 c1_i32_3053
  let v5329 : BitVec 32 := Scalar.addi v5324 v5328
  let c1_i32_3054 : BitVec 32 := 1#32
  ⟨v5324, v5329, c1_i32_3054⟩
def k0_mult2 (i : grid0.Coords) (k0_t1 : Fin (k0_t1_loop i).trips) : BitVec 32 :=
  let arg2 : BitVec 32 := BitVec.ofNat 32 (i 2).val
  let c1_i32 : BitVec 32 := 1#32
  let v5324 : BitVec 32 := Scalar.addi arg2 c1_i32
  let c1_i32_3054 : BitVec 32 := 1#32
  let arg27 : BitVec 32 := Scf.iv v5324 c1_i32_3054 k0_t1
  let c512_i32_3087 : BitVec 32 := 512#32
  let v5361 : BitVec 32 := Scalar.muli arg27 c512_i32_3087
  v5361
def k0_off5 (i : grid0.Coords) (k0_t1 : Fin (k0_t1_loop i).trips) : Fin 2 → Nat :=
  let arg2 : BitVec 32 := BitVec.ofNat 32 (i 2).val
  let c1_i32 : BitVec 32 := 1#32
  let v5324 : BitVec 32 := Scalar.addi arg2 c1_i32
  let c1_i32_3054 : BitVec 32 := 1#32
  let arg27 : BitVec 32 := Scf.iv v5324 c1_i32_3054 k0_t1
  let c512_i32_3087 : BitVec 32 := 512#32
  let v5361 : BitVec 32 := Scalar.muli arg27 c512_i32_3087
  let v5362 : BitVec 32 := v5361
  let v5363 : Index := Scalar.indexCast v5362
  let c0_3088 : Index := 0#32
  ![v5363.toNat, 0]
def k0_off6 (i : grid0.Coords) (k0_t1 : Fin (k0_t1_loop i).trips) : Fin 4 → Nat :=
  let c0_3091 : Index := 0#32
  let c0_3092 : Index := 0#32
  let c0_3093 : Index := 0#32
  let arg2 : BitVec 32 := BitVec.ofNat 32 (i 2).val
  let c1_i32 : BitVec 32 := 1#32
  let v5324 : BitVec 32 := Scalar.addi arg2 c1_i32
  let c1_i32_3054 : BitVec 32 := 1#32
  let arg27 : BitVec 32 := Scf.iv v5324 c1_i32_3054 k0_t1
  let c512_i32_3087 : BitVec 32 := 512#32
  let v5361 : BitVec 32 := Scalar.muli arg27 c512_i32_3087
  let v5362 : BitVec 32 := v5361
  let v5369 : Index := Scalar.indexCast v5362
  ![0, 0, 0, v5369.toNat]
def k0_off7 (i : grid0.Coords) (k0_t1 : Fin (k0_t1_loop i).trips) : Fin 2 → Nat :=
  let arg2 : BitVec 32 := BitVec.ofNat 32 (i 2).val
  let c1_i32 : BitVec 32 := 1#32
  let v5324 : BitVec 32 := Scalar.addi arg2 c1_i32
  let c1_i32_3054 : BitVec 32 := 1#32
  let arg27 : BitVec 32 := Scf.iv v5324 c1_i32_3054 k0_t1
  let c512_i32_3087 : BitVec 32 := 512#32
  let v5361 : BitVec 32 := Scalar.muli arg27 c512_i32_3087
  let v5362 : BitVec 32 := v5361
  let c0_i32_6445 : BitVec 32 := 0#32
  let v10953 : BitVec 32 := Scalar.addi v5362 c0_i32_6445
  let v10954 : Index := Scalar.indexCast v10953
  let c0_6446 : Index := 0#32
  ![v10954.toNat, 0]
@[reducible] def k0_t2_loop (i : grid0.Coords) : Scf.Loop 32 :=
  let arg2 : BitVec 32 := BitVec.ofNat 32 (i 2).val
  let c1_i32 : BitVec 32 := 1#32
  let v5324 : BitVec 32 := Scalar.addi arg2 c1_i32
  let c4_i32 : BitVec 32 := 4#32
  let v5325 : BitVec 32 := Scalar.subi c4_i32 v5324
  let c1_i32_3053 : BitVec 32 := 1#32
  let v5327 : BitVec 32 := Scalar.divsi v5325 c1_i32_3053
  let v5328 : BitVec 32 := Scalar.muli v5327 c1_i32_3053
  let v5329 : BitVec 32 := Scalar.addi v5324 v5328
  let v5326 : BitVec 32 := Scalar.addi v5324 v5325
  let c1_i32_3055 : BitVec 32 := 1#32
  ⟨v5329, v5326, c1_i32_3055⟩
def k0_mult3 (i : grid0.Coords) (k0_t2 : Fin (k0_t2_loop i).trips) : BitVec 32 :=
  let arg2 : BitVec 32 := BitVec.ofNat 32 (i 2).val
  let c1_i32 : BitVec 32 := 1#32
  let v5324 : BitVec 32 := Scalar.addi arg2 c1_i32
  let c4_i32 : BitVec 32 := 4#32
  let v5325 : BitVec 32 := Scalar.subi c4_i32 v5324
  let c1_i32_3053 : BitVec 32 := 1#32
  let v5327 : BitVec 32 := Scalar.divsi v5325 c1_i32_3053
  let v5328 : BitVec 32 := Scalar.muli v5327 c1_i32_3053
  let v5329 : BitVec 32 := Scalar.addi v5324 v5328
  let c1_i32_3055 : BitVec 32 := 1#32
  let arg27 : BitVec 32 := Scf.iv v5329 c1_i32_3055 k0_t2
  let c512_i32_3087 : BitVec 32 := 512#32
  let v5361 : BitVec 32 := Scalar.muli arg27 c512_i32_3087
  v5361
def k0_off8 (i : grid0.Coords) (k0_t2 : Fin (k0_t2_loop i).trips) : Fin 2 → Nat :=
  let arg2 : BitVec 32 := BitVec.ofNat 32 (i 2).val
  let c1_i32 : BitVec 32 := 1#32
  let v5324 : BitVec 32 := Scalar.addi arg2 c1_i32
  let c4_i32 : BitVec 32 := 4#32
  let v5325 : BitVec 32 := Scalar.subi c4_i32 v5324
  let c1_i32_3053 : BitVec 32 := 1#32
  let v5327 : BitVec 32 := Scalar.divsi v5325 c1_i32_3053
  let v5328 : BitVec 32 := Scalar.muli v5327 c1_i32_3053
  let v5329 : BitVec 32 := Scalar.addi v5324 v5328
  let c1_i32_3055 : BitVec 32 := 1#32
  let arg27 : BitVec 32 := Scf.iv v5329 c1_i32_3055 k0_t2
  let c512_i32_3087 : BitVec 32 := 512#32
  let v5361 : BitVec 32 := Scalar.muli arg27 c512_i32_3087
  let v5362 : BitVec 32 := v5361
  let v5363 : Index := Scalar.indexCast v5362
  let c0_3088 : Index := 0#32
  ![v5363.toNat, 0]
def k0_off9 (i : grid0.Coords) (k0_t2 : Fin (k0_t2_loop i).trips) : Fin 4 → Nat :=
  let c0_3091 : Index := 0#32
  let c0_3092 : Index := 0#32
  let c0_3093 : Index := 0#32
  let arg2 : BitVec 32 := BitVec.ofNat 32 (i 2).val
  let c1_i32 : BitVec 32 := 1#32
  let v5324 : BitVec 32 := Scalar.addi arg2 c1_i32
  let c4_i32 : BitVec 32 := 4#32
  let v5325 : BitVec 32 := Scalar.subi c4_i32 v5324
  let c1_i32_3053 : BitVec 32 := 1#32
  let v5327 : BitVec 32 := Scalar.divsi v5325 c1_i32_3053
  let v5328 : BitVec 32 := Scalar.muli v5327 c1_i32_3053
  let v5329 : BitVec 32 := Scalar.addi v5324 v5328
  let c1_i32_3055 : BitVec 32 := 1#32
  let arg27 : BitVec 32 := Scf.iv v5329 c1_i32_3055 k0_t2
  let c512_i32_3087 : BitVec 32 := 512#32
  let v5361 : BitVec 32 := Scalar.muli arg27 c512_i32_3087
  let v5362 : BitVec 32 := v5361
  let v5369 : Index := Scalar.indexCast v5362
  ![0, 0, 0, v5369.toNat]
def k0_off10 (i : grid0.Coords) (k0_t2 : Fin (k0_t2_loop i).trips) : Fin 2 → Nat :=
  let arg2 : BitVec 32 := BitVec.ofNat 32 (i 2).val
  let c1_i32 : BitVec 32 := 1#32
  let v5324 : BitVec 32 := Scalar.addi arg2 c1_i32
  let c4_i32 : BitVec 32 := 4#32
  let v5325 : BitVec 32 := Scalar.subi c4_i32 v5324
  let c1_i32_3053 : BitVec 32 := 1#32
  let v5327 : BitVec 32 := Scalar.divsi v5325 c1_i32_3053
  let v5328 : BitVec 32 := Scalar.muli v5327 c1_i32_3053
  let v5329 : BitVec 32 := Scalar.addi v5324 v5328
  let c1_i32_3055 : BitVec 32 := 1#32
  let arg27 : BitVec 32 := Scf.iv v5329 c1_i32_3055 k0_t2
  let c512_i32_3087 : BitVec 32 := 512#32
  let v5361 : BitVec 32 := Scalar.muli arg27 c512_i32_3087
  let v5362 : BitVec 32 := v5361
  let c0_i32_6445 : BitVec 32 := 0#32
  let v10953 : BitVec 32 := Scalar.addi v5362 c0_i32_6445
  let v10954 : Index := Scalar.indexCast v10953
  let c0_6446 : Index := 0#32
  ![v10954.toNat, 0]
def k0_cond2 (i : grid0.Coords) : BitVec 1 :=
  let arg2 : BitVec 32 := BitVec.ofNat 32 (i 2).val
  let c3_i32 : BitVec 32 := 3#32
  let v5358 : BitVec 1 := Scalar.cmpi .eq arg2 c3_i32
  let v5359 : BitVec 32 := Scalar.extui v5358
  let c0_i32_3086 : BitVec 32 := 0#32
  let v5360 : BitVec 1 := Scalar.cmpi .ne v5359 c0_i32_3086
  v5360

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x2x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x2x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x2x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x2x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== WIn.lean ====
abbrev S4096x1024 : Shape := ⟨2, ![4096, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInIdeal.lean ====
abbrev S4096x1024 : Shape := ⟨2, ![4096, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WPe.lean ====
abbrev S4096x256 : Shape := ⟨2, ![4096, 256]⟩
abbrev S4096x1024 : Shape := ⟨2, ![4096, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WPeIdeal.lean ====
abbrev S4096x256 : Shape := ⟨2, ![4096, 256]⟩
abbrev S4096x1024 : Shape := ⟨2, ![4096, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WPeRefIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S4096x1024, .f32⟩
  | .hbm, ⟨6, _⟩ => ⟨S1024x256, .f32⟩
  | .hbm, ⟨7, _⟩ => ⟨S256x1024, .f32⟩
  | .hbm, ⟨8, _⟩ => ⟨S256x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WOut.lean ====
abbrev S4096x2048 : Shape := ⟨2, ![4096, 2048]⟩
abbrev S4096x1024 : Shape := ⟨2, ![4096, 1024]⟩
abbrev S2048x1024 : Shape := ⟨2, ![2048, 1024]⟩
abbrev S2048x512 : Shape := ⟨2, ![2048, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WOutIdeal.lean ====
abbrev S4096x2048 : Shape := ⟨2, ![4096, 2048]⟩
abbrev S4096x1024 : Shape := ⟨2, ![4096, 1024]⟩
abbrev S2048x1024 : Shape := ⟨2, ![2048, 1024]⟩
abbrev S2048x512 : Shape := ⟨2, ![2048, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WOutRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x2048, .f32⟩
  | .hbm, ⟨3, _⟩ => ⟨S_, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WF.lean ====
abbrev S4096x1024 : Shape := ⟨2, ![4096, 1024]⟩
abbrev S4096x128 : Shape := ⟨2, ![4096, 128]⟩
abbrev S1024x128 : Shape := ⟨2, ![1024, 128]⟩
abbrev S2048x512 : Shape := ⟨2, ![2048, 512]⟩
abbrev S2048x128 : Shape := ⟨2, ![2048, 128]⟩
abbrev S512x128 : Shape := ⟨2, ![512, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S1024x128, .bf16⟩
  | .local _ .vmem, ⟨0, _⟩ => ⟨S2048x512, .bf16⟩
  | .local _ .vmem, ⟨1, _⟩ => ⟨S2048x512, .bf16⟩
  | .local _ .vmem, ⟨2, _⟩ => ⟨S2048x128, .f32⟩
  | .local _ .vmem, ⟨3, _⟩ => ⟨S2048x128, .f32⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WFRefIdeal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S4096x1024, .f32⟩
  | .hbm, ⟨3, _⟩ => ⟨S_, .f32⟩
  | .hbm, ⟨4, _⟩ => ⟨S1024x128, .f32⟩
  | .hbm, ⟨5, _⟩ => ⟨S4096x128, .f32⟩
  | .hbm, ⟨6, _⟩ => ⟨S128x1024, .f32⟩
  | .hbm, ⟨7, _⟩ => ⟨S1024x128, .f32⟩
  | .hbm, ⟨8, _⟩ => ⟨S1024x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InProj.lean ====
abbrev S4096x1024 : Shape := ⟨2, ![4096, 1024]⟩
abbrev S4096x16 : Shape := ⟨2, ![4096, 16]⟩
abbrev S1024x6160 : Shape := ⟨2, ![1024, 6160]⟩
abbrev S1x1024 : Shape := ⟨2, ![1, 1024]⟩
abbrev S1024x4096 : Shape := ⟨2, ![1024, 4096]⟩
abbrev S1024x2048 : Shape := ⟨2, ![1024, 2048]⟩
abbrev S1024x6144 : Shape := ⟨2, ![1024, 6144]⟩
abbrev S1024x16 : Shape := ⟨2, ![1024, 16]⟩
abbrev S_ : Shape := ⟨0, ![]⟩
abbrev S1024x128 : Shape := ⟨2, ![1024, 128]⟩
abbrev S4096x128 : Shape := ⟨2, ![4096, 128]⟩
abbrev S512x1024 : Shape := ⟨2, ![512, 1024]⟩
abbrev S512x128 : Shape := ⟨2, ![512, 128]⟩
abbrev S1024x3072 : Shape := ⟨2, ![1024, 3072]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 23
  | .vmem => 26
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x16, .f32⟩
  | .hbm, ⟨5, _⟩ => ⟨S4096x1024, .bf16⟩
  | .hbm, ⟨6, _⟩ => ⟨S4096x1024, .bf16⟩
  | .hbm, ⟨7, _⟩ => ⟨S1024x6160, .bf16⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S1024x4096, .bf16⟩
  | .hbm, ⟨12, _⟩ => ⟨S1024x2048, .bf16⟩
  | .hbm, ⟨13, _⟩ => ⟨S1024x6144, .bf16⟩
  | .hbm, ⟨14, _⟩ => ⟨S1024x16, .bf16⟩
  | .hbm, ⟨15, _⟩ => ⟨S_, .i32⟩
  | .hbm, ⟨16, _⟩ => ⟨S_, .bf16⟩
  | .hbm, ⟨17, _⟩ => ⟨S1024x128, .bf16⟩
  | .hbm, ⟨18, _⟩ => ⟨S_, .i32⟩
  | .hbm, ⟨19, _⟩ => ⟨S_, .f32⟩
  | .hbm, ⟨20, _⟩ => ⟨S4096x128, .f32⟩
  | .hbm, ⟨21, _⟩ => ⟨S4096x1024, .f32⟩
  | .hbm, ⟨22, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x128, .f32⟩
  | .local _ .vmem, ⟨13, _⟩ => ⟨S512x128, .f32⟩
  | .local _ .vmem, ⟨14, _⟩ => ⟨S1024x3072, .bf16⟩
  | .local _ .vmem, ⟨15, _⟩ => ⟨S1024x3072, .bf16⟩
  | .local _ .vmem, ⟨16, _⟩ => ⟨S1024x128, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨2, ![8, 2], ![false, false]⟩

def k0_cond5 (i : grid0.Coords) : BitVec 1 :=
  let arg1 : BitVec 32 := BitVec.ofNat 32 (i 1).val
  let c1_i32_7 : BitVec 32 := 1#32
  let v14 : BitVec 1 := Scalar.cmpi .eq arg1 c1_i32_7
  let v15 : BitVec 32 := Scalar.extui v14
  let c0_i32_8 : BitVec 32 := 0#32
  let v16 : BitVec 1 := Scalar.cmpi .ne v15 c0_i32_8
  v16

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== InProjRefIdeal.lean ====
abbrev S4096x1024 : Shape := ⟨2, ![4096, 1024]⟩
abbrev S4096x16 : Shape := ⟨2, ![4096, 16]⟩
abbrev S1024x6160 : Shape := ⟨2, ![1024, 6160]⟩
abbrev S1x1024 : Shape := ⟨2, ![1, 1024]⟩
abbrev S4096x6160 : Shape := ⟨2, ![4096, 6160]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 64
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x16, .f32⟩
  | .hbm, ⟨5, _⟩ => ⟨S4096x1024, .bf16⟩
  | .hbm, ⟨6, _⟩ => ⟨S4096x1024, .bf16⟩
  | .hbm, ⟨7, _⟩ => ⟨S1024x6160, .bf16⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S1024x6160, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x6160, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x6160, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== OutGrad.lean ====
abbrev S4096x1024 : Shape := ⟨2, ![4096, 1024]⟩
abbrev S4096x256 : Shape := ⟨2, ![4096, 256]⟩
abbrev S2048x1024 : Shape := ⟨2, ![2048, 1024]⟩
abbrev S1024x1024 : Shape := ⟨2, ![1024, 1024]⟩
abbrev S256x1024 : Shape := ⟨2, ![256, 1024]⟩
abbrev S1x1024 : Shape := ⟨2, ![1, 1024]⟩
abbrev S4096x2048 : Shape := ⟨2, ![4096, 2048]⟩
abbrev S256x256 : Shape := ⟨2, ![256, 256]⟩
abbrev S256x2048 : Shape := ⟨2, ![256, 2048]⟩
abbrev S256 : Shape := ⟨1, ![256]⟩
abbrev S256x1 : Shape := ⟨2, ![256, 1]⟩
abbrev S1024 : Shape := ⟨1, ![1024]⟩
abbrev S1024x1 : Shape := ⟨2, ![1024, 1]⟩
abbrev S_ : Shape := ⟨0, ![]⟩
abbrev S128 : Shape := ⟨1, ![128]⟩
abbrev S1x128 : Shape := ⟨2, ![1, 128]⟩
abbrev S1024x128 : Shape := ⟨2, ![1024, 128]⟩
abbrev S4096x128 : Shape := ⟨2, ![4096, 128]⟩
abbrev S256x128 : Shape := ⟨2, ![256, 128]⟩

abbrev nBuf : Space → Nat
  | .hbm => 51
  | .vmem => 59
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S4096x256, .f32⟩
  | .hbm, ⟨6, _⟩ => ⟨S2048x1024, .bf16⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S4096x1024, .f32⟩
  | .hbm, ⟨15, _⟩ => ⟨S4096x2048, .bf16⟩
  | .hbm, ⟨16, _⟩ => ⟨S1024, .i32⟩
  | .hbm, ⟨17, _⟩ => ⟨S1024x1, .i32⟩
  | .hbm, ⟨18, _⟩ => ⟨S_, .i32⟩
  | .hbm, ⟨19, _⟩ => ⟨S_, .i32⟩
  | .hbm, ⟨20, _⟩ => ⟨S1024x1, .i32⟩
  | .hbm, ⟨21, _⟩ => ⟨S1024x1, .i32⟩
  | .hbm, ⟨22, _⟩ => ⟨S1024x1, .i32⟩
  | .hbm, ⟨23, _⟩ => ⟨S_, .i32⟩
  | .hbm, ⟨24, _⟩ => ⟨S1024x1, .i32⟩
  | .hbm, ⟨25, _⟩ => ⟨S1024x1, .i1⟩
  | .hbm, ⟨26, _⟩ => ⟨S1024x1, .i32⟩
  | .hbm, ⟨27, _⟩ => ⟨S1024x1, .i32⟩
  | .hbm, ⟨28, _⟩ => ⟨S_, .i32⟩
  | .hbm, ⟨29, _⟩ => ⟨S1024x1, .i32⟩
  | .hbm, ⟨30, _⟩ => ⟨S1024x1, .i1⟩
  | .hbm, ⟨31, _⟩ => ⟨S1024x1, .i1⟩
  | .hbm, ⟨32, _⟩ => ⟨S_, .i32⟩
  | .hbm, ⟨33, _⟩ => ⟨S1024x1, .i32⟩
  | .hbm, ⟨34, _⟩ => ⟨S1024x1, .i32⟩
  | .hbm, ⟨35, _⟩ => ⟨S1024x1, .i32⟩
  | .hbm, ⟨36, _⟩ => ⟨S128, .i32⟩
  | .hbm, ⟨37, _⟩ => ⟨S1x128, .i32⟩
  | .hbm, ⟨38, _⟩ => ⟨S1024x128, .i32⟩
  | .hbm, ⟨39, _⟩ => ⟨S1024x128, .i32⟩
  | .hbm, ⟨40, _⟩ => ⟨S1024x128, .i1⟩
  | .hbm, ⟨41, _⟩ => ⟨S1024x128, .bf16⟩
  | .hbm, ⟨42, _⟩ => ⟨S4096x1024, .f32⟩
  | .hbm, ⟨43, _⟩ => ⟨S4096x1024, .bf16⟩
  | .hbm, ⟨44, _⟩ => ⟨S4096x1024, .bf16⟩
  | .hbm, ⟨45, _⟩ => ⟨S4096x1024, .bf16⟩
  | .hbm, ⟨46, _⟩ => ⟨S4096x1024, .bf16⟩
  | .hbm, ⟨47, _⟩ => ⟨S4096x1024, .bf16⟩
  | .hbm, ⟨48, _⟩ => ⟨S4096x1024, .f32⟩
  | .hbm, ⟨49, _⟩ => ⟨S4096x128, .f32⟩
  | .hbm, ⟨50, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x256, .f32⟩
  | .local _ .vmem, ⟨9, _⟩ => ⟨S256x256, .f32⟩
  | .local _ .vmem, ⟨10, _⟩ => ⟨S2048x1024, .bf16⟩
  | .local _ .vmem, ⟨11, _⟩ => ⟨S1024x1024, .bf16⟩
  | .local _ .vmem, ⟨12, _⟩ => ⟨S256x1024, .bf16⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x2048, .bf16⟩
  | .local _ .vmem, ⟨25, _⟩ => ⟨S256x2048, .bf16⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S1024x1024, .bf16⟩
  | .local _ .vmem, ⟨39, _⟩ => ⟨S2048x1024, .bf16⟩
  | .local _ .vmem, ⟨40, _⟩ => ⟨S1x1024, .f32⟩
  | .local _ .vmem, ⟨41, _⟩ => ⟨S1024x128, .bf16⟩
  | .local _ .vmem, ⟨42, _⟩ => ⟨S256x1024, .f32⟩
  | .local _ .vmem, ⟨43, _⟩ => ⟨S256x1024, .f32⟩
  | .local _ .vmem, ⟨44, _⟩ => ⟨S256x1024, .bf16⟩
  | .local _ .vmem, ⟨45, _⟩ => ⟨S256x1024, .bf16⟩
  | .local _ .vmem, ⟨46, _⟩ => ⟨S256x1024, .bf16⟩
  | .local _ .vmem, ⟨47, _⟩ => ⟨S256x1024, .bf16⟩
  | .local _ .vmem, ⟨48, _⟩ => ⟨S256x1024, .bf16⟩
  | .local _ .vmem, ⟨49, _⟩ => ⟨S256x1024, .bf16⟩
  | .local _ .vmem, ⟨50, _⟩ => ⟨S256x1024, .bf16⟩
  | .local _ .vmem, ⟨51, _⟩ => ⟨S256x1024, .bf16⟩
  | .local _ .vmem, ⟨52, _⟩ => ⟨S256x1024, .bf16⟩
  | .local _ .vmem, ⟨53, _⟩ => ⟨S256x1024, .bf16⟩
  | .local _ .vmem, ⟨54, _⟩ => ⟨S256x1024, .f32⟩
  | .local _ .vmem, ⟨55, _⟩ => ⟨S256x1024, .f32⟩
  | .local _ .vmem, ⟨56, _⟩ => ⟨S256x128, .f32⟩
  | .local _ .vmem, ⟨57, _⟩ => ⟨S256x128, .f32⟩
  | .local _ .vmem, ⟨58, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10_0 : Ref sig .tc := ⟨.hbm, 42, rfl⟩
abbrev main_v10_1 : Ref sig .tc := ⟨.hbm, 43, rfl⟩
abbrev main_v10_2 : Ref sig .tc := ⟨.hbm, 44, rfl⟩
abbrev main_v10_3 : Ref sig .tc := ⟨.hbm, 45, rfl⟩
abbrev main_v10_4 : Ref sig .tc := ⟨.hbm, 46, rfl⟩
abbrev main_v10_5 : Ref sig .tc := ⟨.hbm, 47, rfl⟩
abbrev main_v10_6 : Ref sig .tc := ⟨.hbm, 48, rfl⟩
abbrev main_v10_7 : Ref sig .tc := ⟨.hbm, 49, rfl⟩
abbrev main_v10_8 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg3_1 : Ref sig .tc := ⟨.vmem, 33, rfl⟩
abbrev cc1_stg4_0 : Ref sig .tc := ⟨.vmem, 34, rfl⟩
abbrev cc1_stg4_1 : Ref sig .tc := ⟨.vmem, 35, rfl⟩
abbrev cc1_stg5_0 : Ref sig .tc := ⟨.vmem, 36, rfl⟩
abbrev cc1_stg5_1 : Ref sig .tc := ⟨.vmem, 37, rfl⟩
abbrev cc1_stg6_0 : Ref sig .tc := ⟨.vmem, 38, rfl⟩
abbrev cc1_stg7_0 : Ref sig .tc := ⟨.vmem, 39, rfl⟩
abbrev cc1_stg8_0 : Ref sig .tc := ⟨.vmem, 40, rfl⟩
abbrev cc1_stg9_0 : Ref sig .tc := ⟨.vmem, 41, rfl⟩
abbrev cc1_stg10_0 : Ref sig .tc := ⟨.vmem, 42, rfl⟩
abbrev cc1_stg10_1 : Ref sig .tc := ⟨.vmem, 43, rfl⟩
abbrev cc1_stg11_0 : Ref sig .tc := ⟨.vmem, 44, rfl⟩
abbrev cc1_stg11_1 : Ref sig .tc := ⟨.vmem, 45, rfl⟩
abbrev cc1_stg12_0 : Ref sig .tc := ⟨.vmem, 46, rfl⟩
abbrev cc1_stg12_1 : Ref sig .tc := ⟨.vmem, 47, rfl⟩
abbrev cc1_stg13_0 : Ref sig .tc := ⟨.vmem, 48, rfl⟩
abbrev cc1_stg13_1 : Ref sig .tc := ⟨.vmem, 49, rfl⟩
abbrev cc1_stg14_0 : Ref sig .tc := ⟨.vmem, 50, rfl⟩
abbrev cc1_stg14_1 : Ref sig .tc := ⟨.vmem, 51, rfl⟩
abbrev cc1_stg15_0 : Ref sig .tc := ⟨.vmem, 52, rfl⟩
abbrev cc1_stg15_1 : Ref sig .tc := ⟨.vmem, 53, rfl⟩
abbrev cc1_stg16_0 : Ref sig .tc := ⟨.vmem, 54, rfl⟩
abbrev cc1_stg16_1 : Ref sig .tc := ⟨.vmem, 55, rfl⟩
abbrev cc1_stg17_0 : Ref sig .tc := ⟨.vmem, 56, rfl⟩
abbrev cc1_stg17_1 : Ref sig .tc := ⟨.vmem, 57, rfl⟩
abbrev cc1_stg18_0 : Ref sig .tc := ⟨.vmem, 58, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem3_1 : DmaSem sig := 33
abbrev cc1_sem4_0 : DmaSem sig := 34
abbrev cc1_sem4_1 : DmaSem sig := 35
abbrev cc1_sem5_0 : DmaSem sig := 36
abbrev cc1_sem5_1 : DmaSem sig := 37
abbrev cc1_sem6_0 : DmaSem sig := 38
abbrev cc1_sem7_0 : DmaSem sig := 39
abbrev cc1_sem8_0 : DmaSem sig := 40
abbrev cc1_sem9_0 : DmaSem sig := 41
abbrev cc1_sem10_0 : DmaSem sig := 42
abbrev cc1_sem10_1 : DmaSem sig := 43
abbrev cc1_sem11_0 : DmaSem sig := 44
abbrev cc1_sem11_1 : DmaSem sig := 45
abbrev cc1_sem12_0 : DmaSem sig := 46
abbrev cc1_sem12_1 : DmaSem sig := 47
abbrev cc1_sem13_0 : DmaSem sig := 48
abbrev cc1_sem13_1 : DmaSem sig := 49
abbrev cc1_sem14_0 : DmaSem sig := 50
abbrev cc1_sem14_1 : DmaSem sig := 51
abbrev cc1_sem15_0 : DmaSem sig := 52
abbrev cc1_sem15_1 : DmaSem sig := 53
abbrev cc1_sem16_0 : DmaSem sig := 54
abbrev cc1_sem16_1 : DmaSem sig := 55
abbrev cc1_sem17_0 : DmaSem sig := 56
abbrev cc1_sem17_1 : DmaSem sig := 57
abbrev cc1_sem18_0 : DmaSem sig := 58

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2048x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S256x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x1024 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S256x1024 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S256x1024 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S256x1024 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S256x128 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 1 → Memref sig .tc .vmem S1x1024 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]
-- ==== OutGradRefIdeal.lean ====
abbrev S4096x1024 : Shape := ⟨2, ![4096, 1024]⟩
abbrev S4096x256 : Shape := ⟨2, ![4096, 256]⟩
abbrev S2048x1024 : Shape := ⟨2, ![2048, 1024]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S1024 : Shape := ⟨1, ![1024]⟩

abbrev nBuf : Space → Nat
  | .hbm => 110
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S4096x256, .f32⟩
  | .hbm, ⟨6, _⟩ => ⟨S2048x1024, .bf16⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S2048x1024, .f32⟩
  | .hbm, ⟨11, _⟩ => ⟨S1024x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x2048, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S256x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S4096x1024, .f32⟩
  | .hbm, ⟨80, _⟩ => ⟨S4096x1024, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x2048, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .bf16⟩
  | .hbm, ⟨97, _⟩ => ⟨S4096x1024, .f32⟩
  | .hbm, ⟨98, _⟩ => ⟨S4096x1024, .f32⟩
  | .hbm, ⟨99, _⟩ => ⟨S_, .f32⟩
  | .hbm, ⟨100, _⟩ => ⟨S4096x1024, .f32⟩
  | .hbm, ⟨101, _⟩ => ⟨S4096x1024, .f32⟩
  | .hbm, ⟨102, _⟩ => ⟨S_, .f32⟩
  | .hbm, ⟨103, _⟩ => ⟨S4096x1024, .f32⟩
  | .hbm, ⟨104, _⟩ => ⟨S4096x1024, .f32⟩
  | .hbm, ⟨105, _⟩ => ⟨S4096x2048, .bf16⟩
  | .hbm, ⟨106, _⟩ => ⟨S4096x1024, .bf16⟩
  | .hbm, ⟨107, _⟩ => ⟨S4096x1024, .bf16⟩
  | .hbm, ⟨108, _⟩ => ⟨S4096x1024, .bf16⟩
  | .hbm, ⟨109, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_v56 : Ref sig .tc := ⟨.hbm, 84, rfl⟩
abbrev main_cst_9 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_10 : Ref sig .tc := ⟨.hbm, 99, rfl⟩
abbrev main_v70 : Ref sig .tc := ⟨.hbm, 100, rfl⟩
abbrev main_v71 : Ref sig .tc := ⟨.hbm, 101, rfl⟩
abbrev main_cst_11 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩

abbrev nD : Nat := 1
abbrev τ : Topo := Topo.v7x

variable {F : FTy → Type} [FloatOps F]
-- ==== InFwd.lean ====
abbrev S4096x1024 : Shape := ⟨2, ![4096, 1024]⟩
abbrev S1x1024 : Shape := ⟨2, ![1, 1024]⟩
abbrev S1024x6160 : Shape := ⟨2, ![1024, 6160]⟩
abbrev S1024x4096 : Shape := ⟨2, ![1024, 4096]⟩
abbrev S1024x2048 : Shape := ⟨2, ![1024, 2048]⟩
abbrev S1024x6144 : Shape := ⟨2, ![1024, 6144]⟩
abbrev S1024x16 : Shape := ⟨2, ![1024, 16]⟩
abbrev S_ : Shape := ⟨0, ![]⟩
abbrev S1024x128 : Shape := ⟨2, ![1024, 128]⟩
abbrev S4096x128 : Shape := ⟨2, ![4096, 128]⟩
abbrev S512x1024 : Shape := ⟨2, ![512, 1024]⟩
abbrev S1024x3072 : Shape := ⟨2, ![1024, 3072]⟩
abbrev S512x128 : Shape := ⟨2, ![512, 128]⟩
abbrev S512 : Shape := ⟨1, ![512]⟩
abbrev S512x1 : Shape := ⟨2, ![512, 1]⟩
abbrev S512x3072 : Shape := ⟨2, ![512, 3072]⟩
abbrev S4096x16 : Shape := ⟨2, ![4096, 16]⟩

abbrev nBuf : Space → Nat
  | .hbm => 19
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6160, .bf16⟩
  | .hbm, ⟨3, _⟩ => ⟨S1024x4096, .bf16⟩
  | .hbm, ⟨4, _⟩ => ⟨S1024x2048, .bf16⟩
  | .hbm, ⟨5, _⟩ => ⟨S1024x6144, .bf16⟩
  | .hbm, ⟨6, _⟩ => ⟨S1024x16, .bf16⟩
  | .hbm, ⟨7, _⟩ => ⟨S_, .i32⟩
  | .hbm, ⟨8, _⟩ => ⟨S_, .bf16⟩
  | .hbm, ⟨9, _⟩ => ⟨S1024x128, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x128, .f32⟩
  | .hbm, ⟨17, _⟩ => ⟨S4096x1024, .bf16⟩
  | .hbm, ⟨18, _⟩ => ⟨S4096x16, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x3072, .bf16⟩
  | .local _ .vmem, ⟨5, _⟩ => ⟨S1024x128, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x128, .f32⟩
  | .local _ .vmem, ⟨19, _⟩ => ⟨S512x128, .f32⟩
  | .local _ .vmem, ⟨20, _⟩ => ⟨S512x1024, .bf16⟩
  | .local _ .vmem, ⟨21, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev main_v5_6 : Ref sig .tc := ⟨.hbm, 16, rfl⟩
abbrev main_v5_7 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c0_i32_4 : BitVec 32 := 0#32
  let v8 : BitVec 1 := Scalar.cmpi .eq arg1 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== InFwdRefIdeal.lean ====
abbrev S4096x1024 : Shape := ⟨2, ![4096, 1024]⟩
abbrev S1x1024 : Shape := ⟨2, ![1, 1024]⟩
abbrev S1024x6160 : Shape := ⟨2, ![1024, 6160]⟩
abbrev S_ : Shape := ⟨0, ![]⟩
abbrev S4096 : Shape := ⟨1, ![4096]⟩
abbrev S4096x1 : Shape := ⟨2, ![4096, 1]⟩
abbrev S4096x6160 : Shape := ⟨2, ![4096, 6160]⟩
abbrev S4096x16 : Shape := ⟨2, ![4096, 16]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6160, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x6160, .f32⟩
  | .hbm, ⟨19, _⟩ => ⟨S4096x6160, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x16, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S4096x1024, .bf16⟩
  | .hbm, ⟨29, _⟩ => ⟨S4096x1024, .bf16⟩
  | .hbm, ⟨30, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== PoolW.lean ====
abbrev S4096x1024 : Shape := ⟨2, ![4096, 1024]⟩
abbrev S4x256x256 : Shape := ⟨3, ![4, 256, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x256x256, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1x256x256, .f32⟩
  | .local _ .vmem, ⟨5, _⟩ => ⟨S1x256x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== PoolWRefIdeal.lean ====
abbrev S4096x1024 : Shape := ⟨2, ![4096, 1024]⟩
abbrev S_ : Shape := ⟨0, ![]⟩
abbrev S4x256x256 : Shape := ⟨3, ![4, 256, 256]⟩
abbrev S4096x4x256 : Shape := ⟨3, ![4096, 4, 256]⟩
abbrev S4x256x4096 : Shape := ⟨3, ![4, 256, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S4x256x256, .f32⟩
  | .hbm, ⟨4, _⟩ => ⟨S4096x1024, .f32⟩
  | .hbm, ⟨5, _⟩ => ⟨S4096x4x256, .f32⟩
  | .hbm, ⟨6, _⟩ => ⟨S4x256x4096, .f32⟩
  | .hbm, ⟨7, _⟩ => ⟨S4096x4x256, .f32⟩
  | .hbm, ⟨8, _⟩ => ⟨S4096x1024, .f32⟩
  | .hbm, ⟨9, _⟩ => ⟨S4096x1024, .f32⟩
  | .hbm, ⟨10, _⟩ => ⟨S4096x4x256, .f32⟩
  | .hbm, ⟨11, _⟩ => ⟨S4x256x4096, .f32⟩
  | .hbm, ⟨12, _⟩ => ⟨S4x256x256, .f32⟩
  | .hbm, ⟨13, _⟩ => ⟨S4x256x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== LossGrad.lean ====
abbrev S4096x1024 : Shape := ⟨2, ![4096, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S8x128, .f32⟩
  | .hbm, ⟨4, _⟩ => ⟨S1x1, .f32⟩
  | .hbm, ⟨5, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossGradRefIdeal.lean ====
abbrev S4096x1024 : Shape := ⟨2, ![4096, 1024]⟩
abbrev S_ : Shape := ⟨0, ![]⟩
abbrev S4096 : Shape := ⟨1, ![4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== AdamSmall.lean ====
abbrev S2x1024 : Shape := ⟨2, ![2, 1024]⟩
abbrev S2x16 : Shape := ⟨2, ![2, 16]⟩
abbrev S8x8x1024 : Shape := ⟨3, ![8, 8, 1024]⟩
abbrev S_ : Shape := ⟨0, ![]⟩
abbrev S8x1024 : Shape := ⟨2, ![8, 1024]⟩
abbrev S1x8x1024 : Shape := ⟨3, ![1, 8, 1024]⟩

abbrev nBuf : Space → Nat
  | .hbm => 72
  | .vmem => 8
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x16, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x16, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x16, .f32⟩
  | .hbm, ⟨12, _⟩ => ⟨S8x8x1024, .f32⟩
  | .hbm, ⟨13, _⟩ => ⟨S_, .i32⟩
  | .hbm, ⟨14, _⟩ => ⟨S_, .f32⟩
  | .hbm, ⟨15, _⟩ => ⟨S2x1024, .f32⟩
  | .hbm, ⟨16, _⟩ => ⟨S_, .i32⟩
  | .hbm, ⟨17, _⟩ => ⟨S_, .f32⟩
  | .hbm, ⟨18, _⟩ => ⟨S2x1024, .f32⟩
  | .hbm, ⟨19, _⟩ => ⟨S_, .i32⟩
  | .hbm, ⟨20, _⟩ => ⟨S_, .f32⟩
  | .hbm, ⟨21, _⟩ => ⟨S2x1024, .f32⟩
  | .hbm, ⟨22, _⟩ => ⟨S_, .i32⟩
  | .hbm, ⟨23, _⟩ => ⟨S_, .f32⟩
  | .hbm, ⟨24, _⟩ => ⟨S2x1024, .f32⟩
  | .hbm, ⟨25, _⟩ => ⟨S8x1024, .f32⟩
  | .hbm, ⟨26, _⟩ => ⟨S_, .i32⟩
  | .hbm, ⟨27, _⟩ => ⟨S_, .f32⟩
  | .hbm, ⟨28, _⟩ => ⟨S2x1024, .f32⟩
  | .hbm, ⟨29, _⟩ => ⟨S_, .i32⟩
  | .hbm, ⟨30, _⟩ => ⟨S_, .f32⟩
  | .hbm, ⟨31, _⟩ => ⟨S2x1024, .f32⟩
  | .hbm, ⟨32, _⟩ => ⟨S_, .i32⟩
  | .hbm, ⟨33, _⟩ => ⟨S_, .f32⟩
  | .hbm, ⟨34, _⟩ => ⟨S2x1024, .f32⟩
  | .hbm, ⟨35, _⟩ => ⟨S_, .i32⟩
  | .hbm, ⟨36, _⟩ => ⟨S_, .f32⟩
  | .hbm, ⟨37, _⟩ => ⟨S2x1024, .f32⟩
  | .hbm, ⟨38, _⟩ => ⟨S8x1024, .f32⟩
  | .hbm, ⟨39, _⟩ => ⟨S_, .i32⟩
  | .hbm, ⟨40, _⟩ => ⟨S_, .f32⟩
  | .hbm, ⟨41, _⟩ => ⟨S2x1024, .f32⟩
  | .hbm, ⟨42, _⟩ => ⟨S_, .i32⟩
  | .hbm, ⟨43, _⟩ => ⟨S_, .f32⟩
  | .hbm, ⟨44, _⟩ => ⟨S2x1024, .f32⟩
  | .hbm, ⟨45, _⟩ => ⟨S_, .i32⟩
  | .hbm, ⟨46, _⟩ => ⟨S_, .f32⟩
  | .hbm, ⟨47, _⟩ => ⟨S2x1024, .f32⟩
  | .hbm, ⟨48, _⟩ => ⟨S_, .i32⟩
  | .hbm, ⟨49, _⟩ => ⟨S_, .f32⟩
  | .hbm, ⟨50, _⟩ => ⟨S2x1024, .f32⟩
  | .hbm, ⟨51, _⟩ => ⟨S8x1024, .f32⟩
  | .hbm, ⟨52, _⟩ => ⟨S8x1024, .f32⟩
  | .hbm, ⟨53, _⟩ => ⟨S8x1024, .f32⟩
  | .hbm, ⟨54, _⟩ => ⟨S8x1024, .f32⟩
  | .hbm, ⟨55, _⟩ => ⟨S8x1024, .f32⟩
  | .hbm, ⟨56, _⟩ => ⟨S2x1024, .f32⟩
  | .hbm, ⟨57, _⟩ => ⟨S2x1024, .f32⟩
  | .hbm, ⟨58, _⟩ => ⟨S2x1024, .f32⟩
  | .hbm, ⟨59, _⟩ => ⟨S2x16, .f32⟩
  | .hbm, ⟨60, _⟩ => ⟨S2x1024, .f32⟩
  | .hbm, ⟨61, _⟩ => ⟨S2x1024, .f32⟩
  | .hbm, ⟨62, _⟩ => ⟨S2x1024, .f32⟩
  | .hbm, ⟨63, _⟩ => ⟨S2x16, .f32⟩
  | .hbm, ⟨64, _⟩ => ⟨S2x1024, .f32⟩
  | .hbm, ⟨65, _⟩ => ⟨S2x1024, .f32⟩
  | .hbm, ⟨66, _⟩ => ⟨S2x1024, .f32⟩
  | .hbm, ⟨67, _⟩ => ⟨S2x16, .f32⟩
  | .hbm, ⟨68, _⟩ => ⟨S2x1024, .f32⟩
  | .hbm, ⟨69, _⟩ => ⟨S2x1024, .f32⟩
  | .hbm, ⟨70, _⟩ => ⟨S2x1024, .f32⟩
  | .hbm, ⟨71, _⟩ => ⟨S2x16, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_c_0 : Ref sig .tc := ⟨.hbm, 16, rfl⟩
abbrev main_call1_v0 : Ref sig .tc := ⟨.hbm, 17, rfl⟩
abbrev main_v1 : Ref sig .tc := ⟨.hbm, 18, rfl⟩
abbrev main_c_1 : Ref sig .tc := ⟨.hbm, 19, rfl⟩
abbrev main_call2_v0 : Ref sig .tc := ⟨.hbm, 20, rfl⟩
abbrev main_v2 : Ref sig .tc := ⟨.hbm, 21, rfl⟩
abbrev main_c_2 : Ref sig .tc := ⟨.hbm, 22, rfl⟩
abbrev main_call3_v0 : Ref sig .tc := ⟨.hbm, 23, rfl⟩
abbrev main_v3 : Ref sig .tc := ⟨.hbm, 24, rfl⟩
abbrev main_v4 : Ref sig .tc := ⟨.hbm, 25, rfl⟩
abbrev main_c_3 : Ref sig .tc := ⟨.hbm, 26, rfl⟩
abbrev main_call4_v0 : Ref sig .tc := ⟨.hbm, 27, rfl⟩
abbrev main_v5 : Ref sig .tc := ⟨.hbm, 28, rfl⟩
abbrev main_c_4 : Ref sig .tc := ⟨.hbm, 29, rfl⟩
abbrev main_call5_v0 : Ref sig .tc := ⟨.hbm, 30, rfl⟩
abbrev main_v6 : Ref sig .tc := ⟨.hbm, 31, rfl⟩
abbrev main_c_5 : Ref sig .tc := ⟨.hbm, 32, rfl⟩
abbrev main_call6_v0 : Ref sig .tc := ⟨.hbm, 33, rfl⟩
abbrev main_v7 : Ref sig .tc := ⟨.hbm, 34, rfl⟩
abbrev main_c_6 : Ref sig .tc := ⟨.hbm, 35, rfl⟩
abbrev main_call7_v0 : Ref sig .tc := ⟨.hbm, 36, rfl⟩
abbrev main_v8 : Ref sig .tc := ⟨.hbm, 37, rfl⟩
abbrev main_v9 : Ref sig .tc := ⟨.hbm, 38, rfl⟩
abbrev main_c_7 : Ref sig .tc := ⟨.hbm, 39, rfl⟩
abbrev main_call8_v0 : Ref sig .tc := ⟨.hbm, 40, rfl⟩
abbrev main_v10 : Ref sig .tc := ⟨.hbm, 41, rfl⟩
abbrev main_c_8 : Ref sig .tc := ⟨.hbm, 42, rfl⟩
abbrev main_call9_v0 : Ref sig .tc := ⟨.hbm, 43, rfl⟩
abbrev main_v11 : Ref sig .tc := ⟨.hbm, 44, rfl⟩
abbrev main_c_9 : Ref sig .tc := ⟨.hbm, 45, rfl⟩
abbrev main_call10_v0 : Ref sig .tc := ⟨.hbm, 46, rfl⟩
abbrev main_v12 : Ref sig .tc := ⟨.hbm, 47, rfl⟩
abbrev main_c_10 : Ref sig .tc := ⟨.hbm, 48, rfl⟩
abbrev main_call11_v0 : Ref sig .tc := ⟨.hbm, 49, rfl⟩
abbrev main_v13 : Ref sig .tc := ⟨.hbm, 50, rfl⟩
abbrev main_v14 : Ref sig .tc := ⟨.hbm, 51, rfl⟩
abbrev main_v15_0 : Ref sig .tc := ⟨.hbm, 52, rfl⟩
abbrev main_v15_1 : Ref sig .tc := ⟨.hbm, 53, rfl⟩
abbrev main_v15_2 : Ref sig .tc := ⟨.hbm, 54, rfl⟩
abbrev main_v15_3 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== AdamSmallRefIdeal.lean ====
abbrev S2x1024 : Shape := ⟨2, ![2, 1024]⟩
abbrev S2x16 : Shape := ⟨2, ![2, 16]⟩
abbrev S8x8x1024 : Shape := ⟨3, ![8, 8, 1024]⟩
abbrev S_ : Shape := ⟨0, ![]⟩
abbrev S8x1024 : Shape := ⟨2, ![8, 1024]⟩

abbrev nBuf : Space → Nat
  | .hbm => 151
  | .vmem => 0
  | .smem => 0
  | _ => 0

abbrev hbmTy0_0 (i : Nat) : BufTy := match i % 128 with
  | 0 => ⟨S2x1024, .f32⟩
  | 1 => ⟨S2x1024, .f32⟩
  | 2 => ⟨S2x1024, .f32⟩
  | 3 => ⟨S2x16, .f32⟩
  | 4 => ⟨S2x1024, .f32⟩
  | 5 => ⟨S2x1024, .f32⟩
  | 6 => ⟨S2x1024, .f32⟩
  | 7 => ⟨S2x16, .f32⟩
  | 8 => ⟨S2x1024, .f32⟩
  | 9 => ⟨S2x1024, .f32⟩
  | 10 => ⟨S2x1024, .f32⟩
  | 11 => ⟨S2x16, .f32⟩
  | 12 => ⟨S8x8x1024, .f32⟩
  | 13 => ⟨S_, .f32⟩
  | 14 => ⟨S8x1024, .f32⟩
  | 15 => ⟨S2x1024, .f32⟩
  | 16 => ⟨S2x1024, .f32⟩
  | 17 => ⟨S2x1024, .f32⟩
  | 18 => ⟨S2x16, .f32⟩
  | 19 => ⟨S_, .f32⟩
  | 20 => ⟨S2x1024, .f32⟩
  | 21 => ⟨S2x1024, .f32⟩
  | 22 => ⟨S_, .f32⟩
  | 23 => ⟨S2x1024, .f32⟩
  | 24 => ⟨S2x1024, .f32⟩
  | 25 => ⟨S2x1024, .f32⟩
  | 26 => ⟨S_, .f32⟩
  | 27 => ⟨S2x1024, .f32⟩
  | 28 => ⟨S2x1024, .f32⟩
  | 29 => ⟨S2x1024, .f32⟩
  | 30 => ⟨S_, .f32⟩
  | 31 => ⟨S2x1024, .f32⟩
  | 32 => ⟨S2x1024, .f32⟩
  | 33 => ⟨S2x1024, .f32⟩
  | 34 => ⟨S_, .f32⟩
  | 35 => ⟨S2x1024, .f32⟩
  | 36 => ⟨S2x1024, .f32⟩
  | 37 => ⟨S_, .f32⟩
  | 38 => ⟨S2x1024, .f32⟩
  | 39 => ⟨S2x1024, .f32⟩
  | 40 => ⟨S2x1024, .f32⟩
  | 41 => ⟨S_, .f32⟩
  | 42 => ⟨S2x1024, .f32⟩
  | 43 => ⟨S2x1024, .f32⟩
  | 44 => ⟨S2x1024, .f32⟩
  | 45 => ⟨S_, .f32⟩
  | 46 => ⟨S2x1024, .f32⟩
  | 47 => ⟨S2x1024, .f32⟩
  | 48 => ⟨S2x1024, .f32⟩
  | 49 => ⟨S_, .f32⟩
  | 50 => ⟨S2x1024, .f32⟩
  | 51 => ⟨S2x1024, .f32⟩
  | 52 => ⟨S_, .f32⟩
  | 53 => ⟨S2x1024, .f32⟩
  | 54 => ⟨S2x1024, .f32⟩
  | 55 => ⟨S_, .f32⟩
  | 56 => ⟨S2x1024, .f32⟩
  | 57 => ⟨S2x1024, .f32⟩
  | 58 => ⟨S2x1024, .f32⟩
  | 59 => ⟨S_, .f32⟩
  | 60 => ⟨S2x1024, .f32⟩
  | 61 => ⟨S2x1024, .f32⟩
  | 62 => ⟨S2x1024, .f32⟩
  | 63 => ⟨S_, .f32⟩
  | 64 => ⟨S2x1024, .f32⟩
  | 65 => ⟨S2x1024, .f32⟩
  | 66 => ⟨S2x1024, .f32⟩
  | 67 => ⟨S_, .f32⟩
  | 68 => ⟨S2x1024, .f32⟩
  | 69 => ⟨S2x1024, .f32⟩
  | 70 => ⟨S_, .f32⟩
  | 71 => ⟨S2x1024, .f32⟩
  | 72 => ⟨S2x1024, .f32⟩
  | 73 => ⟨S2x1024, .f32⟩
  | 74 => ⟨S_, .f32⟩
  | 75 => ⟨S2x1024, .f32⟩
  | 76 => ⟨S2x1024, .f32⟩
  | 77 => ⟨S2x1024, .f32⟩
  | 78 => ⟨S_, .f32⟩
  | 79 => ⟨S2x1024, .f32⟩
  | 80 => ⟨S2x1024, .f32⟩
  | 81 => ⟨S2x1024, .f32⟩
  | 82 => ⟨S_, .f32⟩
  | 83 => ⟨S2x1024, .f32⟩
  | 84 => ⟨S2x1024, .f32⟩
  | 85 => ⟨S_, .f32⟩
  | 86 => ⟨S2x1024, .f32⟩
  | 87 => ⟨S2x1024, .f32⟩
  | 88 => ⟨S_, .f32⟩
  | 89 => ⟨S2x1024, .f32⟩
  | 90 => ⟨S2x1024, .f32⟩
  | 91 => ⟨S2x1024, .f32⟩
  | 92 => ⟨S_, .f32⟩
  | 93 => ⟨S2x1024, .f32⟩
  | 94 => ⟨S2x1024, .f32⟩
  | 95 => ⟨S2x1024, .f32⟩
  | 96 => ⟨S_, .f32⟩
  | 97 => ⟨S2x1024, .f32⟩
  | 98 => ⟨S2x1024, .f32⟩
  | 99 => ⟨S2x1024, .f32⟩
  | 100 => ⟨S_, .f32⟩
  | 101 => ⟨S2x1024, .f32⟩
  | 102 => ⟨S2x1024, .f32⟩
  | 103 => ⟨S_, .f32⟩
  | 104 => ⟨S2x1024, .f32⟩
  | 105 => ⟨S2x1024, .f32⟩
  | 106 => ⟨S2x1024, .f32⟩
  | 107 => ⟨S_, .f32⟩
  | 108 => ⟨S2x1024, .f32⟩
  | 109 => ⟨S2x1024, .f32⟩
  | 110 => ⟨S2x1024, .f32⟩
  | 111 => ⟨S_, .f32⟩
  | 112 => ⟨S2x1024, .f32⟩
  | 113 => ⟨S2x1024, .f32⟩
  | 114 => ⟨S2x1024, .f32⟩
  | 115 => ⟨S_, .f32⟩
  | 116 => ⟨S2x1024, .f32⟩
  | 117 => ⟨S2x1024, .f32⟩
  | 118 => ⟨S_, .f32⟩
  | 119 => ⟨S2x16, .f32⟩
  | 120 => ⟨S2x16, .f32⟩
  | 121 => ⟨S_, .f32⟩
  | 122 => ⟨S2x16, .f32⟩
  | 123 => ⟨S2x16, .f32⟩
  | 124 => ⟨S2x16, .f32⟩
  | 125 => ⟨S_, .f32⟩
  | 126 => ⟨S2x16, .f32⟩
  | 127 => ⟨S2x16, .f32⟩
  | _ => ⟨S2x1024, .f32⟩

abbrev hbmTy0_1 (i : Nat) : BufTy := match i % 128 with
  | 0 => ⟨S2x16, .f32⟩
  | 1 => ⟨S_, .f32⟩
  | 2 => ⟨S2x16, .f32⟩
  | 3 => ⟨S2x16, .f32⟩
  | 4 => ⟨S2x16, .f32⟩
  | 5 => ⟨S_, .f32⟩
  | 6 => ⟨S2x16, .f32⟩
  | 7 => ⟨S2x16, .f32⟩
  | 8 => ⟨S_, .f32⟩
  | 9 => ⟨S2x16, .f32⟩
  | 10 => ⟨S2x16, .f32⟩
  | 11 => ⟨S2x16, .f32⟩
  | 12 => ⟨S_, .f32⟩
  | 13 => ⟨S2x16, .f32⟩
  | 14 => ⟨S2x16, .f32⟩
  | 15 => ⟨S2x16, .f32⟩
  | 16 => ⟨S_, .f32⟩
  | 17 => ⟨S2x16, .f32⟩
  | 18 => ⟨S2x16, .f32⟩
  | 19 => ⟨S2x16, .f32⟩
  | 20 => ⟨S_, .f32⟩
  | 21 => ⟨S2x16, .f32⟩
  | 22 => ⟨S2x16, .f32⟩
  | _ => ⟨S2x1024, .f32⟩

abbrev hbmTy (i : Nat) : BufTy := match i / 128 with
  | 0 => hbmTy0_0 i
  | 1 => hbmTy0_1 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_cst_5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_6 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_7 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_8 : Ref sig .tc := ⟨.hbm, 49, rfl⟩
abbrev main_v27 : Ref sig .tc := ⟨.hbm, 50, rfl⟩
abbrev main_v28 : Ref sig .tc := ⟨.hbm, 51, rfl⟩
abbrev main_cst_9 : Ref sig .tc := ⟨.hbm, 52, rfl⟩
abbrev main_v29 : Ref sig .tc := ⟨.hbm, 53, rfl⟩
abbrev main_v30 : Ref sig .tc := ⟨.hbm, 54, rfl⟩
abbrev main_cst_10 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_11 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_12 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_13 : Ref sig .tc := ⟨.hbm, 67, rfl⟩
abbrev main_v40 : Ref sig .tc := ⟨.hbm, 68, rfl⟩
abbrev main_v41 : Ref sig .tc := ⟨.hbm, 69, rfl⟩
abbrev main_cst_14 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_15 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_16 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_17 : Ref sig .tc := ⟨.hbm, 82, rfl⟩
abbrev main_v51 : Ref sig .tc := ⟨.hbm, 83, rfl⟩
abbrev main_v52 : Ref sig .tc := ⟨.hbm, 84, rfl⟩
abbrev main_cst_18 : Ref sig .tc := ⟨.hbm, 85, rfl⟩
abbrev main_v53 : Ref sig .tc := ⟨.hbm, 86, rfl⟩
abbrev main_v54 : Ref sig .tc := ⟨.hbm, 87, rfl⟩
abbrev main_cst_19 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_20 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_21 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_22 : Ref sig .tc := ⟨.hbm, 100, rfl⟩
abbrev main_v64 : Ref sig .tc := ⟨.hbm, 101, rfl⟩
abbrev main_v65 : Ref sig .tc := ⟨.hbm, 102, rfl⟩
abbrev main_cst_23 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_24 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_25 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_26 : Ref sig .tc := ⟨.hbm, 115, rfl⟩
abbrev main_v75 : Ref sig .tc := ⟨.hbm, 116, rfl⟩
abbrev main_v76 : Ref sig .tc := ⟨.hbm, 117, rfl⟩
abbrev main_cst_27 : Ref sig .tc := ⟨.hbm, 118, rfl⟩
abbrev main_v77 : Ref sig .tc := ⟨.hbm, 119, rfl⟩
abbrev main_v78 : Ref sig .tc := ⟨.hbm, 120, rfl⟩
abbrev main_cst_28 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_29 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_30 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_31 : Ref sig .tc := ⟨.hbm, 133, rfl⟩
abbrev main_v88 : Ref sig .tc := ⟨.hbm, 134, rfl⟩
abbrev main_v89 : Ref sig .tc := ⟨.hbm, 135, rfl⟩
abbrev main_cst_32 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_33 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_34 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_35 : Ref sig .tc := ⟨.hbm, 148, rfl⟩
abbrev main_v99 : Ref sig .tc := ⟨.hbm, 149, rfl⟩
abbrev main_v100 : Ref sig .tc := ⟨.hbm, 150, rfl⟩

abbrev nD : Nat := 1
abbrev τ : Topo := Topo.v7x

variable {F : FTy → Type} [FloatOps F]
-- ==== Proof.AttnBody.lean ====
/-
  The attention backward kernel's body, run once for any values `F`. From the inputs' staging memrefs held at given contents,
  and the result memrefs and the scratch at anything, the body runs to its return: it hands back the inputs as they were and
  the results and the scratch at some contents. One trip of the counted loop over the query blocks past the diagonal is
  run once, for every trip; the remainder loop behind it makes no trip. What the body computes is not said here.
-/
module

public import proofs.«01_k».proof.Proof.Gen.KernelIdeal.Frame
public import proofs.«01_k».proof.Proof.Gen.KernelIdeal.Loops
public import Idealize.ShloMosaic.Lib.Pipeline.Frame
public import Idealize.ShloMosaic.Lib.Tactic
public import Idealize.ShloMosaic.Lib.LoopRemainder

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of a memref's buffer on core `c`. -/
abbrev Bf (c : Dev nD) {sp : Space} {S : Shape} {e : EltTy} (M : Memref sig .tc sp S e) : Type := Buf (Elt F) (M.view.loc (c : Thread nD τ))

/-- A memref's buffer on core `c` held whole at `f`. -/
abbrev pt (c : Dev nD) {sp : Space} {S : Shape} {e : EltTy} (M : Memref sig .tc sp S e) (f : Bf (F := F) c M) : sProp 𝕄 :=
  M.view.loc (c : Thread nD τ) ↦{fullShare} f

/-- The loop over the query blocks past the diagonal: before and after every trip the four inputs it reads are held as they
    were, and the scratch (the masked operands, the tiles, the sums) at some contents. -/
@[sl_loop] def loopInv_t1 (c : Dev nD) (i : grid0.Coords)
    (arg3 : Memref sig .tc .vmem S2048x128 .bf16) (harg3 : arg3.IsWhole) (arg4 : Memref sig .tc .vmem S2048x128 .bf16) (harg4 : arg4.IsWhole)
    (arg5 : Memref sig .tc .vmem S512x128 .bf16) (harg5 : arg5.IsWhole) (arg6 : Memref sig .tc .vmem S512x128 .bf16) (harg6 : arg6.IsWhole)
    (arg7 : Memref sig .tc .vmem S1x1x2x512 .f32) (harg7 : arg7.IsWhole) (arg8 : Memref sig .tc .vmem S1x1x2x2048 .f32) (harg8 : arg8.IsWhole)
    (arg9 : Memref sig .tc .vmem S1x1x2x2048 .f32) (harg9 : arg9.IsWhole) (arg10 : Memref sig .tc .vmem S2048x128 .bf16) (harg10 : arg10.IsWhole)
    (arg11 : Memref sig .tc .vmem S512x128 .bf16) (harg11 : arg11.IsWhole) (arg12 : Memref sig .tc .vmem S512x128 .bf16) (harg12 : arg12.IsWhole)
    (arg13 : Memref sig .tc .vmem S1x1x2x512 .f32) (harg13 : arg13.IsWhole) (arg14 : Memref sig .tc .vmem S1x1x2x2048 .f32) (harg14 : arg14.IsWhole)
    (arg15 : Memref sig .tc .vmem S2x512x128 .bf16) (harg15 : arg15.IsWhole) (arg16 : Memref sig .tc .vmem S2x512x128 .bf16) (harg16 : arg16.IsWhole)
    (arg17 : Memref sig .tc .vmem S2x512x128 .bf16) (harg17 : arg17.IsWhole) (arg18 : Memref sig .tc .vmem S2x512x128 .f32) (harg18 : arg18.IsWhole)
    (arg19 : Memref sig .tc .vmem S2x512x512 .f32) (harg19 : arg19.IsWhole) (arg20 : Memref sig .tc .vmem S2x512x512 .f32) (harg20 : arg20.IsWhole)
    (arg21 : Memref sig .tc .vmem S2x512x512 .bf16) (harg21 : arg21.IsWhole) (arg22 : Memref sig .tc .vmem S2x512x512 .bf16) (harg22 : arg22.IsWhole)
    (arg23 : Memref sig .tc .vmem S2x512x128 .f32) (harg23 : arg23.IsWhole) (arg24 : Memref sig .tc .vmem S2x512x128 .f32) (harg24 : arg24.IsWhole)
    (arg25 : Memref sig .tc .vmem S2048x128 .f32) (harg25 : arg25.IsWhole) (arg26 : Memref sig .tc .vmem S2048x128 .f32) (harg26 : arg26.IsWhole)
    (arg2 : BitVec 32) (v5 : IVec S512x128 1) (v61 : BitVec 32) (v4348 : FVec F S256x128 .f32) (v5324 : BitVec 32)
    (f3 : Bf (F := F) c arg3) (f4 : Bf (F := F) c arg4) (f8 : Bf (F := F) c arg8) (f9 : Bf (F := F) c arg9) :
    Gen.LoopInvTy_k0_t1 (F := F) Unit ℕ (UR sig nD τ) ℕ Variants.none c none Set.univ
      i arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20
      arg21 harg21 arg22 harg22 arg23 harg23 arg24 harg24 arg25 harg25 arg26 harg26 arg2 v5 v61 v4348 v5324 where
  inv := fun _ _ => iprop(pt c arg3 f3 ∗ pt c arg4 f4 ∗ pt c arg8 f8 ∗ pt c arg9 f9
      ∗ (∃ f, pt c arg15 f) ∗ (∃ f, pt c arg16 f) ∗ (∃ f, pt c arg17 f) ∗ (∃ f, pt c arg18 f)
      ∗ (∃ f, pt c arg19 f) ∗ (∃ f, pt c arg20 f) ∗ (∃ f, pt c arg21 f) ∗ (∃ f, pt c arg22 f) ∗ (∃ f, pt c arg23 f) ∗
      (∃ f, pt c arg24 f) ∗ (∃ f, pt c arg25 f) ∗ (∃ f, pt c arg26 f))
  step := fun k acc => by
    unfold Gen.k0_t1_body
    iintro ⟨H3, H4, H8, H9, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩⟩
    sl_exec_parts
    sl_step
    isplitl [H3]; · iexact H3
    isplitl [H4]; · iexact H4
    isplitl [H8]; · iexact H8
    isplitl [H9]; · iexact H9
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact H26

/-- The first stretch of the body (the sums zeroed at the first key block, the masked halves of the keys and values stored),
    whichever way its condition goes: the two inputs it reads as they were, the scratch it writes at some contents. -/
theorem part324_run (c : Dev nD) (i : grid0.Coords)
    (arg3 : Memref sig .tc .vmem S2048x128 .bf16) (harg3 : arg3.IsWhole) (arg4 : Memref sig .tc .vmem S2048x128 .bf16) (harg4 : arg4.IsWhole)
    (arg5 : Memref sig .tc .vmem S512x128 .bf16) (harg5 : arg5.IsWhole) (arg6 : Memref sig .tc .vmem S512x128 .bf16) (harg6 : arg6.IsWhole)
    (arg7 : Memref sig .tc .vmem S1x1x2x512 .f32) (harg7 : arg7.IsWhole) (arg8 : Memref sig .tc .vmem S1x1x2x2048 .f32) (harg8 : arg8.IsWhole)
    (arg9 : Memref sig .tc .vmem S1x1x2x2048 .f32) (harg9 : arg9.IsWhole) (arg10 : Memref sig .tc .vmem S2048x128 .bf16) (harg10 : arg10.IsWhole)
    (arg11 : Memref sig .tc .vmem S512x128 .bf16) (harg11 : arg11.IsWhole) (arg12 : Memref sig .tc .vmem S512x128 .bf16) (harg12 : arg12.IsWhole)
    (arg13 : Memref sig .tc .vmem S1x1x2x512 .f32) (harg13 : arg13.IsWhole) (arg14 : Memref sig .tc .vmem S1x1x2x2048 .f32) (harg14 : arg14.IsWhole)
    (arg15 : Memref sig .tc .vmem S2x512x128 .bf16) (harg15 : arg15.IsWhole) (arg16 : Memref sig .tc .vmem S2x512x128 .bf16) (harg16 : arg16.IsWhole)
    (arg17 : Memref sig .tc .vmem S2x512x128 .bf16) (harg17 : arg17.IsWhole) (arg18 : Memref sig .tc .vmem S2x512x128 .f32) (harg18 : arg18.IsWhole)
    (arg19 : Memref sig .tc .vmem S2x512x512 .f32) (harg19 : arg19.IsWhole) (arg20 : Memref sig .tc .vmem S2x512x512 .f32) (harg20 : arg20.IsWhole)
    (arg21 : Memref sig .tc .vmem S2x512x512 .bf16) (harg21 : arg21.IsWhole) (arg22 : Memref sig .tc .vmem S2x512x512 .bf16) (harg22 : arg22.IsWhole)
    (arg23 : Memref sig .tc .vmem S2x512x128 .f32) (harg23 : arg23.IsWhole) (arg24 : Memref sig .tc .vmem S2x512x128 .f32) (harg24 : arg24.IsWhole)
    (arg25 : Memref sig .tc .vmem S2048x128 .f32) (harg25 : arg25.IsWhole) (arg26 : Memref sig .tc .vmem S2048x128 .f32) (harg26 : arg26.IsWhole)
    (f5 : Bf (F := F) c arg5) (f6 : Bf (F := F) c arg6) :
    iprop(pt c arg5 f5 ∗ pt c arg6 f6 ∗ (∃ f, pt c arg15 f) ∗ (∃ f, pt c arg16 f) ∗ (∃ f, pt c arg17 f) ∗ (∃ f, pt c arg25 f) ∗ (∃ f, pt c arg26 f))
      ⊢ wp frame (wpE (defs₀ (F := F)) Variants.none c none) Set.univ
        (k0_part324
          i arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19
          arg20 harg20 arg21 harg21 arg22 harg22 arg23 harg23 arg24 harg24 arg25 harg25 arg26 harg26)
        (fun _ => iprop(pt c arg5 f5 ∗ pt c arg6 f6 ∗ (∃ f, pt c arg15 f) ∗ (∃ f, pt c arg16 f) ∗ (∃ f, pt c arg17 f) ∗ (∃ f, pt c arg25 f) ∗ (∃ f, pt c arg26 f))) := by
  iintro ⟨H5, H6, ⟨%f15, H15⟩, ⟨%f16, H16⟩, ⟨%f17, H17⟩, ⟨%f25, H25⟩, ⟨%f26, H26⟩⟩
  by_cases hz : Scalar.cmpi .ne (Scalar.extui (Scalar.cmpi .eq (BitVec.ofNat 32 (i 2).val) 0#32) : BitVec 32) 0#32 = 1#1
  all_goals
    sl_unfold [k0_part324]
    sl_exec
    sl_step
    isplitl [H5]; · iexact H5
    isplitl [H6]; · iexact H6
    isplitl [H15]; · iexists _; iexact H15
    isplitl [H16]; · iexists _; iexact H16
    isplitl [H17]; · iexists _; iexact H17
    isplitl [H25]; · iexists _; iexact H25
    iexists _; iexact H26

/-- The body, for any continuation: from the inputs at given contents and everything it writes at anything it runs to its
    return, the inputs as they were, the results and the scratch at some contents. -/
theorem kernelRun (c : Dev nD) (i : grid0.Coords)
    (arg3 : Memref sig .tc .vmem S2048x128 .bf16) (harg3 : arg3.IsWhole) (arg4 : Memref sig .tc .vmem S2048x128 .bf16) (harg4 : arg4.IsWhole)
    (arg5 : Memref sig .tc .vmem S512x128 .bf16) (harg5 : arg5.IsWhole) (arg6 : Memref sig .tc .vmem S512x128 .bf16) (harg6 : arg6.IsWhole)
    (arg7 : Memref sig .tc .vmem S1x1x2x512 .f32) (harg7 : arg7.IsWhole) (arg8 : Memref sig .tc .vmem S1x1x2x2048 .f32) (harg8 : arg8.IsWhole)
    (arg9 : Memref sig .tc .vmem S1x1x2x2048 .f32) (harg9 : arg9.IsWhole) (arg10 : Memref sig .tc .vmem S2048x128 .bf16) (harg10 : arg10.IsWhole)
    (arg11 : Memref sig .tc .vmem S512x128 .bf16) (harg11 : arg11.IsWhole) (arg12 : Memref sig .tc .vmem S512x128 .bf16) (harg12 : arg12.IsWhole)
    (arg13 : Memref sig .tc .vmem S1x1x2x512 .f32) (harg13 : arg13.IsWhole) (arg14 : Memref sig .tc .vmem S1x1x2x2048 .f32) (harg14 : arg14.IsWhole)
    (arg15 : Memref sig .tc .vmem S2x512x128 .bf16) (harg15 : arg15.IsWhole) (arg16 : Memref sig .tc .vmem S2x512x128 .bf16) (harg16 : arg16.IsWhole)
    (arg17 : Memref sig .tc .vmem S2x512x128 .bf16) (harg17 : arg17.IsWhole) (arg18 : Memref sig .tc .vmem S2x512x128 .f32) (harg18 : arg18.IsWhole)
    (arg19 : Memref sig .tc .vmem S2x512x512 .f32) (harg19 : arg19.IsWhole) (arg20 : Memref sig .tc .vmem S2x512x512 .f32) (harg20 : arg20.IsWhole)
    (arg21 : Memref sig .tc .vmem S2x512x512 .bf16) (harg21 : arg21.IsWhole) (arg22 : Memref sig .tc .vmem S2x512x512 .bf16) (harg22 : arg22.IsWhole)
    (arg23 : Memref sig .tc .vmem S2x512x128 .f32) (harg23 : arg23.IsWhole) (arg24 : Memref sig .tc .vmem S2x512x128 .f32) (harg24 : arg24.IsWhole)
    (arg25 : Memref sig .tc .vmem S2048x128 .f32) (harg25 : arg25.IsWhole) (arg26 : Memref sig .tc .vmem S2048x128 .f32) (harg26 : arg26.IsWhole)
    (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9)
    (K : PUnit → sProp 𝕄) :
    iprop(pt c arg3 f3 ∗ pt c arg4 f4 ∗ pt c arg5 f5 ∗ pt c arg6 f6 ∗ pt c arg7 f7 ∗ pt c arg8 f8 ∗ pt c arg9 f9
        ∗ (∃ f, pt c arg10 f) ∗ (∃ f, pt c arg11 f) ∗ (∃ f, pt c arg12 f) ∗ (∃ f, pt c arg13 f) ∗ (∃ f, pt c arg14 f)
        ∗ (∃ f, pt c arg15 f) ∗ (∃ f, pt c arg16 f) ∗ (∃ f, pt c arg17 f) ∗ (∃ f, pt c arg18 f) ∗ (∃ f, pt c arg19 f)
        ∗ (∃ f, pt c arg20 f) ∗ (∃ f, pt c arg21 f) ∗ (∃ f, pt c arg22 f) ∗ (∃ f, pt c arg23 f) ∗ (∃ f, pt c arg24 f)
        ∗ (∃ f, pt c arg25 f) ∗ (∃ f, pt c arg26 f)
        ∗ (iprop(pt c arg3 f3 ∗ pt c arg4 f4 ∗ pt c arg5 f5 ∗ pt c arg6 f6 ∗ pt c arg7 f7 ∗ pt c arg8 f8 ∗ pt c arg9 f9
              ∗ (∃ f, pt c arg10 f) ∗ (∃ f, pt c arg11 f) ∗ (∃ f, pt c arg12 f) ∗ (∃ f, pt c arg13 f) ∗ (∃ f, pt c
              arg14 f)
              ∗ (∃ f, pt c arg15 f) ∗ (∃ f, pt c arg16 f) ∗ (∃ f, pt c arg17 f) ∗ (∃ f, pt c arg18 f) ∗ (∃ f, pt c
              arg19 f) ∗ (∃ f, pt c arg20 f) ∗ (∃ f, pt c arg21 f) ∗ (∃ f, pt c arg22 f) ∗ (∃ f, pt c arg23 f) ∗ (∃ f,
              pt c arg24 f) ∗ (∃ f, pt c arg25 f) ∗ (∃ f, pt c arg26 f)) -∗ K ⟨⟩))
      ⊢ wp frame (wpE (defs₀ (F := F)) Variants.none c none) Set.univ
        (cc0_attn_bwd
          i arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19
          arg20 harg20 arg21 harg21 arg22 harg22 arg23 harg23 arg24 harg24 arg25 harg25 arg26 harg26) K := by
  iintro ⟨H3, H4, H5, H6, H7, H8, H9, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, Hk⟩
  have hcut := part324_run (F := F) c i arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26
  sl_unfold [cc0_attn_bwd]
  sl_exec_parts
  by_cases hl : k0_cond2 i = 1#1
  all_goals
    sl_exec_parts
    sl_step
    iapply Hk
    isplitl [H3]; · iexact H3
    isplitl [H4]; · iexact H4
    isplitl [Hk0_part324_0]; · iexact Hk0_part324_0
    isplitl [Hk0_part324_1]; · iexact Hk0_part324_1
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [Hk0_part324_2]; · iexists _; iexact Hk0_part324_2
    isplitl [Hk0_part324_3]; · iexists _; iexact Hk0_part324_3
    isplitl [Hk0_part324_4]; · iexists _; iexact Hk0_part324_4
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [Hk0_part324_5]; · iexists _; iexact Hk0_part324_5
    iexists _; iexact Hk0_part324_6

end Cert.KernelIdeal.Attn

end
-- ==== Proof.AttnFrame.lean ====
/-
  The attention backward call's frame, over any values `F`: the pipeline's launch theorem with the five results forgotten,
  given that the body runs to its return at every grid point (`kernelRun`). After the run every argument array holds what it
  held at launch, and every semaphore counter is zero. Nothing is said of the results.
-/
module

public import proofs.«01_k».proof.Proof.AttnBody

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The windows whose contents are forgotten: the five results (windows 7 to 11). -/
def forgets0 : Fin 12 → Bool := fun w => decide (7 ≤ w.val)

/-- The proof data on core `c`: every array as the region finds it; an input's staging buffer keeps its block, what the body
    leaves in a result's is not named; between points the scratch is held at some contents; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
  Φ _ := Pipeline.ΦA spec0 c
  q _ := fullShare
  owed _ := 0

theorem A_eq (c : Dev nD) (w : Fin cfg0.W) : (dats m 0 c).A w = V m c (Pipeline.arrRef spec0 w) := by dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d
theorem before_in5 (c : Dev nD) (t : Fin cfg0.N) (d) : (dats m 0 c).before 5 t d = iblk m c 5 t :=
  before0_5_of m (dats m 0 c) (A_eq m c 5) (after_in5 m c) t d
theorem before_in6 (c : Dev nD) (t : Fin cfg0.N) (d) : (dats m 0 c).before 6 t d = iblk m c 6 t :=
  before0_6_of m (dats m 0 c) (A_eq m c 6) (after_in6 m c) t d

/-- What the body is called with at point `t`: the invariant, what the core owes, each input's staging memref at its block,
    each result's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

/-- What the body returns: the same, one point further. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

/-- A whole memref owned at `X` is its buffer held whole at contents that read as `X`. -/
theorem owns_eq (c : Dev nD) {sp : Space} {S : Shape} {e : EltTy} (M : Memref sig .tc sp S e) (h : M.IsWhole) (X : Vec F S e) :
    (owns (c : Thread nD τ) M fullShare X : sProp 𝕄) = iprop(∃ f : Bf (F := F) c M, ⌜M.view.read (Elt F) f = X⌝ ∗ pt c M f) := by
  unfold owns
  rw [h.set_eq_univ]

/-- `kernelRun` over owned memrefs: the inputs at given values come back at them, the results and the scratch at some. -/
theorem bodyRun (c : Dev nD) (i : grid0.Coords)
    (arg3 : Memref sig .tc .vmem S2048x128 .bf16) (harg3 : arg3.IsWhole) (arg4 : Memref sig .tc .vmem S2048x128 .bf16) (harg4 : arg4.IsWhole)
    (arg5 : Memref sig .tc .vmem S512x128 .bf16) (harg5 : arg5.IsWhole) (arg6 : Memref sig .tc .vmem S512x128 .bf16) (harg6 : arg6.IsWhole)
    (arg7 : Memref sig .tc .vmem S1x1x2x512 .f32) (harg7 : arg7.IsWhole) (arg8 : Memref sig .tc .vmem S1x1x2x2048 .f32) (harg8 : arg8.IsWhole)
    (arg9 : Memref sig .tc .vmem S1x1x2x2048 .f32) (harg9 : arg9.IsWhole) (arg10 : Memref sig .tc .vmem S2048x128 .bf16) (harg10 : arg10.IsWhole)
    (arg11 : Memref sig .tc .vmem S512x128 .bf16) (harg11 : arg11.IsWhole) (arg12 : Memref sig .tc .vmem S512x128 .bf16) (harg12 : arg12.IsWhole)
    (arg13 : Memref sig .tc .vmem S1x1x2x512 .f32) (harg13 : arg13.IsWhole) (arg14 : Memref sig .tc .vmem S1x1x2x2048 .f32) (harg14 : arg14.IsWhole)
    (arg15 : Memref sig .tc .vmem S2x512x128 .bf16) (harg15 : arg15.IsWhole) (arg16 : Memref sig .tc .vmem S2x512x128 .bf16) (harg16 : arg16.IsWhole)
    (arg17 : Memref sig .tc .vmem S2x512x128 .bf16) (harg17 : arg17.IsWhole) (arg18 : Memref sig .tc .vmem S2x512x128 .f32) (harg18 : arg18.IsWhole)
    (arg19 : Memref sig .tc .vmem S2x512x512 .f32) (harg19 : arg19.IsWhole) (arg20 : Memref sig .tc .vmem S2x512x512 .f32) (harg20 : arg20.IsWhole)
    (arg21 : Memref sig .tc .vmem S2x512x512 .bf16) (harg21 : arg21.IsWhole) (arg22 : Memref sig .tc .vmem S2x512x512 .bf16) (harg22 : arg22.IsWhole)
    (arg23 : Memref sig .tc .vmem S2x512x128 .f32) (harg23 : arg23.IsWhole) (arg24 : Memref sig .tc .vmem S2x512x128 .f32) (harg24 : arg24.IsWhole)
    (arg25 : Memref sig .tc .vmem S2048x128 .f32) (harg25 : arg25.IsWhole) (arg26 : Memref sig .tc .vmem S2048x128 .f32) (harg26 : arg26.IsWhole)
    (x3 : Vec F S2048x128 .bf16) (x4 : Vec F S2048x128 .bf16) (x5 : Vec F S512x128 .bf16) (x6 : Vec F S512x128 .bf16) (x7 : Vec F S1x1x2x512 .f32) (x8 : Vec F S1x1x2x2048 .f32) (x9 : Vec F S1x1x2x2048 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ (∃ d : Vec F S2048x128 .bf16, owns (c : Thread nD τ) arg10 fullShare d)
        ∗ (∃ d : Vec F S512x128 .bf16, owns (c : Thread nD τ) arg11 fullShare d)
        ∗ (∃ d : Vec F S512x128 .bf16, owns (c : Thread nD τ) arg12 fullShare d)
        ∗ (∃ d : Vec F S1x1x2x512 .f32, owns (c : Thread nD τ) arg13 fullShare d)
        ∗ (∃ d : Vec F S1x1x2x2048 .f32, owns (c : Thread nD τ) arg14 fullShare d)
        ∗ (∃ f, pt (F := F) c arg15 f) ∗ (∃ f, pt (F := F) c arg16 f) ∗ (∃ f, pt (F := F) c arg17 f) ∗ (∃ f, pt (F := F) c arg18 f)
        ∗ (∃ f, pt (F := F) c arg19 f) ∗ (∃ f, pt (F := F) c arg20 f) ∗ (∃ f, pt (F := F) c arg21 f) ∗ (∃ f, pt (F := F) c arg22 f)
        ∗ (∃ f, pt (F := F) c arg23 f) ∗ (∃ f, pt (F := F) c arg24 f) ∗ (∃ f, pt (F := F) c arg25 f) ∗ (∃ f, pt (F := F) c arg26 f)
        ∗ (iprop(owns (c : Thread nD τ) arg3 fullShare x3 ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ (∃ d : Vec F S2048x128 .bf16, owns (c : Thread nD τ) arg10 fullShare d)
        ∗ (∃ d : Vec F S512x128 .bf16, owns (c : Thread nD τ) arg11 fullShare d)
        ∗ (∃ d : Vec F S512x128 .bf16, owns (c : Thread nD τ) arg12 fullShare d)
        ∗ (∃ d : Vec F S1x1x2x512 .f32, owns (c : Thread nD τ) arg13 fullShare d)
        ∗ (∃ d : Vec F S1x1x2x2048 .f32, owns (c : Thread nD τ) arg14 fullShare d)
        ∗ (∃ f, pt (F := F) c arg15 f) ∗ (∃ f, pt (F := F) c arg16 f) ∗ (∃ f, pt (F := F) c arg17 f) ∗ (∃ f, pt (F := F) c arg18 f)
        ∗ (∃ f, pt (F := F) c arg19 f) ∗ (∃ f, pt (F := F) c arg20 f) ∗ (∃ f, pt (F := F) c arg21 f) ∗ (∃ f, pt (F := F) c arg22 f)
        ∗ (∃ f, pt (F := F) c arg23 f) ∗ (∃ f, pt (F := F) c arg24 f) ∗ (∃ f, pt (F := F) c arg25 f) ∗ (∃ f, pt (F := F) c arg26 f)) -∗ K ⟨⟩))
      ⊢ wp frame (wpE (defs₀ (F := F)) Variants.none c none) Set.univ
        (cc0_attn_bwd
          i arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19
          arg20 harg20 arg21 harg21 arg22 harg22 arg23 harg23 arg24 harg24 arg25 harg25 arg26 harg26) K := by
  simp only [owns_eq c arg3 harg3, owns_eq c arg4 harg4, owns_eq c arg5 harg5, owns_eq c arg6 harg6, owns_eq c arg7 harg7, owns_eq c arg8 harg8, owns_eq c arg9 harg9, owns_eq c arg10 harg10, owns_eq c arg11 harg11, owns_eq c arg12 harg12, owns_eq c arg13 harg13, owns_eq c arg14 harg14]
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, -, H10⟩, ⟨%d11, %f11, -, H11⟩, ⟨%d12, %f12, -, H12⟩, ⟨%d13, %f13, -, H13⟩, ⟨%d14, %f14, -, H14⟩, H15, H16, H17, H18, H19, H20, H21, H22, H23, H24, H25, H26, Hk⟩
  iapply (kernelRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 f3 f4 f5 f6 f7 f8 f9 K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iintro ⟨H3, H4, H5, H6, H7, H8, H9, ⟨%g10, H10⟩, ⟨%g11, H11⟩, ⟨%g12, H12⟩, ⟨%g13, H13⟩, ⟨%g14, H14⟩, H15, H16, H17, H18, H19, H20, H21, H22, H23, H24, H25, H26⟩
  iapply Hk
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr; · ipureintro; exact e6
    iexact H6
  isplitl [H7]
  · iexists _; isplitr; · ipureintro; exact e7
    iexact H7
  isplitl [H8]
  · iexists _; isplitr; · ipureintro; exact e8
    iexact H8
  isplitl [H9]
  · iexists _; isplitr; · ipureintro; exact e9
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

set_option maxHeartbeats 3200000 in
/-- The body at point `t`: the invariant opened into the twelve scratch buffers, `bodyRun`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after_in0, after_in1, after_in2, after_in3, after_in4, after_in5, after_in6]
  unfold Pipeline.ΦA
  rw [scopedRest0_eq]
  iintro ⟨⟨⟨S0, S1, S2, S3, S4, S5, S6, S7, S8, S9, S10, S11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (bodyRun c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  iintro ⟨H0, H1, H2, H3, H4, H5, H6, H7, H8, H9, H10, H11, S0, S1, S2, S3, S4, S5, S6, S7, S8, S9, S10, S11⟩
  isplitl [S0 S1 S2 S3 S4 S5 S6 S7 S8 S9 S10 S11 Hg]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact S11
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the results forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

-- the launch theorem's implicit arguments are found by unifying its conclusion with this statement, which takes unfolding
-- plain definitions in a metavariable's type
set_option backward.isDefEq.respectTransparency.types false in
/-- Every weakly fair execution of @main terminates; every input array ends as the region found it and every semaphore
    counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: after the run each argument array holds what it held at launch, and every semaphore counter is zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨(h.1.arr_in c 0 rfl).trans (A_eq m c 0), (h.1.arr_in c 2 rfl).trans (A_eq m c 2),
      (h.1.arr_in c 3 rfl).trans (A_eq m c 3), (h.1.arr_in c 1 rfl).trans (A_eq m c 1), (h.1.arr_in c 4 rfl).trans (A_eq m c 4),
      (h.1.arr_in c 5 rfl).trans (A_eq m c 5), (h.1.arr_in c 6 rfl).trans (A_eq m c 6)⟩, h.2⟩) (run_main m ρ)

end Cert.KernelIdeal.Attn

end
-- ==== Proof.AttnBits.lean ====
module

public import proofs.«01_k».proof.Defs
public import proofs.«01_k».proof.Proof.Gen.Kernel
public import proofs.«01_k».proof.Proof.AttnFrame

/-!
# The bit-exact program of the backward attention call

The bit-exact program and the one read over the reals are one text, printed twice. So the run of the second, stated at
every reading of the floats, is the run of the first at the bit-exact reading.
-/

@[expose] public section

set_option maxRecDepth 1000000
set_option maxHeartbeats 4000000

noncomputable section

namespace Cert.KernelIdeal.Attn

open Idealize.ShloMosaic Idealize.ShloMosaic.TcCoe Idealize.SL.Sem

/-- The two programs have one body, window by window and point by point. -/
theorem body_eq : @Cert.Kernel.cc0_attn_bwd Bits _ _ = @Cert.KernelIdeal.cc0_attn_bwd Bits _ _ := by rfl

theorem kernels_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

/-- The two programs have one table of definitions. -/
theorem defs_eq : Cert.Kernel.defs (F := Bits) = Cert.KernelIdeal.defs (F := Bits) :=
  congrArg (Pipeline.defs (Cert.KernelIdeal.pcfgs (F := Bits))) kernels_eq

/-- The bit-exact program ends without a race, with its arguments unchanged and every counter at zero. -/
theorem quiescent_bits : Cert.quiescent_Kernel := fun m ρ _ =>
  Eq.mpr (congrArg (fun d => (θ_run d (onTc (Cert.KernelIdeal.main (F := Bits))) ⟨m, fun _ => 0, ρ⟩) _) defs_eq)
    ((θ_run Cert.KernelIdeal.defs _ _).mono (fun _ h => ⟨h.1, h.2⟩) (run_frame (F := Bits) m ρ))

end Cert.KernelIdeal.Attn
end
-- ==== Proof.InProjSum.lean ====
module

public import Idealize.ShloMosaic.PureOps.Ideal
public import Idealize.ShloMosaic.Lib.IdealHost
public import Idealize.ShloMosaic.Lib.ValueIdx
public import Idealize.ShloMosaic.Lib.Tactic

/-!
# The cotangent that the input projection sends back

The projection's 6160 columns are seven segments: four of 1024 (q, k, v and the attention's gate), 16 forget gates, and
two of 1024 (the pool's input and gate). `cot` is the cotangent of one entry of the normalised input: the sum, over all
columns, of the column's cotangent times its weight, written segment by segment.
-/

@[expose] public section

noncomputable section

open Idealize.ShloMosaic

namespace Cert.InProjSum

/-- What a segment of 1024 columns, its cotangents in the row `s`, contributes against the weights' row `w` from column
    `off` on. -/
def seg (s : Fin 1024 → EReal) (w : Fin 6160 → EReal) (off : ℕ) (h : off + 1024 ≤ 6160) : EReal :=
  ∑ k : Fin 1024, s k * w ⟨off + k.val, by omega⟩

/-- What the forget gates contribute. -/
def gates (s : Fin 16 → EReal) (w : Fin 6160 → EReal) : EReal :=
  ∑ k : Fin 16, s k * w ⟨4096 + k.val, by omega⟩

/-- The whole cotangent of one entry, in the order in which the kernel adds it up. -/
def cot (q k v z : Fin 1024 → EReal) (f : Fin 16 → EReal) (u p : Fin 1024 → EReal) (w : Fin 6160 → EReal) : EReal :=
  gates f w + (seg q w 0 (by omega) + seg k w 1024 (by omega) + seg v w 2048 (by omega))
    + (seg z w 3072 (by omega) + seg u w 4112 (by omega) + seg p w 5136 (by omega))

/-- A sum over the indices from `a` on, split after the first `b` of them. -/
theorem sum_from (g : Fin 6160 → EReal) (a b n : ℕ) (h : a + (b + n) = 6160) :
    ∑ k : Fin (b + n), g ⟨a + k.val, by omega⟩
      = ∑ k : Fin b, g ⟨a + k.val, by omega⟩ + ∑ k : Fin n, g ⟨a + b + k.val, by omega⟩ := by
  rw [Fin.sum_univ_add]
  congr 1
  exact Finset.sum_congr rfl fun k _ => congrArg g (Fin.ext (by simp only [Fin.val_natAdd]; omega))

/-- A sum over all columns, segment by segment. -/
theorem sum_columns (g : Fin 6160 → EReal) :
    ∑ k, g k = ∑ k : Fin 1024, g ⟨0 + k.val, by omega⟩ + (∑ k : Fin 1024, g ⟨1024 + k.val, by omega⟩
      + (∑ k : Fin 1024, g ⟨2048 + k.val, by omega⟩ + (∑ k : Fin 1024, g ⟨3072 + k.val, by omega⟩
      + (∑ k : Fin 16, g ⟨4096 + k.val, by omega⟩ + (∑ k : Fin 1024, g ⟨4112 + k.val, by omega⟩
      + ∑ k : Fin 1024, g ⟨5136 + k.val, by omega⟩))))) := by
  have h0 : ∑ k, g k = ∑ k : Fin (1024 + 5136), g ⟨0 + k.val, by omega⟩ :=
    Finset.sum_congr rfl fun k _ => congrArg g (Fin.ext (by simp only []; omega))
  rw [h0, sum_from g 0 1024 5136 rfl, sum_from g 1024 1024 4112 rfl, sum_from g 2048 1024 3088 rfl,
    sum_from g 3072 1024 2064 rfl, sum_from g 4096 16 2048 rfl, sum_from g 4112 1024 1024 rfl]

/-- The sum over the columns of the concatenated segments is `cot`. -/
theorem cot_eq (q k v z : Fin 1024 → EReal) (f : Fin 16 → EReal) (u p : Fin 1024 → EReal) (w : Fin 6160 → EReal) :
    ∑ x : Fin 6160,
      (if h : x.val < 1024 then q ⟨x.val, h⟩ else
        if h : x.val - 1024 < 1024 then k ⟨x.val - 1024, h⟩ else
          if h : x.val - 1024 - 1024 < 1024 then v ⟨x.val - 1024 - 1024, h⟩ else
            if h : x.val - 1024 - 1024 - 1024 < 1024 then z ⟨x.val - 1024 - 1024 - 1024, h⟩ else
              if h : x.val - 1024 - 1024 - 1024 - 1024 < 16 then f ⟨x.val - 1024 - 1024 - 1024 - 1024, h⟩ else
                if h : x.val - 1024 - 1024 - 1024 - 1024 - 16 < 1024 then
                  u ⟨x.val - 1024 - 1024 - 1024 - 1024 - 16, h⟩
                else p ⟨x.val - 1024 - 1024 - 1024 - 1024 - 16 - 1024, by omega⟩) * w x
      = cot q k v z f u p w := by
  rw [sum_columns]
  have e : ∀ a b c d e f g : EReal, a + (b + (c + (d + (e + (f + g))))) = e + (a + b + c) + (d + f + g) :=
    fun a b c d e f g => by abel
  rw [e]
  unfold cot seg gates
  refine congrArg₂ _ (congrArg₂ _ ?_ (congrArg₂ _ (congrArg₂ _ ?_ ?_) ?_)) (congrArg₂ _ (congrArg₂ _ ?_ ?_) ?_) <;>
  · refine Finset.sum_congr rfl fun i _ => congrArg (· * _) ?_
    have := i.isLt
    simp only []
    repeat (first | rw [dif_pos (by omega)] | rw [dif_neg (by omega)])
    exact congrArg _ (Fin.ext (by simp only []; omega))

end Cert.InProjSum
end
-- ==== Proof.RmsNormBwd.lean ====
module

public import Idealize.ShloMosaic.PureOps.Ideal
public import Idealize.ShloMosaic.Lib.IdealHost
public import Idealize.ShloMosaic.Lib.Tactic

/-!
# The backward pass of a root-mean-square normalisation, over the extended reals

For a row `x` of 1024 numbers put `q = mean(x²) + ε` and `r = 1/√q`. A kernel writes the gradient of `x ↦ x · r · g`
in closed form, with `r³`; the derivative of the forward lines reads it with the two halves of `x·x` apart and with
`−½ · (r / q)`. `bwd_eq` says that the two agree at every extended real input: `q` is positive, so either it is `⊤`, where
`r` is zero and both corrections vanish, or it is a positive real, where `r / q = r³`.
-/

@[expose] public section

noncomputable section

open Idealize.ShloMosaic

namespace Cert.RmsNorm

/-- The row's length, 1024, as the programs write it. -/
abbrev len : EReal := Ideal.ofBits .f32 0x44800000#32

/-- The normalisation's `ε`. -/
abbrev eps : EReal := Ideal.ofBits .f32 0x358637BD#32

/-- Minus one half. -/
abbrev negHalf : EReal := Ideal.ofBits .f32 0xBF000000#32

/-- The mean of a row's squares, plus `ε`. -/
def q (x : Fin 1024 → EReal) : EReal := Ideal.div (∑ k, x k * x k) len + eps

/-- The row's reciprocal root mean square. -/
def r (x : Fin 1024 → EReal) : EReal := Ideal.rsqrt (q x)

theorem len_eq : len = ((1024 : ℝ) : EReal) := by
  simp [Ideal.ofBits, Ideal.ieee, -EReal.coe_mul]; norm_num

theorem negHalf_eq : negHalf = ((-(1 / 2) : ℝ) : EReal) := by
  simp [Ideal.ofBits, Ideal.ieee, -EReal.coe_mul]; norm_num

theorem eps_pos : (0 : EReal) < eps := by
  simp [Ideal.ofBits, Ideal.ieee, -EReal.coe_mul]

theorem sq_nonneg (x : EReal) : 0 ≤ x * x := by
  rcases le_total 0 x with h | h
  · exact mul_nonneg h h
  · rw [← neg_mul_neg]
    exact mul_nonneg (EReal.neg_nonneg.2 h) (EReal.neg_nonneg.2 h)

theorem q_pos (x : Fin 1024 → EReal) : 0 < q x := by
  unfold q
  rw [len_eq, Ideal.div_coe (by norm_num)]
  have h : 0 ≤ (∑ k, x k * x k) * ((1 / 1024 : ℝ) : EReal) :=
    mul_nonneg (Finset.sum_nonneg fun k _ => sq_nonneg (x k)) (by norm_cast; norm_num)
  calc (0 : EReal) < eps := eps_pos
    _ = 0 + eps := (zero_add _).symm
    _ ≤ _ := add_le_add_left h _

/-- The correction term, twice a negative half of it: for a real `κ > 0` and any extended real `w`. -/
theorem neg_mul_two (w : EReal) (κ : ℝ) (hκ : 0 < κ) :
    -(w * ((2 * κ : ℝ) : EReal)) = w * ((-κ : ℝ) : EReal) + w * ((-κ : ℝ) : EReal) := by
  have h2 : (0 : ℝ) < 2 * κ := by linarith
  induction w with
  | bot => rw [EReal.bot_mul_coe_of_pos h2, EReal.bot_mul_coe_of_neg (by linarith)]; rfl
  | top => rw [EReal.top_mul_coe_of_pos h2, EReal.top_mul_coe_of_neg (by linarith)]; rfl
  | coe w => norm_cast; ring

/-- The kernel's closed form of the gradient at one entry is the derivative's. `o` is what is added to, `a` the entry's
    cotangent times its scale, `b` the entry itself and `s` the row's sum of the products of these two. -/
theorem bwd_eq (x : Fin 1024 → EReal) (o a b s : EReal) :
    o + r x * a - b * (r x * r x * r x) * Ideal.div s len
      = ((o + a * r x) + b * Ideal.div (s * (negHalf * Ideal.div (r x) (q x))) len)
        + Ideal.div (s * (negHalf * Ideal.div (r x) (q x))) len * b := by
  have hq := q_pos x
  unfold r
  rw [len_eq, negHalf_eq, Ideal.div_coe (by norm_num), Ideal.div_coe (by norm_num)]
  induction hx : q x with
  | bot => rw [hx] at hq; exact absurd hq (by simp)
  | top => simp [Ideal.div]
  | coe y =>
    rw [hx] at hq
    have hy : 0 < y := by exact_mod_cast hq
    rw [Ideal.rsqrt_coe, if_neg (not_lt.2 hy.le), if_neg hy.ne', Ideal.div_coe hy.ne']
    have hs : 0 < Real.sqrt y := Real.sqrt_pos.2 hy
    have hcube : (Real.sqrt y)⁻¹ * (Real.sqrt y)⁻¹ * (Real.sqrt y)⁻¹ = (Real.sqrt y)⁻¹ * (1 / y) := by
      have : Real.sqrt y * Real.sqrt y = y := Real.mul_self_sqrt hy.le
      rw [mul_comm, ← mul_inv, this, one_div]
    rw [← EReal.coe_mul, ← EReal.coe_mul, ← EReal.coe_mul, hcube, ← EReal.coe_mul]
    generalize hρ : (Real.sqrt y)⁻¹ * (1 / y) = ρ
    have hρ' : 0 < ρ := by rw [← hρ]; positivity
    have e1 : b * (ρ : EReal) * (s * ((1 / 1024 : ℝ) : EReal)) = (b * s) * ((2 * (ρ / 2048) : ℝ) : EReal) := by
      rw [mul_mul_mul_comm, ← EReal.coe_mul]
      congr 2; ring
    have e2 : b * (s * ((-(1 / 2) * ρ : ℝ) : EReal) * ((1 / 1024 : ℝ) : EReal)) = (b * s) * ((-(ρ / 2048) : ℝ) : EReal) := by
      rw [mul_assoc s, ← mul_assoc b, ← EReal.coe_mul]
      congr 2; ring
    rw [mul_comm (s * _ * _) b, e2, e1, sub_eq_add_neg, neg_mul_two _ _ (by positivity), add_assoc, mul_comm _ a, add_assoc, add_assoc]

end Cert.RmsNorm
end
-- ==== Proof.InProjValue.lean ====
module

public import proofs.«01_k».proof.Proof.Gen.InProjIdeal.Value
public import proofs.«01_k».proof.Proof.InProjSum
public import proofs.«01_k».proof.Proof.RmsNormBwd
public import Idealize.ShloMosaic.Lib.Pipeline.ValueKit
public import Idealize.ShloMosaic.Lib.Pipeline.ReadBack
public import Idealize.ShloMosaic.Lib.IdealHost
public import Idealize.ShloMosaic.Lib.Pointwise
public import Idealize.ShloMosaic.Lib.Tactic

/-!
# The input projection's backward call, element by element

A row block of 512 rows is visited twice. Its first point puts into the accumulator the forget gates' part and the first
three segments', its second one adds the other three; then the accumulator holds the cotangent of the normalised input
(`acc_odd`), and the point writes the block of the input's gradient and adds the block's rows to the gradient of the
normalisation's scale. `value_dh` and `value_dg` state what the two result arrays hold at the end.
-/

@[expose] public section

set_option maxRecDepth 16384

noncomputable section

open Idealize.ShloMosaic Idealize.ShloMosaic.TcCoe Idealize.SL.Sem

namespace Cert.InProjIdeal.Grad

open Cert.InProjIdeal Cert.InProjIdeal.Gen Cert.InProjIdeal.Value

variable (m : (ℓ : Loc nD τ sig) → Buf (Elt Ideal) ℓ)

/-- The printed index maps, decided over the grid: point `t` is the row block `t / 2` and the half `t % 2` of the segments. -/
theorem idx : ∀ t : Fin cfg0.N, win0_0.index t = ![t.val / 2, 0] ∧ win0_1.index t = ![t.val / 2, 0]
    ∧ win0_2.index t = ![t.val / 2, 0] ∧ win0_3.index t = ![t.val / 2, 0] ∧ win0_4.index t = ![t.val / 2, 0]
    ∧ win0_5.index t = ![t.val / 2, 0] ∧ win0_6.index t = ![t.val / 2, 0] ∧ win0_7.index t = ![0, t.val % 2]
    ∧ win0_8.index t = ![0, 0] ∧ win0_9.index t = ![t.val / 2, 0] ∧ win0_10.index t = ![t.val / 2, 0]
    ∧ win0_11.index t = ![0, 0] :=
  (by decide +kernel : ∀ t : Fin grid0.N, _)

/-! ## The arguments -/

abbrev aQ (c : Dev nD) : S4096x1024.Idx → EReal := m ((c : Thread nD τ).loc main_arg0)
abbrev aK (c : Dev nD) : S4096x1024.Idx → EReal := m ((c : Thread nD τ).loc main_arg1)
abbrev aV (c : Dev nD) : S4096x1024.Idx → EReal := m ((c : Thread nD τ).loc main_arg2)
abbrev aZ (c : Dev nD) : S4096x1024.Idx → EReal := m ((c : Thread nD τ).loc main_arg3)
abbrev aF (c : Dev nD) : S4096x16.Idx → EReal := m ((c : Thread nD τ).loc main_arg4)
abbrev aU (c : Dev nD) : S4096x1024.Idx → EReal := m ((c : Thread nD τ).loc main_arg5)
abbrev aP (c : Dev nD) : S4096x1024.Idx → EReal := m ((c : Thread nD τ).loc main_arg6)
abbrev aW (c : Dev nD) : S1024x6160.Idx → EReal := m ((c : Thread nD τ).loc main_arg7)
abbrev aH (c : Dev nD) : S4096x1024.Idx → EReal := m ((c : Thread nD τ).loc main_arg8)
abbrev aD (c : Dev nD) : S4096x1024.Idx → EReal := m ((c : Thread nD τ).loc main_arg9)
abbrev aG (c : Dev nD) : S1x1024.Idx → EReal := m ((c : Thread nD τ).loc main_arg10)

/-! ## The blocks at a point -/

abbrev bQ (c : Dev nD) (t : Fin cfg0.N) : S512x1024.Idx → EReal := iblk m c 0 t
abbrev bK (c : Dev nD) (t : Fin cfg0.N) : S512x1024.Idx → EReal := iblk m c 1 t
abbrev bV (c : Dev nD) (t : Fin cfg0.N) : S512x1024.Idx → EReal := iblk m c 2 t
abbrev bZ (c : Dev nD) (t : Fin cfg0.N) : S512x1024.Idx → EReal := iblk m c 3 t
abbrev bU (c : Dev nD) (t : Fin cfg0.N) : S512x1024.Idx → EReal := iblk m c 4 t
abbrev bP (c : Dev nD) (t : Fin cfg0.N) : S512x1024.Idx → EReal := iblk m c 5 t
abbrev bF (c : Dev nD) (t : Fin cfg0.N) : S512x128.Idx → EReal := iblk m c 6 t
abbrev bM (c : Dev nD) (t : Fin cfg0.N) : S1024x3072.Idx → EReal := iblk m c 7 t
abbrev bWf (c : Dev nD) (t : Fin cfg0.N) : S1024x128.Idx → EReal := iblk m c 8 t
abbrev bH (c : Dev nD) (t : Fin cfg0.N) : S512x1024.Idx → EReal := iblk m c 9 t
abbrev bD (c : Dev nD) (t : Fin cfg0.N) : S512x1024.Idx → EReal := iblk m c 10 t
abbrev bG (c : Dev nD) (t : Fin cfg0.N) : S1x1024.Idx → EReal := iblk m c 11 t

/-- The accumulator, and the two results' blocks, after point `t`. -/
abbrev acc (c : Dev nD) (t : ℕ) (h : t < cfg0.N) : S512x1024.Idx → EReal := (outsAt0 m c t h).2.2
abbrev dh (c : Dev nD) (t : ℕ) (h : t < cfg0.N) : S512x1024.Idx → EReal := (outsAt0 m c t h).1
abbrev dg (c : Dev nD) (t : ℕ) (h : t < cfg0.N) : S1x1024.Idx → EReal := (outsAt0 m c t h).2.1

section Blocks
variable (c : Dev nD) (t : Fin cfg0.N) (r : Fin 512) (k : Fin 1024) (a : Fin 4096) (ha : a.val = t.val / 2 * 512 + r.val)
include ha

theorem bQ_apply : bQ m c t (ix2 r k) = aQ m c (ix2 a k) := by blk_ext! [iblk, V, (idx t).1]
theorem bK_apply : bK m c t (ix2 r k) = aK m c (ix2 a k) := by blk_ext! [iblk, V, (idx t).2.1]
theorem bV_apply : bV m c t (ix2 r k) = aV m c (ix2 a k) := by blk_ext! [iblk, V, (idx t).2.2.1]
theorem bZ_apply : bZ m c t (ix2 r k) = aZ m c (ix2 a k) := by blk_ext! [iblk, V, (idx t).2.2.2.1]
theorem bU_apply : bU m c t (ix2 r k) = aU m c (ix2 a k) := by blk_ext! [iblk, V, (idx t).2.2.2.2.1]
theorem bP_apply : bP m c t (ix2 r k) = aP m c (ix2 a k) := by blk_ext! [iblk, V, (idx t).2.2.2.2.2.1]
theorem bH_apply : bH m c t (ix2 r k) = aH m c (ix2 a k) := by blk_ext! [iblk, V, (idx t).2.2.2.2.2.2.2.2.2.1]
theorem bD_apply : bD m c t (ix2 r k) = aD m c (ix2 a k) := by blk_ext! [iblk, V, (idx t).2.2.2.2.2.2.2.2.2.2.1]

end Blocks

theorem bG_apply (c : Dev nD) (t : Fin cfg0.N) (k : Fin 1024) : bG m c t (ix2 0 k) = aG m c (ix2 0 k) := by
  blk_ext! [iblk, V, (idx t).2.2.2.2.2.2.2.2.2.2.2]

/-! ## The weights and the gates' cotangents as the host lays them out -/

/-- The host's main weights: all columns but the forget gates', which lie between column 4096 and column 4112. -/
theorem main_apply (c : Dev nD) (j : Fin 1024) (b : Fin 6144) (a : Fin 6160)
    (ha : a.val = if b.val < 4096 then b.val else b.val + 16) :
    (V m c main_v2 : S1024x6144.Idx → EReal) (ix2 j b) = aW m c (ix2 j a) := by
  unfold V
  simp only [hostOps0, hostOps0_1, hostOps0_2, hostOps0_3, List.flatten_cons, List.flatten_nil, List.append_nil, List.cons_append, List.nil_append]
  after_results_simp
  pointwise
  split at ha <;> rename_i h
  · rw [dif_pos h]
    exact congrArg _ (congrArg _ (Fin.ext ha.symm))
  · rw [dif_neg h]
    exact congrArg _ (congrArg _ (Fin.ext (by simp only []; omega)))

/-- The block of the main weights at a point. -/
theorem bM_apply (c : Dev nD) (t : Fin cfg0.N) (j : Fin 1024) (k : Fin 3072) (b : Fin 6144) (hb : b.val = t.val % 2 * 3072 + k.val) :
    bM m c t (ix2 j k) = (V m c main_v2 : S1024x6144.Idx → EReal) (ix2 j b) := by
  blk_ext! [iblk, (idx t).2.2.2.2.2.2.2.1]

/-- The integer zero as an extended real. -/
theorem sitofp_zero : ((((0#32 : BitVec 32).toInt : ℤ) : ℝ) : EReal) = 0 := by simp

/-- The gates' weights: sixteen columns, padded with zeros. -/
theorem gates_w (c : Dev nD) (t : Fin cfg0.N) (j : Fin 1024) (k : Fin 128) :
    bWf m c t (ix2 j k) = if h : k.val < 16 then aW m c (ix2 j ⟨4096 + k.val, by omega⟩) else 0 := by
  have e : bWf m c t (ix2 j k) = (V m c main_v4 : S1024x128.Idx → EReal) (ix2 j k) := by
    blk_ext! [iblk, (idx t).2.2.2.2.2.2.2.2.1]
  have p : V m c main_v4 = pad S1024x128 ![0, 0] ![0, 112] ![0, 0] (extractStridedSlice S1024x16 ![0, 4096] (m (c, Proc.tc.devRef main_arg7)) slices_S1024x6160_S1024x16_0_4096)
      (sitofp (F := Ideal) FTy.bf16 (constantI S_ 32 0#32)) pads_S1024x16_S1024x128_000_01120 h_S_ := by
    unfold V
    simp only [hostOps0, hostOps0_1, hostOps0_2, hostOps0_3, List.flatten_cons, List.flatten_nil, List.append_nil, List.cons_append, List.nil_append]
    after_results_simp
    rfl
  rw [e, p]
  pointwise
  rw [show (FloatOps.sitofp (F := Ideal) FTy.bf16 0#32 : EReal) = 0 from sitofp_zero]

/-- The gates' cotangents: sixteen columns, padded with zeros. -/
theorem gates_d (c : Dev nD) (t : Fin cfg0.N) (r : Fin 512) (k : Fin 128) (a : Fin 4096) (ha : a.val = t.val / 2 * 512 + r.val) :
    bF m c t (ix2 r k) = if h : k.val < 16 then aF m c (ix2 a ⟨k.val, h⟩) else 0 := by
  have e : bF m c t (ix2 r k) = (V m c main_v5 : S4096x128.Idx → EReal) (ix2 a k) := by
    blk_ext! [iblk, (idx t).2.2.2.2.2.2.1]
  have p : V m c main_v5 = pad S4096x128 ![0, 0] ![0, 112] ![0, 0] (aF m c : FVec Ideal S4096x16 .f32)
      (sitofp (F := Ideal) FTy.f32 (constantI S_ 32 0#32)) pads_S4096x16_S4096x128_000_01120 h_S_ := by
    unfold V
    simp only [hostOps0, hostOps0_1, hostOps0_2, hostOps0_3, List.flatten_cons, List.flatten_nil, List.append_nil, List.cons_append, List.nil_append]
    after_results_simp
    rfl
  rw [e, p]
  pointwise
  rw [show (FloatOps.sitofp (F := Ideal) FTy.f32 0#32 : EReal) = 0 from sitofp_zero]

/-! ## The points -/

/-- The accumulator after a block's first point: the forget gates' part and the first three segments. -/
theorem acc_even (c : Dev nD) (t : Fin cfg0.N) (h1 : t.val % 2 = 0) (j : S512x1024.Idx) :
    acc m c t.val t.isLt j = ∑ x : Fin 128, bF m c t (ix2 (j 0) x) * bWf m c t (ix2 (j 1) x) +
      (∑ x : Fin 1024, bQ m c t (ix2 (j 0) x) * bM m c t (ix2 (j 1) ⟨x.val, by omega⟩) +
        ∑ x : Fin 1024, bK m c t (ix2 (j 0) x) * bM m c t (ix2 (j 1) ⟨1024 + x.val, by omega⟩) +
        ∑ x : Fin 1024, bV m c t (ix2 (j 0) x) * bM m c t (ix2 (j 1) ⟨2048 + x.val, by omega⟩)) := by
  unfold acc bF bWf bQ bK bV bM
  by_cases h0 : t.val % 16 = 0
  · rw [outsAt0_A m c t h0 h1 h1 (by omega) (by omega)]
    dsimp only
    frame_out
    pointwise [k0_pay1, k0_pay2, k0_pay3]
  · rw [outsAt0_C m c t h0 h1 h1 (by omega) (by omega)]
    dsimp only
    frame_out
    pointwise [k0_pay1, k0_pay2, k0_pay3]

/-- A block's second point adds the other three segments. -/
theorem acc_step (c : Dev nD) (t : Fin cfg0.N) (h1 : t.val % 2 = 1) (j : S512x1024.Idx) :
    acc m c t.val t.isLt j = acc m c (t.val - 1) (Nat.lt_of_le_of_lt (Nat.sub_le _ _) t.isLt) j +
      (∑ x : Fin 1024, bZ m c t (ix2 (j 0) x) * bM m c t (ix2 (j 1) ⟨x.val, by omega⟩) +
        ∑ x : Fin 1024, bU m c t (ix2 (j 0) x) * bM m c t (ix2 (j 1) ⟨1024 + x.val, by omega⟩) +
        ∑ x : Fin 1024, bP m c t (ix2 (j 0) x) * bM m c t (ix2 (j 1) ⟨2048 + x.val, by omega⟩)) := by
  unfold acc bZ bU bP bM
  rw [outsAt0_B m c t (by omega) (by omega) (by omega) h1 h1]
  dsimp only
  frame_out
  simp only [read_unread_whole]
  pointwise [k0_pay4]

/-- The product the second point writes back is the accumulator after it. -/
theorem acc_pay (c : Dev nD) (t : Fin cfg0.N) (h1 : t.val % 2 = 1) :
    k0_pay4 (iblk m c 3 t) (View.ld (iblk m c 7 t) (Rect.unit ![0, 0] ![1024, 1024] inb_S1024x3072_S1024x1024_0_0))
      (iblk m c 4 t) (View.ld (iblk m c 7 t) (Rect.unit ![0, 1024] ![1024, 1024] inb_S1024x3072_S1024x1024_0_1024))
      (iblk m c 5 t) (View.ld (iblk m c 7 t) (Rect.unit ![0, 2048] ![1024, 1024] inb_S1024x3072_S1024x1024_0_2048))
      (outsAt0 m c (t.val - 1) (Nat.lt_of_le_of_lt (Nat.sub_le _ _) t.isLt)).2.2 = acc m c t.val t.isLt := by
  unfold acc
  rw [outsAt0_B m c t (by omega) (by omega) (by omega) h1 h1]
  dsimp only
  frame_out
  simp only [read_unread_whole]
  rfl

/-- A row of the input's block. -/
abbrev hRow (c : Dev nD) (t : Fin cfg0.N) (r : Fin 512) : Fin 1024 → EReal := fun k => bH m c t (ix2 r k)

theorem dg_odd (c : Dev nD) (t : Fin cfg0.N) (h1 : t.val % 2 = 1) (j : S1x1024.Idx) :
    dg m c t.val t.isLt j = dg m c (t.val - 1) (Nat.lt_of_le_of_lt (Nat.sub_le _ _) t.isLt) j
      + ∑ x : Fin 512, acc m c t.val t.isLt (ix2 x (j 1)) * bH m c t (ix2 x (j 1)) * RmsNorm.r (hRow m c t x) := by
  rw [← acc_pay m c t h1]
  unfold dg RmsNorm.r RmsNorm.q hRow bH
  rw [outsAt0_B m c t (by omega) (by omega) (by omega) h1 h1]
  dsimp only
  frame_out
  simp only [read_unread_whole]
  pointwise [k0_pay5, k0_pay6, k0_pay7]
  rfl

theorem dh_odd (c : Dev nD) (t : Fin cfg0.N) (h1 : t.val % 2 = 1) (j : S512x1024.Idx) :
    dh m c t.val t.isLt j = bD m c t j + RmsNorm.r (hRow m c t (j 0)) * (acc m c t.val t.isLt j * bG m c t (ix2 0 (j 1)))
      - bH m c t j * (RmsNorm.r (hRow m c t (j 0)) * RmsNorm.r (hRow m c t (j 0)) * RmsNorm.r (hRow m c t (j 0)))
        * Ideal.div (∑ x : Fin 1024, acc m c t.val t.isLt (ix2 (j 0) x) * bG m c t (ix2 0 x) * bH m c t (ix2 (j 0) x)) RmsNorm.len := by
  rw [← acc_pay m c t h1]
  unfold dh RmsNorm.r RmsNorm.q hRow bH bD bG
  rw [outsAt0_B m c t (by omega) (by omega) (by omega) h1 h1]
  dsimp only
  frame_out
  simp only [read_unread_whole]
  pointwise [k0_pay5, k0_pay6, k0_pay7]
  rfl

theorem dg_first (c : Dev nD) (t : Fin cfg0.N) (h0 : t.val % 16 = 0) (j : S1x1024.Idx) : dg m c t.val t.isLt j = 0 := by
  unfold dg
  rw [outsAt0_A m c t h0 (by omega) (by omega) (by omega) (by omega)]
  dsimp only
  frame_out
  pointwise [k0_pay1]

theorem dg_even (c : Dev nD) (t : Fin cfg0.N) (h0 : ¬ t.val % 16 = 0) (h1 : t.val % 2 = 0) (j : S1x1024.Idx) :
    dg m c t.val t.isLt j = dg m c (t.val - 1) (Nat.lt_of_le_of_lt (Nat.sub_le _ _) t.isLt) j := by
  unfold dg
  rw [outsAt0_C m c t h0 h1 h1 (by omega) (by omega)]
  dsimp only
  unfold out0_C_13
  rfl

/-! ## A row block -/

/-- The cotangent of the normalised input, at the row `a` and the column `b`. -/
def cot (c : Dev nD) (a : Fin 4096) (b : Fin 1024) : EReal :=
  InProjSum.cot (fun k => aQ m c (ix2 a k)) (fun k => aK m c (ix2 a k)) (fun k => aV m c (ix2 a k)) (fun k => aZ m c (ix2 a k))
    (fun k => aF m c (ix2 a k)) (fun k => aU m c (ix2 a k)) (fun k => aP m c (ix2 a k)) (fun k => aW m c (ix2 b k))

/-- A row of the input. -/
abbrev row (c : Dev nD) (a : Fin 4096) : Fin 1024 → EReal := fun k => aH m c (ix2 a k)

/-- The forget gates' part: the padding's columns add nothing. -/
theorem gates_sum (c : Dev nD) (t : Fin cfg0.N) (r : Fin 512) (b : Fin 1024) (a : Fin 4096) (ha : a.val = t.val / 2 * 512 + r.val) :
    ∑ x : Fin 128, bF m c t (ix2 r x) * bWf m c t (ix2 b x)
      = InProjSum.gates (fun k => aF m c (ix2 a k)) (fun k => aW m c (ix2 b k)) := by
  rw [Fin.sum_univ_two_halves 16 112 rfl]
  have h : ∑ k : Fin 112, bF m c t (ix2 r ⟨16 + k.val, by omega⟩) * bWf m c t (ix2 b ⟨16 + k.val, by omega⟩) = 0 :=
    Finset.sum_eq_zero fun k _ => by rw [gates_w, dif_neg (by simp only []; omega), mul_zero]
  refine (congrArg₂ _ ?_ h).trans (add_zero _)
  exact Finset.sum_congr rfl fun k _ => by
    rw [gates_w, gates_d m c t r _ a ha, dif_pos k.isLt, dif_pos k.isLt]

/-- A segment's part. -/
theorem seg_sum (c : Dev nD) (t : Fin cfg0.N) (b : Fin 1024) (off col : ℕ) (hc : col + 1024 ≤ 6160)
    (h : (t.val % 2 * 3072 + off + 1024 ≤ 4096 ∧ col = t.val % 2 * 3072 + off) ∨ (4096 ≤ t.val % 2 * 3072 + off ∧ col = t.val % 2 * 3072 + off + 16))
    (f : Fin 1024 → Fin 3072) (hf : ∀ k, (f k).val = off + k.val) (s s' : Fin 1024 → EReal) (hs : ∀ k, s k = s' k) :
    ∑ x : Fin 1024, s x * bM m c t (ix2 b (f x)) = InProjSum.seg s' (fun k => aW m c (ix2 b k)) col hc := by
  unfold InProjSum.seg
  refine Finset.sum_congr rfl fun k _ => congrArg₂ _ (hs k) ?_
  have := hf k
  have := (f k).isLt
  rw [bM_apply m c t b (f k) ⟨t.val % 2 * 3072 + (f k).val, by omega⟩ rfl]
  exact main_apply m c b _ _ (by simp only []; split <;> omega)

/-- The accumulator after a block's first point, by segments. -/
theorem acc_first (c : Dev nD) (t : Fin cfg0.N) (h1 : t.val % 2 = 0) (r : Fin 512) (b : Fin 1024) (a : Fin 4096)
    (ha : a.val = t.val / 2 * 512 + r.val) :
    acc m c t.val t.isLt (ix2 r b) = InProjSum.gates (fun k => aF m c (ix2 a k)) (fun k => aW m c (ix2 b k))
      + (InProjSum.seg (fun k => aQ m c (ix2 a k)) (fun k => aW m c (ix2 b k)) 0 (by omega)
        + InProjSum.seg (fun k => aK m c (ix2 a k)) (fun k => aW m c (ix2 b k)) 1024 (by omega)
        + InProjSum.seg (fun k => aV m c (ix2 a k)) (fun k => aW m c (ix2 b k)) 2048 (by omega)) := by
  have e1 := gates_sum m c t r b a ha
  have e2 := seg_sum m c t b 0 0 (by omega) (by omega) (fun x => ⟨x.val, by omega⟩) (fun k => (zero_add _).symm)
    (fun k => bQ m c t (ix2 r k)) (fun k => aQ m c (ix2 a k)) (fun k => bQ_apply m c t r k a ha)
  have e3 := seg_sum m c t b 1024 1024 (by omega) (by omega) (fun x => ⟨1024 + x.val, by omega⟩) (fun k => rfl)
    (fun k => bK m c t (ix2 r k)) (fun k => aK m c (ix2 a k)) (fun k => bK_apply m c t r k a ha)
  have e4 := seg_sum m c t b 2048 2048 (by omega) (by omega) (fun x => ⟨2048 + x.val, by omega⟩) (fun k => rfl)
    (fun k => bV m c t (ix2 r k)) (fun k => aV m c (ix2 a k)) (fun k => bV_apply m c t r k a ha)
  rw [acc_even m c t h1, ← e1, ← e2, ← e3, ← e4]
  rfl

/-- After a block's second point the accumulator holds the cotangent. -/
theorem acc_odd (c : Dev nD) (t : Fin cfg0.N) (h1 : t.val % 2 = 1) (r : Fin 512) (b : Fin 1024) (a : Fin 4096)
    (ha : a.val = t.val / 2 * 512 + r.val) : acc m c t.val t.isLt (ix2 r b) = cot m c a b := by
  have hq : t.val - 1 < cfg0.N := by omega
  have e1 := acc_first m c ⟨t.val - 1, hq⟩ (by simp only []; omega) r b a (by simp only []; omega)
  have e2 := seg_sum m c t b 0 3072 (by omega) (by omega) (fun x => ⟨x.val, by omega⟩) (fun k => (zero_add _).symm)
    (fun k => bZ m c t (ix2 r k)) (fun k => aZ m c (ix2 a k)) (fun k => bZ_apply m c t r k a ha)
  have e3 := seg_sum m c t b 1024 4112 (by omega) (by omega) (fun x => ⟨1024 + x.val, by omega⟩) (fun k => rfl)
    (fun k => bU m c t (ix2 r k)) (fun k => aU m c (ix2 a k)) (fun k => bU_apply m c t r k a ha)
  have e4 := seg_sum m c t b 2048 5136 (by omega) (by omega) (fun x => ⟨2048 + x.val, by omega⟩) (fun k => rfl)
    (fun k => bP m c t (ix2 r k)) (fun k => aP m c (ix2 a k)) (fun k => bP_apply m c t r k a ha)
  rw [acc_step m c t h1]
  unfold cot InProjSum.cot
  rw [← e1, ← e2, ← e3, ← e4]
  rfl

/-- The input's gradient at an index. -/
theorem value_dh (c : Dev nD) (a : Fin 4096) (b : Fin 1024) :
    (G12 m c : S4096x1024.Idx → EReal) (ix2 a b)
      = aD m c (ix2 a b) + RmsNorm.r (row m c a) * (cot m c a b * aG m c (ix2 0 b))
        - aH m c (ix2 a b) * (RmsNorm.r (row m c a) * RmsNorm.r (row m c a) * RmsNorm.r (row m c a))
          * Ideal.div (∑ k : Fin 1024, cot m c a k * aG m c (ix2 0 k) * aH m c (ix2 a k)) RmsNorm.len := by
  have hN : cfg0.N = 16 := N_0
  have hp : pt12Of (ix2 a b) = 2 * (a.val / 512) + 1 := by
    have : b.val < 1024 := b.isLt
    unfold pt12Of run12Of
    change 2 * (1 * (a.val / 512 - 0) + 1 * (b.val / 1024 - 0)) + 1 = _
    omega
  have ht : pt12Of (ix2 a b) < cfg0.N := by omega
  unfold G12
  rw [dif_pos ht, ← outsAt0_sweep]
  change dh m c _ ht _ = _
  generalize hP : pt12Of (ix2 a b) = P at ht hp
  have hl : loc12Of (ix2 a b) = (ix2 ⟨a.val % 512, by omega⟩ b : S512x1024.Idx) := by
    funext d
    match d with
    | ⟨0, _⟩ => rfl
    | ⟨1, _⟩ => exact Fin.ext (Nat.mod_eq_of_lt b.isLt)
  rw [hl, dh_odd m c ⟨P, ht⟩ (by dsimp only; omega)]
  have ha : a.val = P / 2 * 512 + a.val % 512 := by omega
  have hr : hRow m c ⟨P, ht⟩ ⟨a.val % 512, by omega⟩ = row m c a := funext fun k => bH_apply m c ⟨P, ht⟩ _ k a ha
  change bD m c ⟨P, ht⟩ (ix2 ⟨a.val % 512, _⟩ b) + RmsNorm.r (hRow m c ⟨P, ht⟩ ⟨a.val % 512, _⟩) * (acc m c P ht (ix2 ⟨a.val % 512, _⟩ b) * bG m c ⟨P, ht⟩ (ix2 0 b))
      - bH m c ⟨P, ht⟩ (ix2 ⟨a.val % 512, _⟩ b) * (RmsNorm.r (hRow m c ⟨P, ht⟩ ⟨a.val % 512, _⟩) * RmsNorm.r (hRow m c ⟨P, ht⟩ ⟨a.val % 512, _⟩) * RmsNorm.r (hRow m c ⟨P, ht⟩ ⟨a.val % 512, _⟩))
        * Ideal.div (∑ x : Fin 1024, acc m c P ht (ix2 ⟨a.val % 512, _⟩ x) * bG m c ⟨P, ht⟩ (ix2 0 x) * bH m c ⟨P, ht⟩ (ix2 ⟨a.val % 512, _⟩ x)) RmsNorm.len = _
  rw [hr, bD_apply m c ⟨P, ht⟩ _ b a ha, bH_apply m c ⟨P, ht⟩ _ b a ha, acc_odd m c ⟨P, ht⟩ (by dsimp only; omega) _ b a ha, bG_apply]
  refine congrArg (fun s => _ - _ * Ideal.div s _) (Finset.sum_congr rfl fun k _ => ?_)
  rw [bH_apply m c ⟨P, ht⟩ _ k a ha, acc_odd m c ⟨P, ht⟩ (by dsimp only; omega) _ k a ha, bG_apply]

/-- What the row `a` adds to the gradient of the normalisation's scale (zero past the last row). -/
def dgTerm (c : Dev nD) (b : Fin 1024) (a : ℕ) : EReal :=
  if h : a < 4096 then cot m c ⟨a, h⟩ b * aH m c (ix2 ⟨a, h⟩ b) * RmsNorm.r (row m c ⟨a, h⟩) else 0

/-- The gradient of the normalisation's scale after the `n`-th block: the sum over the rows seen. -/
theorem dg_upto (c : Dev nD) (b : Fin 1024) : ∀ (n : ℕ) (h : 2 * n + 1 < cfg0.N),
    dg m c (2 * n + 1) h (ix2 0 b) = ∑ a ∈ Finset.range ((n + 1) * 512), dgTerm m c b a
  | n, h => by
    have hN : cfg0.N = 16 := N_0
    rw [dg_odd m c ⟨2 * n + 1, h⟩ (by dsimp only; omega), Nat.add_mul, Finset.sum_range_add, one_mul]
    refine congrArg₂ _ ?_ ?_
    · change dg m c (2 * n) (by omega) _ = _
      match n, h with
      | 0, h => rw [dg_first m c ⟨0, by omega⟩ rfl]; rfl
      | n + 1, h =>
        rw [← dg_upto c b n (by omega)]
        exact dg_even m c ⟨2 * (n + 1), by omega⟩ (by dsimp only; omega) (by dsimp only; omega) _
    · rw [Finset.sum_range]
      refine Finset.sum_congr rfl fun x _ => ?_
      have hx : n * 512 + x.val < 4096 := by omega
      have ha : (⟨n * 512 + x.val, hx⟩ : Fin 4096).val = (⟨2 * n + 1, h⟩ : Fin cfg0.N).val / 2 * 512 + x.val := by
        simp only []; omega
      unfold dgTerm
      rw [dif_pos hx]
      have hr : hRow m c ⟨2 * n + 1, h⟩ x = row m c ⟨n * 512 + x.val, hx⟩ := funext fun k => bH_apply m c _ x k _ ha
      rw [hr]
      exact congrArg₂ (fun u v => u * v * _) (acc_odd m c ⟨2 * n + 1, h⟩ (by dsimp only; omega) x b _ ha) (bH_apply m c _ x b _ ha)

/-- The gradient of the normalisation's scale at an index. -/
theorem value_dg (c : Dev nD) (b : Fin 1024) :
    (G13 m c : S1x1024.Idx → EReal) (ix2 0 b) = ∑ a : Fin 4096, cot m c a b * aH m c (ix2 a b) * RmsNorm.r (row m c a) := by
  have hN : cfg0.N = 16 := N_0
  rw [G13_last, ← outsAt0_sweep m c 15 (by omega)]
  change dg m c (2 * 7 + 1) (by omega) _ = _
  rw [dg_upto, Finset.sum_range]
  exact Finset.sum_congr rfl fun a _ => dif_pos a.isLt

end Cert.InProjIdeal.Grad
end
-- ==== Proof.InProjRefValue.lean ====
module

public import proofs.«01_k».proof.Proof.Gen.InProjRefIdeal.Run
public import proofs.«01_k».proof.Proof.InProjSum
public import proofs.«01_k».proof.Proof.RmsNormBwd
public import Idealize.ShloMosaic.Lib.IdealHost
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.InProjRefIdeal.Grad

open Cert.InProjRefIdeal Cert.InProjRefIdeal.Gen Cert.InProjRefIdeal.Value

variable (m : (ℓ : Loc nD τ sig) → Buf (Elt Ideal) ℓ)

/-- The cotangent of the normalised input, as the reference computes it: the concatenated cotangents times the weights. -/
def cot {F : FTy → Type} [FloatOps F] (m : (ℓ : Loc nD τ sig) → Buf (Elt F) ℓ) (c : Dev nD) : FVec F S4096x1024 .f32 :=
  (Host.dotGeneral dot_S4096x6160_S1024x6160_S4096x1024_1_1_0_0_n_n none ((concatenate S4096x6160 1 [⟨S4096x1024, ((extf .f32 (m ((c.tc : Thread nD τ).loc main_arg0)) bitsLt_bf16_f32) : (⟨S4096x1024, .f32⟩ : BufTy).Contents (Elt F))⟩, ⟨S4096x1024, ((extf .f32 (m ((c.tc : Thread nD τ).loc main_arg1)) bitsLt_bf16_f32) : (⟨S4096x1024, .f32⟩ : BufTy).Contents (Elt F))⟩, ⟨S4096x1024, ((extf .f32 (m ((c.tc : Thread nD τ).loc main_arg2)) bitsLt_bf16_f32) : (⟨S4096x1024, .f32⟩ : BufTy).Contents (Elt F))⟩, ⟨S4096x1024, ((extf .f32 (m ((c.tc : Thread nD τ).loc main_arg3)) bitsLt_bf16_f32) : (⟨S4096x1024, .f32⟩ : BufTy).Contents (Elt F))⟩, ⟨S4096x16, ((m ((c.tc : Thread nD τ).loc main_arg4)) : (⟨S4096x16, .f32⟩ : BufTy).Contents (Elt F))⟩, ⟨S4096x1024, ((extf .f32 (m ((c.tc : Thread nD τ).loc main_arg5)) bitsLt_bf16_f32) : (⟨S4096x1024, .f32⟩ : BufTy).Contents (Elt F))⟩, ⟨S4096x1024, ((extf .f32 (m ((c.tc : Thread nD τ).loc main_arg6)) bitsLt_bf16_f32) : (⟨S4096x1024, .f32⟩ : BufTy).Contents (Elt F))⟩] concatenates_S4096x1024_S4096x1024_S4096x1024_S4096x1024_S4096x16_S4096x1024_S4096x1024_S4096x6160_d1 : (⟨S4096x6160, .f32⟩ : BufTy).Contents (Elt F))) (extf .f32 (m ((c.tc : Thread nD τ).loc main_arg7)) bitsLt_bf16_f32))

abbrev aQ (c : Dev nD) : S4096x1024.Idx → EReal := m ((c : Thread nD τ).loc main_arg0)
abbrev aK (c : Dev nD) : S4096x1024.Idx → EReal := m ((c : Thread nD τ).loc main_arg1)
abbrev aV (c : Dev nD) : S4096x1024.Idx → EReal := m ((c : Thread nD τ).loc main_arg2)
abbrev aZ (c : Dev nD) : S4096x1024.Idx → EReal := m ((c : Thread nD τ).loc main_arg3)
abbrev aF (c : Dev nD) : S4096x16.Idx → EReal := m ((c : Thread nD τ).loc main_arg4)
abbrev aU (c : Dev nD) : S4096x1024.Idx → EReal := m ((c : Thread nD τ).loc main_arg5)
abbrev aP (c : Dev nD) : S4096x1024.Idx → EReal := m ((c : Thread nD τ).loc main_arg6)
abbrev aW (c : Dev nD) : S1024x6160.Idx → EReal := m ((c : Thread nD τ).loc main_arg7)
abbrev aH (c : Dev nD) : S4096x1024.Idx → EReal := m ((c : Thread nD τ).loc main_arg8)
abbrev aD (c : Dev nD) : S4096x1024.Idx → EReal := m ((c : Thread nD τ).loc main_arg9)
abbrev aG (c : Dev nD) : S1x1024.Idx → EReal := m ((c : Thread nD τ).loc main_arg10)

/-- The cotangent of the normalised input at an index, segment by segment. -/
theorem cot_apply (c : Dev nD) (a : Fin 4096) (b : Fin 1024) :
    (cot m c : S4096x1024.Idx → EReal) (ix2 a b)
      = InProjSum.cot (fun k => aQ m c (ix2 a k)) (fun k => aK m c (ix2 a k)) (fun k => aV m c (ix2 a k)) (fun k => aZ m c (ix2 a k))
        (fun k => aF m c (ix2 a k)) (fun k => aU m c (ix2 a k)) (fun k => aP m c (ix2 a k)) (fun k => aW m c (ix2 b k)) := by
  rw [← InProjSum.cot_eq]
  unfold cot
  pointwise

/-- A row of the input. -/
abbrev row (c : Dev nD) (a : Fin 4096) : Fin 1024 → EReal := fun k => aH m c (ix2 a k)

/-- The input's gradient at an index, as the derivative of the forward lines gives it. -/
theorem dh_apply (c : Dev nD) (a : Fin 4096) (b : Fin 1024) :
    (res_main_v44 m c : S4096x1024.Idx → EReal) (ix2 a b)
      = ((aD m c (ix2 a b) + (cot m c : S4096x1024.Idx → EReal) (ix2 a b) * aG m c (ix2 0 b) * RmsNorm.r (row m c a))
        + aH m c (ix2 a b) * Ideal.div ((∑ k : Fin 1024, aH m c (ix2 a k) * ((cot m c : S4096x1024.Idx → EReal) (ix2 a k) * aG m c (ix2 0 k)))
          * (RmsNorm.negHalf * Ideal.div (RmsNorm.r (row m c a)) (RmsNorm.q (row m c a)))) RmsNorm.len)
        + Ideal.div ((∑ k : Fin 1024, aH m c (ix2 a k) * ((cot m c : S4096x1024.Idx → EReal) (ix2 a k) * aG m c (ix2 0 k)))
          * (RmsNorm.negHalf * Ideal.div (RmsNorm.r (row m c a)) (RmsNorm.q (row m c a)))) RmsNorm.len * aH m c (ix2 a b) := by
  unfold res_main_v44
  obtain ⟨D, hD⟩ : ∃ D, D = cot m c := ⟨_, rfl⟩
  unfold cot at hD ⊢
  rw [← hD]
  clear hD
  pointwise
  rw [Fin.sum_univ_one]
  rfl

/-- The gradient of the normalisation's scale, as the reference computes it. -/
def resDg {F : FTy → Type} [FloatOps F] (m : (ℓ : Loc nD τ sig) → Buf (Elt F) ℓ) (c : Dev nD) : FVec F S1x1024 .f32 :=
  shapeCast _ (Host.reduceAdd (mulf (mulf (m ((c.tc : Thread nD τ).loc main_arg8)) (broadcastInDim S4096x1024 ![0, 1] bcast_S4096x1_S4096x1024_0_1 (Host.rsqrt (addf (Host.divf (broadcastInDim S4096x1 ![0] bcast_S4096_S4096x1_0 (Host.reduceAdd (mulf (m ((c.tc : Thread nD τ).loc main_arg8)) (m ((c.tc : Thread nD τ).loc main_arg8))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (cot m c)) (constant S_ .f32 0x00000000#32) reducesTo_S4096x1024_S1024_d0 h_S_) shapeCasts_S1024_S1x1024

/-- The gradient of the normalisation's scale at an index. -/
theorem dg_apply (c : Dev nD) (b : Fin 1024) :
    (resDg m c : S1x1024.Idx → EReal) (ix2 0 b)
      = ∑ a : Fin 4096, aH m c (ix2 a b) * RmsNorm.r (row m c a) * (cot m c : S4096x1024.Idx → EReal) (ix2 a b) := by
  unfold resDg
  generalize cot m c = D
  pointwise
  rfl

end Cert.InProjRefIdeal.Grad
end
-- ==== Proof.InProjTie.lean ====
module

public import proofs.«01_k».proof.Proof.InProjValue
public import proofs.«01_k».proof.Proof.InProjRefValue

/-!
# The input projection's backward call gives the derivative

On memories that agree on the eleven arguments, the call's two result arrays are the reference's.
-/

@[expose] public section

set_option maxRecDepth 16384

noncomputable section

open Idealize.ShloMosaic Idealize.ShloMosaic.TcCoe Idealize.SL.Sem

namespace Cert.InProjTie

variable (m : (ℓ : Loc Cert.InProjIdeal.nD Cert.InProjIdeal.τ Cert.InProjIdeal.sig) → Buf (Elt Ideal) ℓ)
  (m' : (ℓ : Loc Cert.InProjRefIdeal.nD Cert.InProjRefIdeal.τ Cert.InProjRefIdeal.sig) → Buf (Elt Ideal) ℓ)
  (c : Dev Cert.InProjIdeal.nD)

open Cert.InProjIdeal.Grad

/-- The two memories hold the same arguments. -/
structure Agree : Prop where
  q : Cert.InProjRefIdeal.Grad.aQ m' c = aQ m c
  k : Cert.InProjRefIdeal.Grad.aK m' c = aK m c
  v : Cert.InProjRefIdeal.Grad.aV m' c = aV m c
  z : Cert.InProjRefIdeal.Grad.aZ m' c = aZ m c
  f : Cert.InProjRefIdeal.Grad.aF m' c = aF m c
  u : Cert.InProjRefIdeal.Grad.aU m' c = aU m c
  p : Cert.InProjRefIdeal.Grad.aP m' c = aP m c
  w : Cert.InProjRefIdeal.Grad.aW m' c = aW m c
  h : Cert.InProjRefIdeal.Grad.aH m' c = aH m c
  d : Cert.InProjRefIdeal.Grad.aD m' c = aD m c
  g : Cert.InProjRefIdeal.Grad.aG m' c = aG m c

variable {m m' c}

/-- The cotangents of the normalised input agree. -/
theorem cot_eq (e : Agree m m' c) (a : Fin 4096) (b : Fin 1024) :
    (Cert.InProjRefIdeal.Grad.cot m' c : Cert.InProjRefIdeal.S4096x1024.Idx → EReal) (ix2 a b) = cot m c a b := by
  rw [Cert.InProjRefIdeal.Grad.cot_apply, e.q, e.k, e.v, e.z, e.f, e.u, e.p, e.w]
  rfl

/-- The rows of the input agree. -/
theorem row_eq (e : Agree m m' c) (a : Fin 4096) : Cert.InProjRefIdeal.Grad.row m' c a = row m c a := by
  unfold Cert.InProjRefIdeal.Grad.row
  rw [e.h]

/-- The input's gradients agree. -/
theorem dh_eq (e : Agree m m' c) : (Cert.InProjRefIdeal.Value.res_main_v44 m' c : Cert.InProjIdeal.S4096x1024.Idx → EReal) = Cert.InProjIdeal.Value.G12 m c := by
  funext i
  obtain ⟨a, b, rfl⟩ : ∃ (a : Fin 4096) (b : Fin 1024), i = ix2 a b := ⟨i 0, i 1, by funext d; match d with | ⟨0, _⟩ => rfl | ⟨1, _⟩ => rfl⟩
  refine (Cert.InProjRefIdeal.Grad.dh_apply m' c a b).trans (Eq.trans ?_ (value_dh m c a b).symm)
  simp only [cot_eq e, row_eq e, e.h, e.d, e.g]
  rw [RmsNorm.bwd_eq]
  have s : ∑ k : Fin 1024, aH m c (ix2 a k) * (cot m c a k * aG m c (ix2 0 k)) = ∑ k : Fin 1024, cot m c a k * aG m c (ix2 0 k) * aH m c (ix2 a k) :=
    Finset.sum_congr rfl fun k _ => mul_comm _ _
  rw [s]

/-- The gradients of the normalisation's scale agree. -/
theorem dg_eq (e : Agree m m' c) : (Cert.InProjRefIdeal.Grad.resDg m' c : Cert.InProjIdeal.S1x1024.Idx → EReal) = Cert.InProjIdeal.Value.G13 m c := by
  funext i
  obtain ⟨b, rfl⟩ : ∃ (b : Fin 1024), i = ix2 0 b := ⟨i 1, by
    funext d
    match d with
    | ⟨0, _⟩ => exact Fin.ext (Nat.lt_one_iff.1 (i 0).isLt)
    | ⟨1, _⟩ => rfl⟩
  refine (Cert.InProjRefIdeal.Grad.dg_apply m' c b).trans (Eq.trans ?_ (value_dg m c b).symm)
  simp only [cot_eq e, row_eq e, e.h]
  exact Finset.sum_congr rfl fun a _ => by rw [mul_right_comm, mul_comm (aH m c _)]

end Cert.InProjTie
end
-- ==== Proof.OutBlock.lean ====
module

public import proofs.«01_k».proof.Proof.RmsNormBwd
public import Idealize.ShloMosaic.Lib.Pointwise

/-!
# The output block of a layer, a row at a time

One row of 1024 numbers of each input: the residual `h`, the attention's output `o` with the argument `z` of its SiLU gate,
the pooling's output `p`, and the 256 numbers of the per-layer input. The functions below are the lines of the layer, from the
two heads' gated outputs side by side (`cat`) to the residual stream the layer hands on (`h2`). Both programs are read off in
these terms.
-/

@[expose] public section

noncomputable section

open Idealize.ShloMosaic

namespace Cert.OutBlock

/-- The logistic function, as the programs write it. -/
def sigm (x : EReal) : EReal := Ideal.div 1 (1 + Ideal.exp (-x))

/-- The attention's output times SiLU of its gate's argument. -/
def gated (o z : EReal) : EReal := o * (z * sigm z)

/-- The gated attention output and the pooling output, side by side. -/
def cat (o z p : Fin 1024 → EReal) : Fin 2048 → EReal := fun k =>
  if h : k.val < 1024 then gated (o ⟨k.val, h⟩) (z ⟨k.val, h⟩) else p ⟨k.val - 1024, by omega⟩

/-- The output projection of a row. -/
def mix (x : Fin 2048 → EReal) (w : Fin 2048 → Fin 1024 → EReal) : Fin 1024 → EReal := fun b => ∑ k, x k * w k b

/-- The residual plus the normalised projection. -/
def h1 (h x g : Fin 1024 → EReal) : Fin 1024 → EReal := fun b => h b + x b * RmsNorm.r x * g b

/-- The gate of the per-layer input. -/
def gate (x : Fin 1024 → EReal) (w : Fin 1024 → Fin 1024 → EReal) : Fin 1024 → EReal := fun b => sigm (∑ k, x k * w k b)

/-- The projection of the per-layer input. -/
def pe (p : Fin 256 → EReal) (w : Fin 256 → Fin 1024 → EReal) : Fin 1024 → EReal := fun b => ∑ k, p k * w k b

/-- The first half of the columns. -/
theorem cat_left (o z p : Fin 1024 → EReal) (k : Fin 2048) (i : Fin 1024) (h : k.val = i.val) : cat o z p k = gated (o i) (z i) := by
  unfold cat
  rw [dif_pos (by omega)]
  exact congrArg₂ gated (congrArg o (Fin.ext h)) (congrArg z (Fin.ext h))

/-- The second half of the columns. -/
theorem cat_right (o z p : Fin 1024 → EReal) (k : Fin 2048) (i : Fin 1024) (h : k.val = 1024 + i.val) : cat o z p k = p i := by
  unfold cat
  rw [dif_neg (by omega)]
  exact congrArg p (Fin.ext (by simp only []; omega))

/-- The projection is the sum over the two halves of the columns. -/
theorem mix_split (o z p : Fin 1024 → EReal) (w : Fin 2048 → Fin 1024 → EReal) (b : Fin 1024) :
    mix (cat o z p) w b = ∑ k : Fin 1024, gated (o k) (z k) * w ⟨k.val, by omega⟩ b + ∑ k : Fin 1024, p k * w ⟨1024 + k.val, by omega⟩ b := by
  unfold mix
  rw [Fin.sum_univ_two_halves 1024 1024 rfl]
  refine congrArg₂ _ (Finset.sum_congr rfl fun k _ => ?_) (Finset.sum_congr rfl fun k _ => ?_)
  · exact congrArg (· * _) (cat_left o z p _ k rfl)
  · exact congrArg (· * _) (cat_right o z p _ k rfl)

end Cert.OutBlock
end
-- ==== Proof.OutGradFwd.lean ====
module

public import proofs.«01_k».proof.Proof.Gen.OutGradIdeal.Frame
public import proofs.«01_k».proof.Proof.OutBlock
public import Idealize.ShloMosaic.Lib.Pipeline.ValueKit
public import Idealize.ShloMosaic.Lib.Pipeline.ReadBack
public import Idealize.ShloMosaic.Lib.IdealHost
public import Idealize.ShloMosaic.Lib.Pointwise
public import Idealize.ShloMosaic.Lib.Tactic

/-!
# The output block's forward call, an entry at a time

What the call's six result arrays hold when its sixteen row blocks are done, as functions of the rows of the arguments.
-/

@[expose] public section

set_option maxRecDepth 16384

noncomputable section

open Idealize.ShloMosaic Idealize.ShloMosaic.TcCoe Idealize.SL.Sem

namespace Cert.OutGradIdeal.Grad

open Cert.OutGradIdeal Cert.OutGradIdeal.Gen

variable (x0 x1 x2 : Vec Ideal S256x1024 .f32) (x3 : Vec Ideal S256x1024 .bf16) (x4 : Vec Ideal S256x256 .f32) (x5 : Vec Ideal S2048x1024 .bf16)
  (x6 : Vec Ideal S1024x1024 .bf16) (x7 : Vec Ideal S256x1024 .bf16) (x8 : Vec Ideal S1x1024 .f32)

/-- The projection's block, before it is stored. -/
theorem mix_pay (r : Fin 256) (b : Fin 1024) :
    (k0_pay7 x2 x1 x3 (View.ld x5 r0_3) (View.ld x5 r0_4) : S256x1024.Idx → EReal) (ix2 r b)
      = OutBlock.mix (OutBlock.cat (fun k => x1 (ix2 r k)) (fun k => x2 (ix2 r k)) (fun k => x3 (ix2 r k))) (fun k b => x5 (ix2 k b)) b := by
  rw [OutBlock.mix_split]
  pointwise [k0_pay7, k0_pay6]
  simp only [zero_sub]
  rfl

theorem mix_blk (r : Fin 256) (b : Fin 1024) : (out0_10 x0 x1 x2 x3 x4 x5 x6 x7 x8 : S256x1024.Idx → EReal) (ix2 r b)
    = OutBlock.mix (OutBlock.cat (fun k => x1 (ix2 r k)) (fun k => x2 (ix2 r k)) (fun k => x3 (ix2 r k))) (fun k b => x5 (ix2 k b)) b := by
  rw [← mix_pay]
  frame_out

theorem h1_blk (r : Fin 256) (b : Fin 1024) : (out0_11 x0 x1 x2 x3 x4 x5 x6 x7 x8 : S256x1024.Idx → EReal) (ix2 r b)
    = OutBlock.h1 (fun b => x0 (ix2 r b)) (fun b => (out0_10 x0 x1 x2 x3 x4 x5 x6 x7 x8 : S256x1024.Idx → EReal) (ix2 r b)) (fun b => x8 (ix2 0 b)) b := by
  unfold out0_11 k0_pay9
  frame_out
  pointwise [k0_pay4, k0_pay1, k0_pay8]
  rfl

theorem gate_blk (r : Fin 256) (b : Fin 1024) : (out0_12 x0 x1 x2 x3 x4 x5 x6 x7 x8 : S256x1024.Idx → EReal) (ix2 r b)
    = OutBlock.gate (fun b => (out0_11 x0 x1 x2 x3 x4 x5 x6 x7 x8 : S256x1024.Idx → EReal) (ix2 r b)) (fun k b => x6 (ix2 k b)) b := by
  frame_out
  pointwise [k0_pay2, k0_pay4]
  simp only [zero_sub]
  rfl

theorem pe_blk (r : Fin 256) (b : Fin 1024) : (out0_13 x0 x1 x2 x3 x4 x5 x6 x7 x8 : S256x1024.Idx → EReal) (ix2 r b)
    = OutBlock.pe (fun b => x4 (ix2 r b)) (fun k b => x7 (ix2 k b)) b := by
  frame_out
  pointwise [k0_pay3]
  rfl

theorem h2_blk (r : Fin 256) (b : Fin 1024) : (out0_9 x0 x1 x2 x3 x4 x5 x6 x7 x8 : S256x1024.Idx → EReal) (ix2 r b)
    = (out0_11 x0 x1 x2 x3 x4 x5 x6 x7 x8 : S256x1024.Idx → EReal) (ix2 r b)
      + (out0_12 x0 x1 x2 x3 x4 x5 x6 x7 x8 : S256x1024.Idx → EReal) (ix2 r b) * (out0_13 x0 x1 x2 x3 x4 x5 x6 x7 x8 : S256x1024.Idx → EReal) (ix2 r b) := by
  frame_out
  pointwise [k0_pay5, k0_pay4]

theorem cat_blk (r : Fin 256) (b : Fin 2048) : (out0_14 x0 x1 x2 x3 x4 x5 x6 x7 x8 : S256x2048.Idx → EReal) (ix2 r b)
    = OutBlock.cat (fun k => x1 (ix2 r k)) (fun k => x2 (ix2 r k)) (fun k => x3 (ix2 r k)) b := by
  frame_out
  refine View.canon_apply_of_pieces (S := S256x2048) (e := .bf16) (Val := Elt Ideal) (fun j : S256x2048.Idx => OutBlock.cat (fun k => x1 (ix2 (j 0) k)) (fun k => x2 (ix2 (j 0) k)) (fun k => x3 (ix2 (j 0) k)) (j 1)) _ ?_ _ (cover0_14 _ _ _)
  intro p hp x
  rcases List.mem_cons.mp hp with rfl | hp
  · have e0 : (r0_2.emb x) 0 = x 0 := Fin.ext ((ValueKit.rect_emb_unit_val _ _ _ x 0).trans (zero_add _))
    have e1 : ((r0_2.emb x) 1).val = 1024 + (x 1).val := ValueKit.rect_emb_unit_val _ _ _ x 1
    refine Eq.trans ?_ (OutBlock.cat_right _ _ _ _ (x 1) e1).symm
    change x3 x = x3 (ix2 ((r0_2.emb x) 0) (x 1))
    rw [e0]
    exact congrArg x3 (eq_ix2 x)
  · rcases List.mem_singleton.mp hp with rfl
    have e0 : (r0_1.emb x) 0 = x 0 := Fin.ext ((ValueKit.rect_emb_unit_val _ _ _ x 0).trans (zero_add _))
    have e1 : ((r0_1.emb x) 1).val = (x 1).val := (ValueKit.rect_emb_unit_val _ _ _ x 1).trans (zero_add _)
    refine Eq.trans ?_ (OutBlock.cat_left _ _ _ _ (x 1) e1).symm
    change k0_pay6 x2 x1 x = OutBlock.gated (x1 (ix2 ((r0_1.emb x) 0) (x 1))) (x2 (ix2 ((r0_1.emb x) 0) (x 1)))
    rw [e0]
    pointwise [k0_pay6]
    simp only [zero_sub]
    rfl

/-! ## The arrays -/

variable (m : (ℓ : Loc nD τ sig) → Buf (Elt Ideal) ℓ) (ρ : Dev nD → PrngReg)

/-- The printed index maps, decided over the grid: point `t` is the row block `t`. -/
theorem idx0 : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] :=
  (by decide +kernel : ∀ t : Fin grid0.N, _)

/-- The arguments: the residual, the attention's output, its gate's argument, the pooling's output, the per-layer input, the
three weights, the normalisation's scale. -/
abbrev aH (c : Dev nD) : S4096x1024.Idx → EReal := m ((c : Thread nD τ).loc main_arg1)
abbrev aO (c : Dev nD) : S4096x1024.Idx → EReal := m ((c : Thread nD τ).loc main_arg2)
abbrev aZ (c : Dev nD) : S4096x1024.Idx → EReal := m ((c : Thread nD τ).loc main_arg3)
abbrev aU (c : Dev nD) : S4096x1024.Idx → EReal := m ((c : Thread nD τ).loc main_arg4)
abbrev aP (c : Dev nD) : S4096x256.Idx → EReal := m ((c : Thread nD τ).loc main_arg5)
abbrev aWo (c : Dev nD) : S2048x1024.Idx → EReal := m ((c : Thread nD τ).loc main_arg6)
abbrev aWg (c : Dev nD) : S1024x1024.Idx → EReal := m ((c : Thread nD τ).loc main_arg7)
abbrev aWe (c : Dev nD) : S256x1024.Idx → EReal := m ((c : Thread nD τ).loc main_arg8)
abbrev aG (c : Dev nD) : S1x1024.Idx → EReal := m ((c : Thread nD τ).loc main_arg9)

/-- The rows of the concatenation, the projection, the residual after it, the gate and the per-layer input's projection. -/
def cat (c : Dev nD) (a : Fin 4096) : Fin 2048 → EReal :=
  OutBlock.cat (fun k => aO m c (ix2 a k)) (fun k => aZ m c (ix2 a k)) (fun k => aU m c (ix2 a k))
def mix (c : Dev nD) (a : Fin 4096) : Fin 1024 → EReal := OutBlock.mix (cat m c a) (fun k b => aWo m c (ix2 k b))
def h1 (c : Dev nD) (a : Fin 4096) : Fin 1024 → EReal := OutBlock.h1 (fun b => aH m c (ix2 a b)) (mix m c a) (fun b => aG m c (ix2 0 b))
def gate (c : Dev nD) (a : Fin 4096) : Fin 1024 → EReal := OutBlock.gate (h1 m c a) (fun k b => aWg m c (ix2 k b))
def pe (c : Dev nD) (a : Fin 4096) : Fin 1024 → EReal := OutBlock.pe (fun k => aP m c (ix2 a k)) (fun k b => aWe m c (ix2 k b))

section Blocks
variable (c : Dev nD) (t : Fin cfg0.N) (r : Fin 256) (a : Fin 4096) (ha : a.val = t.val * 256 + r.val)
include ha

theorem bH_apply (k : Fin 1024) : (iblk0 (V0 m ρ) c 0 t : S256x1024.Idx → EReal) (ix2 r k) = aH m c (ix2 a k) := by blk_ext! [iblk0, (idx0 t).1]
theorem bO_apply (k : Fin 1024) : (iblk0 (V0 m ρ) c 1 t : S256x1024.Idx → EReal) (ix2 r k) = aO m c (ix2 a k) := by blk_ext! [iblk0, (idx0 t).2.1]
theorem bZ_apply (k : Fin 1024) : (iblk0 (V0 m ρ) c 2 t : S256x1024.Idx → EReal) (ix2 r k) = aZ m c (ix2 a k) := by blk_ext! [iblk0, (idx0 t).2.2.1]
theorem bU_apply (k : Fin 1024) : (iblk0 (V0 m ρ) c 3 t : S256x1024.Idx → EReal) (ix2 r k) = aU m c (ix2 a k) := by blk_ext! [iblk0, (idx0 t).2.2.2.1]
theorem bP_apply (k : Fin 256) : (iblk0 (V0 m ρ) c 4 t : S256x256.Idx → EReal) (ix2 r k) = aP m c (ix2 a k) := by blk_ext! [iblk0, (idx0 t).2.2.2.2.1]

end Blocks

theorem bWo_apply (c : Dev nD) (t : Fin cfg0.N) (k : Fin 2048) (b : Fin 1024) : (iblk0 (V0 m ρ) c 5 t : S2048x1024.Idx → EReal) (ix2 k b) = aWo m c (ix2 k b) := by
  blk_ext! [iblk0, (idx0 t).2.2.2.2.2.1]
theorem bWg_apply (c : Dev nD) (t : Fin cfg0.N) (k b : Fin 1024) : (iblk0 (V0 m ρ) c 6 t : S1024x1024.Idx → EReal) (ix2 k b) = aWg m c (ix2 k b) := by
  blk_ext! [iblk0, (idx0 t).2.2.2.2.2.2.1]
theorem bWe_apply (c : Dev nD) (t : Fin cfg0.N) (k : Fin 256) (b : Fin 1024) : (iblk0 (V0 m ρ) c 7 t : S256x1024.Idx → EReal) (ix2 k b) = aWe m c (ix2 k b) := by
  blk_ext! [iblk0, (idx0 t).2.2.2.2.2.2.2.1]
theorem bG_apply (c : Dev nD) (t : Fin cfg0.N) (b : Fin 1024) : (iblk0 (V0 m ρ) c 8 t : S1x1024.Idx → EReal) (ix2 0 b) = aG m c (ix2 0 b) := by
  blk_ext! [iblk0, (idx0 t).2.2.2.2.2.2.2.2.1]

/-! Row `r` of block `t` of a result is row `256 t + r` of the array. -/
section Places
variable (t : Fin cfg0.N) (r : Fin 256) (a : Fin 4096) (ha : a.val = t.val * 256 + r.val)
include ha

theorem place_h2 (b : Fin 1024) : (win0_9.blk t).view.emb (ix2 r b) = (ix2 a b : S4096x1024.Idx) := by
  funext d
  match d with
  | ⟨0, _⟩ => exact Fin.ext (by blk_simp [(idx0 t).2.2.2.2.2.2.2.2.2.1]; exact ha.symm)
  | ⟨1, _⟩ => exact Fin.ext (by blk_simp [(idx0 t).2.2.2.2.2.2.2.2.2.1])

theorem place_mix (b : Fin 1024) : (win0_10.blk t).view.emb (ix2 r b) = (ix2 a b : S4096x1024.Idx) := by
  funext d
  match d with
  | ⟨0, _⟩ => exact Fin.ext (by blk_simp [(idx0 t).2.2.2.2.2.2.2.2.2.2.1]; exact ha.symm)
  | ⟨1, _⟩ => exact Fin.ext (by blk_simp [(idx0 t).2.2.2.2.2.2.2.2.2.2.1])

theorem place_h1 (b : Fin 1024) : (win0_11.blk t).view.emb (ix2 r b) = (ix2 a b : S4096x1024.Idx) := by
  funext d
  match d with
  | ⟨0, _⟩ => exact Fin.ext (by blk_simp [(idx0 t).2.2.2.2.2.2.2.2.2.2.2.1]; exact ha.symm)
  | ⟨1, _⟩ => exact Fin.ext (by blk_simp [(idx0 t).2.2.2.2.2.2.2.2.2.2.2.1])

theorem place_gate (b : Fin 1024) : (win0_12.blk t).view.emb (ix2 r b) = (ix2 a b : S4096x1024.Idx) := by
  funext d
  match d with
  | ⟨0, _⟩ => exact Fin.ext (by blk_simp [(idx0 t).2.2.2.2.2.2.2.2.2.2.2.2.1]; exact ha.symm)
  | ⟨1, _⟩ => exact Fin.ext (by blk_simp [(idx0 t).2.2.2.2.2.2.2.2.2.2.2.2.1])

theorem place_pe (b : Fin 1024) : (win0_13.blk t).view.emb (ix2 r b) = (ix2 a b : S4096x1024.Idx) := by
  funext d
  match d with
  | ⟨0, _⟩ => exact Fin.ext (by blk_simp [(idx0 t).2.2.2.2.2.2.2.2.2.2.2.2.2.1]; exact ha.symm)
  | ⟨1, _⟩ => exact Fin.ext (by blk_simp [(idx0 t).2.2.2.2.2.2.2.2.2.2.2.2.2.1])

theorem place_cat (b : Fin 2048) : (win0_14.blk t).view.emb (ix2 r b) = (ix2 a b : S4096x2048.Idx) := by
  funext d
  match d with
  | ⟨0, _⟩ => exact Fin.ext (by blk_simp [(idx0 t).2.2.2.2.2.2.2.2.2.2.2.2.2.2]; exact ha.symm)
  | ⟨1, _⟩ => exact Fin.ext (by blk_simp [(idx0 t).2.2.2.2.2.2.2.2.2.2.2.2.2.2])

end Places

/-- The row of the arrays that row `r` of block `t` is. -/
def rowOf (t : Fin cfg0.N) (r : Fin 256) : Fin 4096 := ⟨t.val * 256 + r.val, by have h : t.val < 16 := t.isLt; omega⟩

section Rows
variable (c : Dev nD) (t : Fin cfg0.N) (r : Fin 256)

/-- A block of the projection. -/
theorem mix_at (b : Fin 1024) : (out0_10 (iblk0 (V0 m ρ) c 0 t) (iblk0 (V0 m ρ) c 1 t) (iblk0 (V0 m ρ) c 2 t) (iblk0 (V0 m ρ) c 3 t) (iblk0 (V0 m ρ) c 4 t) (iblk0 (V0 m ρ) c 5 t) (iblk0 (V0 m ρ) c 6 t) (iblk0 (V0 m ρ) c 7 t) (iblk0 (V0 m ρ) c 8 t)
    : S256x1024.Idx → EReal) (ix2 r b) = mix m c (rowOf t r) b := by
  rw [mix_blk]
  simp only [bO_apply m ρ c t r (rowOf t r) rfl, bZ_apply m ρ c t r (rowOf t r) rfl, bU_apply m ρ c t r (rowOf t r) rfl, bWo_apply]
  rfl

/-- A block of the residual. -/
theorem h1_at (b : Fin 1024) : (out0_11 (iblk0 (V0 m ρ) c 0 t) (iblk0 (V0 m ρ) c 1 t) (iblk0 (V0 m ρ) c 2 t) (iblk0 (V0 m ρ) c 3 t) (iblk0 (V0 m ρ) c 4 t) (iblk0 (V0 m ρ) c 5 t) (iblk0 (V0 m ρ) c 6 t) (iblk0 (V0 m ρ) c 7 t) (iblk0 (V0 m ρ) c 8 t)
    : S256x1024.Idx → EReal) (ix2 r b) = h1 m c (rowOf t r) b := by
  rw [h1_blk]
  simp only [mix_at, bH_apply m ρ c t r (rowOf t r) rfl, bG_apply]
  rfl

/-- A block of the gate. -/
theorem gate_at (b : Fin 1024) : (out0_12 (iblk0 (V0 m ρ) c 0 t) (iblk0 (V0 m ρ) c 1 t) (iblk0 (V0 m ρ) c 2 t) (iblk0 (V0 m ρ) c 3 t) (iblk0 (V0 m ρ) c 4 t) (iblk0 (V0 m ρ) c 5 t) (iblk0 (V0 m ρ) c 6 t) (iblk0 (V0 m ρ) c 7 t) (iblk0 (V0 m ρ) c 8 t)
    : S256x1024.Idx → EReal) (ix2 r b) = gate m c (rowOf t r) b := by
  rw [gate_blk]
  simp only [h1_at, bWg_apply]
  rfl

/-- A block of the per-layer input's projection. -/
theorem pe_at (b : Fin 1024) : (out0_13 (iblk0 (V0 m ρ) c 0 t) (iblk0 (V0 m ρ) c 1 t) (iblk0 (V0 m ρ) c 2 t) (iblk0 (V0 m ρ) c 3 t) (iblk0 (V0 m ρ) c 4 t) (iblk0 (V0 m ρ) c 5 t) (iblk0 (V0 m ρ) c 6 t) (iblk0 (V0 m ρ) c 7 t) (iblk0 (V0 m ρ) c 8 t)
    : S256x1024.Idx → EReal) (ix2 r b) = pe m c (rowOf t r) b := by
  rw [pe_blk]
  simp only [bP_apply m ρ c t r (rowOf t r) rfl, bWe_apply]
  rfl

/-- A block of the residual stream handed on. -/
theorem h2_at (b : Fin 1024) : (out0_9 (iblk0 (V0 m ρ) c 0 t) (iblk0 (V0 m ρ) c 1 t) (iblk0 (V0 m ρ) c 2 t) (iblk0 (V0 m ρ) c 3 t) (iblk0 (V0 m ρ) c 4 t) (iblk0 (V0 m ρ) c 5 t) (iblk0 (V0 m ρ) c 6 t) (iblk0 (V0 m ρ) c 7 t) (iblk0 (V0 m ρ) c 8 t)
    : S256x1024.Idx → EReal) (ix2 r b) = h1 m c (rowOf t r) b + gate m c (rowOf t r) b * pe m c (rowOf t r) b := by
  rw [h2_blk, h1_at, gate_at, pe_at]

/-- A block of the concatenation. -/
theorem cat_at (b : Fin 2048) : (out0_14 (iblk0 (V0 m ρ) c 0 t) (iblk0 (V0 m ρ) c 1 t) (iblk0 (V0 m ρ) c 2 t) (iblk0 (V0 m ρ) c 3 t) (iblk0 (V0 m ρ) c 4 t) (iblk0 (V0 m ρ) c 5 t) (iblk0 (V0 m ρ) c 6 t) (iblk0 (V0 m ρ) c 7 t) (iblk0 (V0 m ρ) c 8 t)
    : S256x2048.Idx → EReal) (ix2 r b) = cat m c (rowOf t r) b := by
  rw [cat_blk]
  simp only [bO_apply m ρ c t r (rowOf t r) rfl, bZ_apply m ρ c t r (rowOf t r) rfl, bU_apply m ρ c t r (rowOf t r) rfl]
  rfl

end Rows

/-- The residual stream handed on after the run. -/
theorem value_h2 (c : Dev nD) : (dat0 (V0 m ρ) c).arrAt 9 cfg0.N = (fun j : S4096x1024.Idx => h1 m c (j 0) (j 1) + gate m c (j 0) (j 1) * pe m c (j 0) (j 1)) := by
  refine (dat0 (V0 m ρ) c).arrAt_eq_of_covers 9 _ (by decide +kernel) fun t _ y => ?_
  blk_simp
  rw [after0_9]
  obtain ⟨r, b, rfl⟩ : ∃ r b, y = (ix2 r b : S256x1024.Idx) := ⟨_, _, eq_ix2 y⟩
  rw [place_h2 t r (rowOf t r) rfl b]
  exact h2_at m ρ c t r b

/-- The projection after the run. -/
theorem value_mix (c : Dev nD) : (dat0 (V0 m ρ) c).arrAt 10 cfg0.N = (fun j : S4096x1024.Idx => mix m c (j 0) (j 1)) := by
  refine (dat0 (V0 m ρ) c).arrAt_eq_of_covers 10 _ (by decide +kernel) fun t _ y => ?_
  blk_simp
  rw [after0_10]
  obtain ⟨r, b, rfl⟩ : ∃ r b, y = (ix2 r b : S256x1024.Idx) := ⟨_, _, eq_ix2 y⟩
  rw [place_mix t r (rowOf t r) rfl b]
  exact mix_at m ρ c t r b

/-- The residual after the projection after the run. -/
theorem value_h1 (c : Dev nD) : (dat0 (V0 m ρ) c).arrAt 11 cfg0.N = (fun j : S4096x1024.Idx => h1 m c (j 0) (j 1)) := by
  refine (dat0 (V0 m ρ) c).arrAt_eq_of_covers 11 _ (by decide +kernel) fun t _ y => ?_
  blk_simp
  rw [after0_11]
  obtain ⟨r, b, rfl⟩ : ∃ r b, y = (ix2 r b : S256x1024.Idx) := ⟨_, _, eq_ix2 y⟩
  rw [place_h1 t r (rowOf t r) rfl b]
  exact h1_at m ρ c t r b

/-- The gate after the run. -/
theorem value_gate (c : Dev nD) : (dat0 (V0 m ρ) c).arrAt 12 cfg0.N = (fun j : S4096x1024.Idx => gate m c (j 0) (j 1)) := by
  refine (dat0 (V0 m ρ) c).arrAt_eq_of_covers 12 _ (by decide +kernel) fun t _ y => ?_
  blk_simp
  rw [after0_12]
  obtain ⟨r, b, rfl⟩ : ∃ r b, y = (ix2 r b : S256x1024.Idx) := ⟨_, _, eq_ix2 y⟩
  rw [place_gate t r (rowOf t r) rfl b]
  exact gate_at m ρ c t r b

/-- The per-layer input's projection after the run. -/
theorem value_pe (c : Dev nD) : (dat0 (V0 m ρ) c).arrAt 13 cfg0.N = (fun j : S4096x1024.Idx => pe m c (j 0) (j 1)) := by
  refine (dat0 (V0 m ρ) c).arrAt_eq_of_covers 13 _ (by decide +kernel) fun t _ y => ?_
  blk_simp
  rw [after0_13]
  obtain ⟨r, b, rfl⟩ : ∃ r b, y = (ix2 r b : S256x1024.Idx) := ⟨_, _, eq_ix2 y⟩
  rw [place_pe t r (rowOf t r) rfl b]
  exact pe_at m ρ c t r b

/-- The concatenation after the run. -/
theorem value_cat (c : Dev nD) : (dat0 (V0 m ρ) c).arrAt 14 cfg0.N = (fun j : S4096x2048.Idx => cat m c (j 0) (j 1)) := by
  refine (dat0 (V0 m ρ) c).arrAt_eq_of_covers 14 _ (by decide +kernel) fun t _ y => ?_
  blk_simp
  rw [after0_14]
  obtain ⟨r, b, rfl⟩ : ∃ r b, y = (ix2 r b : S256x2048.Idx) := ⟨_, _, eq_ix2 y⟩
  rw [place_cat t r (rowOf t r) rfl b]
  exact cat_at m ρ c t r b

end Cert.OutGradIdeal.Grad
end
-- ==== Proof.OutBlockBwd.lean ====
module

public import proofs.«01_k».proof.Proof.OutBlock

/-!
# The output block's gradients, a row at a time

One row of each array. `d` is the cotangent of the residual stream the layer hands on, `s` the gate of the per-layer input and
`p` the per-layer input's projection; `x` is the row of the output projection, which the normalisation of scale `g` reads. The
functions below go back through the layer: to the two factors of the gated input (`dpe`, `dgp`), to the residual (`dh1`), through
the normalisation to the projection (`dmix`), and through the projection to the two heads side by side (`dcat`).
-/

@[expose] public section

noncomputable section

open Idealize.ShloMosaic

namespace Cert.OutBlock

/-- The two halves of the concatenation's columns: the attention's, then the pooling's. -/
def lo (b : Fin 1024) : Fin 2048 := ⟨b.val, by omega⟩
def hi (b : Fin 1024) : Fin 2048 := ⟨1024 + b.val, by omega⟩

/-- The gradient of the per-layer input's projection. -/
def dpe (d s : Fin 1024 → EReal) : Fin 1024 → EReal := fun b => d b * s b

/-- The gradient of the gate's argument: the logistic function's derivative is `s (1 - s)`. -/
def dgp (d s p : Fin 1024 → EReal) : Fin 1024 → EReal := fun b => d b * p b * s b * (1 - s b)

/-- The gradient of the residual: the cotangent itself and what comes back through the gate. -/
def dh1 (d s p : Fin 1024 → EReal) (w : Fin 1024 → Fin 1024 → EReal) : Fin 1024 → EReal := fun b => d b + ∑ k, dgp d s p k * w b k

/-- The gradient of the projection, through the normalisation, of the cotangent `y`. -/
def dmix (y x g : Fin 1024 → EReal) : Fin 1024 → EReal := fun b =>
  RmsNorm.r x * (y b * g b) - x b * (RmsNorm.r x * RmsNorm.r x * RmsNorm.r x) * Ideal.div (∑ k, y k * g k * x k) RmsNorm.len

/-- The gradient of the concatenation, of the cotangent `u` of the projection. -/
def dcat (u : Fin 1024 → EReal) (w : Fin 2048 → Fin 1024 → EReal) : Fin 2048 → EReal := fun b => ∑ k, u k * w b k

end Cert.OutBlock
end
-- ==== Proof.OutGradBwd.lean ====
module

public import proofs.«01_k».proof.Proof.Gen.OutGradIdeal.Frame
public import proofs.«01_k».proof.Proof.OutBlockBwd
public import Idealize.ShloMosaic.Lib.Pipeline.ValueKit
public import Idealize.ShloMosaic.Lib.Pipeline.ReadBack
public import Idealize.ShloMosaic.Lib.IdealHost
public import Idealize.ShloMosaic.Lib.Pointwise
public import Idealize.ShloMosaic.Lib.Tactic

/-!
# The output block's backward call, an entry at a time

What the call's result arrays hold when its sixteen row blocks are done, as functions of the rows of the arrays it reads, whatever
those hold when it starts. Seven results are read off: the gradients of the residual, of the gate's argument, of the per-layer
input's projection, of the output projection, of the attention's output, of the pooling's output, and of the normalisation's
scale, which is carried from block to block as a running sum.
-/

@[expose] public section

set_option maxRecDepth 16384

noncomputable section

open Idealize.ShloMosaic Idealize.ShloMosaic.TcCoe Idealize.SL.Sem

namespace Cert.OutGradIdeal.Grad

open Cert.OutGradIdeal Cert.OutGradIdeal.Gen

/-! ## The values the body stores -/

section Pays
variable (d s p y x a z : Vec Ideal S256x1024 .f32) (g e : Vec Ideal S1x1024 .f32) (w : Vec Ideal S1024x1024 .bf16) (r : Fin 256) (b : Fin 1024)

theorem dpe_pay : (k1_pay7 d s : S256x1024.Idx → EReal) (ix2 r b) = OutBlock.dpe (fun k => d (ix2 r k)) (fun k => s (ix2 r k)) b := by
  pointwise [k1_pay7, k1_pay6]
  rfl

theorem dgp_pay : (k1_pay8 d s p : S256x1024.Idx → EReal) (ix2 r b)
    = OutBlock.dgp (fun k => d (ix2 r k)) (fun k => s (ix2 r k)) (fun k => p (ix2 r k)) b := by
  pointwise [k1_pay8, k1_pay6]
  rfl

theorem dh1_pay : (k1_pay9 d s p w : S256x1024.Idx → EReal) (ix2 r b)
    = OutBlock.dh1 (fun k => d (ix2 r k)) (fun k => s (ix2 r k)) (fun k => p (ix2 r k)) (fun b k => w (ix2 b k)) b := by
  unfold OutBlock.dh1
  simp only [← dgp_pay]
  pointwise [k1_pay9]

theorem dg_pay : (k1_pay12 y (k1_pay10 x) (k1_pay11 x) e : S1x1024.Idx → EReal) (ix2 0 b)
    = e (ix2 0 b) + ∑ r : Fin 256, y (ix2 r b) * x (ix2 r b) * RmsNorm.r (fun k => x (ix2 r k)) := by
  pointwise [k1_pay12, k1_pay10, k1_pay11]
  rfl

theorem dmix_pay : (k1_pay13 y (k1_pay10 x) (k1_pay11 x) g : S256x1024.Idx → EReal) (ix2 r b)
    = OutBlock.dmix (fun k => y (ix2 r k)) (fun k => x (ix2 r k)) (fun k => g (ix2 0 k)) b := by
  pointwise [k1_pay13, k1_pay10, k1_pay11]
  rfl

theorem dattn_pay : (k1_pay14 y (k1_pay10 x) (k1_pay11 x) g w : S256x1024.Idx → EReal) (ix2 r b)
    = ∑ k, OutBlock.dmix (fun k => y (ix2 r k)) (fun k => x (ix2 r k)) (fun k => g (ix2 0 k)) k * w (ix2 b k) := by
  simp only [← dmix_pay]
  pointwise [k1_pay14]

theorem dpool_pay : (k1_pay15 y (k1_pay10 x) (k1_pay11 x) g w : S256x1024.Idx → EReal) (ix2 r b)
    = ∑ k, OutBlock.dmix (fun k => y (ix2 r k)) (fun k => x (ix2 r k)) (fun k => g (ix2 0 k)) k * w (ix2 b k) := by
  simp only [← dmix_pay]
  pointwise [k1_pay15]

theorem do_pay : (k1_pay2 a z k1_pay16 : S256x1024.Idx → EReal) (ix2 r b)
    = a (ix2 r b) * (z (ix2 r b) * OutBlock.sigm (z (ix2 r b))) := by
  pointwise [k1_pay2, k1_pay1, k1_pay16]
  simp only [zero_sub]
  rfl

theorem zero_pay : (k1_pay5 (F := Ideal) : S1x1024.Idx → EReal) (ix2 0 b) = 0 := by
  pointwise [k1_pay5]

end Pays

/-! ## The blocks at a point, at any contents `V` the arrays have when the call starts -/

variable (V : (c : Dev nD) → (b : Ref sig .tc) → Buf (Elt Ideal) ((c : Thread nD τ).loc b))

/-- The printed index maps, decided over the grid: point `t` is the row block `t`; the weights, the scale and its gradient are whole. -/
theorem idx1 : ∀ t : Fin cfg1.N, win1_0.index t = ![t.val, 0] ∧ win1_1.index t = ![t.val, 0]
    ∧ win1_2.index t = ![t.val, 0] ∧ win1_3.index t = ![t.val, 0] ∧ win1_4.index t = ![t.val, 0] ∧ win1_5.index t = ![t.val, 0]
    ∧ win1_6.index t = ![0, 0] ∧ win1_7.index t = ![0, 0] ∧ win1_8.index t = ![0, 0]
    ∧ win1_10.index t = ![t.val, 0] ∧ win1_11.index t = ![t.val, 0] ∧ win1_12.index t = ![t.val, 0] ∧ win1_13.index t = ![t.val, 0]
    ∧ win1_14.index t = ![t.val, 0] ∧ win1_16.index t = ![t.val, 0] ∧ win1_18.index t = ![0, 0] :=
  (by decide +kernel : ∀ t : Fin grid1.N, _)

/-- The arrays the call reads: the cotangent, the gate, the per-layer input's projection, the output projection, the attention's
output, its gate's argument, the two weights and the normalisation's scale. -/
abbrev vD (c : Dev nD) : S4096x1024.Idx → EReal := V c main_arg0
abbrev vS (c : Dev nD) : S4096x1024.Idx → EReal := V c main_v0_3
abbrev vE (c : Dev nD) : S4096x1024.Idx → EReal := V c main_v0_4
abbrev vX (c : Dev nD) : S4096x1024.Idx → EReal := V c main_v0_1
abbrev vO (c : Dev nD) : S4096x1024.Idx → EReal := V c main_arg2
abbrev vZ (c : Dev nD) : S4096x1024.Idx → EReal := V c main_arg3
abbrev vWg (c : Dev nD) : S1024x1024.Idx → EReal := V c main_arg7
abbrev vWo (c : Dev nD) : S2048x1024.Idx → EReal := V c main_arg6
abbrev vG (c : Dev nD) : S1x1024.Idx → EReal := V c main_arg9

/-- Their blocks. -/
abbrev kD (c : Dev nD) (t : Fin cfg1.N) : S256x1024.Idx → EReal := iblk1 V c 0 t
abbrev kS (c : Dev nD) (t : Fin cfg1.N) : S256x1024.Idx → EReal := iblk1 V c 1 t
abbrev kE (c : Dev nD) (t : Fin cfg1.N) : S256x1024.Idx → EReal := iblk1 V c 2 t
abbrev kX (c : Dev nD) (t : Fin cfg1.N) : S256x1024.Idx → EReal := iblk1 V c 3 t
abbrev kO (c : Dev nD) (t : Fin cfg1.N) : S256x1024.Idx → EReal := iblk1 V c 4 t
abbrev kZ (c : Dev nD) (t : Fin cfg1.N) : S256x1024.Idx → EReal := iblk1 V c 5 t
abbrev kWg (c : Dev nD) (t : Fin cfg1.N) : S1024x1024.Idx → EReal := iblk1 V c 6 t
abbrev kWo (c : Dev nD) (t : Fin cfg1.N) : S2048x1024.Idx → EReal := iblk1 V c 7 t
abbrev kG (c : Dev nD) (t : Fin cfg1.N) : S1x1024.Idx → EReal := iblk1 V c 8 t

section Blocks
variable (c : Dev nD) (t : Fin cfg1.N) (r : Fin 256) (a : Fin 4096) (ha : a.val = t.val * 256 + r.val)
include ha

theorem kD_apply (k : Fin 1024) : kD V c t (ix2 r k) = vD V c (ix2 a k) := by blk_ext! [iblk1, (idx1 t).1]
theorem kS_apply (k : Fin 1024) : kS V c t (ix2 r k) = vS V c (ix2 a k) := by blk_ext! [iblk1, (idx1 t).2.1]
theorem kE_apply (k : Fin 1024) : kE V c t (ix2 r k) = vE V c (ix2 a k) := by blk_ext! [iblk1, (idx1 t).2.2.1]
theorem kX_apply (k : Fin 1024) : kX V c t (ix2 r k) = vX V c (ix2 a k) := by blk_ext! [iblk1, (idx1 t).2.2.2.1]
theorem kO_apply (k : Fin 1024) : kO V c t (ix2 r k) = vO V c (ix2 a k) := by blk_ext! [iblk1, (idx1 t).2.2.2.2.1]
theorem kZ_apply (k : Fin 1024) : kZ V c t (ix2 r k) = vZ V c (ix2 a k) := by blk_ext! [iblk1, (idx1 t).2.2.2.2.2.1]

end Blocks

theorem kWg_apply (c : Dev nD) (t : Fin cfg1.N) (k b : Fin 1024) : kWg V c t (ix2 k b) = vWg V c (ix2 k b) := by
  blk_ext! [iblk1, (idx1 t).2.2.2.2.2.2.1]
theorem kWo_apply (c : Dev nD) (t : Fin cfg1.N) (k : Fin 2048) (b : Fin 1024) : kWo V c t (ix2 k b) = vWo V c (ix2 k b) := by
  blk_ext! [iblk1, (idx1 t).2.2.2.2.2.2.2.1]
theorem kG_apply (c : Dev nD) (t : Fin cfg1.N) (b : Fin 1024) : kG V c t (ix2 0 b) = vG V c (ix2 0 b) := by
  blk_ext! [iblk1, (idx1 t).2.2.2.2.2.2.2.2.1]

/-! Row `r` of block `t` of a result is row `256 t + r` of the array. -/
section Places
variable (t : Fin cfg1.N) (r : Fin 256) (a : Fin 4096) (ha : a.val = t.val * 256 + r.val)
include ha

theorem place_dh1 (b : Fin 1024) : (win1_10.blk t).view.emb (ix2 r b) = (ix2 a b : S4096x1024.Idx) := by
  funext d
  match d with
  | ⟨0, _⟩ => exact Fin.ext (by blk_simp [(idx1 t).2.2.2.2.2.2.2.2.2.1]; exact ha.symm)
  | ⟨1, _⟩ => exact Fin.ext (by blk_simp [(idx1 t).2.2.2.2.2.2.2.2.2.1])

theorem place_dgp (b : Fin 1024) : (win1_11.blk t).view.emb (ix2 r b) = (ix2 a b : S4096x1024.Idx) := by
  funext d
  match d with
  | ⟨0, _⟩ => exact Fin.ext (by blk_simp [(idx1 t).2.2.2.2.2.2.2.2.2.2.1]; exact ha.symm)
  | ⟨1, _⟩ => exact Fin.ext (by blk_simp [(idx1 t).2.2.2.2.2.2.2.2.2.2.1])

theorem place_dpe (b : Fin 1024) : (win1_12.blk t).view.emb (ix2 r b) = (ix2 a b : S4096x1024.Idx) := by
  funext d
  match d with
  | ⟨0, _⟩ => exact Fin.ext (by blk_simp [(idx1 t).2.2.2.2.2.2.2.2.2.2.2.1]; exact ha.symm)
  | ⟨1, _⟩ => exact Fin.ext (by blk_simp [(idx1 t).2.2.2.2.2.2.2.2.2.2.2.1])

theorem place_dmix (b : Fin 1024) : (win1_13.blk t).view.emb (ix2 r b) = (ix2 a b : S4096x1024.Idx) := by
  funext d
  match d with
  | ⟨0, _⟩ => exact Fin.ext (by blk_simp [(idx1 t).2.2.2.2.2.2.2.2.2.2.2.2.1]; exact ha.symm)
  | ⟨1, _⟩ => exact Fin.ext (by blk_simp [(idx1 t).2.2.2.2.2.2.2.2.2.2.2.2.1])

theorem place_do (b : Fin 1024) : (win1_14.blk t).view.emb (ix2 r b) = (ix2 a b : S4096x1024.Idx) := by
  funext d
  match d with
  | ⟨0, _⟩ => exact Fin.ext (by blk_simp [(idx1 t).2.2.2.2.2.2.2.2.2.2.2.2.2.1]; exact ha.symm)
  | ⟨1, _⟩ => exact Fin.ext (by blk_simp [(idx1 t).2.2.2.2.2.2.2.2.2.2.2.2.2.1])

theorem place_dpool (b : Fin 1024) : (win1_16.blk t).view.emb (ix2 r b) = (ix2 a b : S4096x1024.Idx) := by
  funext d
  match d with
  | ⟨0, _⟩ => exact Fin.ext (by blk_simp [(idx1 t).2.2.2.2.2.2.2.2.2.2.2.2.2.2.1]; exact ha.symm)
  | ⟨1, _⟩ => exact Fin.ext (by blk_simp [(idx1 t).2.2.2.2.2.2.2.2.2.2.2.2.2.2.1])

end Places

theorem place_dg (t : Fin cfg1.N) (b : Fin 1024) : (win1_18.blk t).view.emb (ix2 0 b) = (ix2 0 b : S1x1024.Idx) := by
  funext d
  match d with
  | ⟨0, _⟩ => exact Fin.ext (by blk_simp [(idx1 t).2.2.2.2.2.2.2.2.2.2.2.2.2.2.2])
  | ⟨1, _⟩ => exact Fin.ext (by blk_simp [(idx1 t).2.2.2.2.2.2.2.2.2.2.2.2.2.2.2])

/-! ## The points -/

/-- Rows of the blocks, and the gradients they make. -/
abbrev rowD (c : Dev nD) (t : Fin cfg1.N) (r : Fin 256) : Fin 1024 → EReal := fun k => kD V c t (ix2 r k)
abbrev rowS (c : Dev nD) (t : Fin cfg1.N) (r : Fin 256) : Fin 1024 → EReal := fun k => kS V c t (ix2 r k)
abbrev rowE (c : Dev nD) (t : Fin cfg1.N) (r : Fin 256) : Fin 1024 → EReal := fun k => kE V c t (ix2 r k)
abbrev rowX (c : Dev nD) (t : Fin cfg1.N) (r : Fin 256) : Fin 1024 → EReal := fun k => kX V c t (ix2 r k)
abbrev rowY (c : Dev nD) (t : Fin cfg1.N) (r : Fin 256) : Fin 1024 → EReal :=
  OutBlock.dh1 (rowD V c t r) (rowS V c t r) (rowE V c t r) (fun b k => kWg V c t (ix2 b k))
abbrev rowU (c : Dev nD) (t : Fin cfg1.N) (r : Fin 256) : Fin 1024 → EReal :=
  OutBlock.dmix (rowY V c t r) (rowX V c t r) (fun k => kG V c t (ix2 0 k))
abbrev rowC (c : Dev nD) (t : Fin cfg1.N) (r : Fin 256) : Fin 2048 → EReal := OutBlock.dcat (rowU V c t r) (fun b k => kWo V c t (ix2 b k))

section Points
variable (c : Dev nD) (t : Fin cfg1.N) (r : Fin 256) (b : Fin 1024)

theorem pt_dh1 : ((outsAt1 V c t.val t.isLt).1 : S256x1024.Idx → EReal) (ix2 r b) = rowY V c t r b := by
  by_cases h0 : t.val % 16 = 0
  · rw [outsAt1_A V c t h0]
    dsimp only
    frame_out
    exact dh1_pay _ _ _ _ r b
  · rw [outsAt1_B V c t h0]
    dsimp only
    frame_out
    exact dh1_pay _ _ _ _ r b

theorem pt_dgp : ((outsAt1 V c t.val t.isLt).2.1 : S256x1024.Idx → EReal) (ix2 r b) = OutBlock.dgp (rowD V c t r) (rowS V c t r) (rowE V c t r) b := by
  by_cases h0 : t.val % 16 = 0
  · rw [outsAt1_A V c t h0]
    dsimp only
    frame_out
    exact dgp_pay _ _ _ r b
  · rw [outsAt1_B V c t h0]
    dsimp only
    frame_out
    exact dgp_pay _ _ _ r b

theorem pt_dpe : ((outsAt1 V c t.val t.isLt).2.2.1 : S256x1024.Idx → EReal) (ix2 r b) = OutBlock.dpe (rowD V c t r) (rowS V c t r) b := by
  by_cases h0 : t.val % 16 = 0
  · rw [outsAt1_A V c t h0]
    dsimp only
    frame_out
    exact dpe_pay _ _ r b
  · rw [outsAt1_B V c t h0]
    dsimp only
    frame_out
    exact dpe_pay _ _ r b

theorem pt_dmix : ((outsAt1 V c t.val t.isLt).2.2.2.1 : S256x1024.Idx → EReal) (ix2 r b) = rowU V c t r b := by
  by_cases h0 : t.val % 16 = 0
  · rw [outsAt1_A V c t h0]
    dsimp only
    frame_out
    refine (dmix_pay _ _ _ r b).trans ?_
    simp only [dh1_pay]
  · rw [outsAt1_B V c t h0]
    dsimp only
    frame_out
    refine (dmix_pay _ _ _ r b).trans ?_
    simp only [dh1_pay]

theorem pt_do : ((outsAt1 V c t.val t.isLt).2.2.2.2.1 : S256x1024.Idx → EReal) (ix2 r b) = rowC V c t r (OutBlock.lo b) * (kZ V c t (ix2 r b) * OutBlock.sigm (kZ V c t (ix2 r b))) := by
  by_cases h0 : t.val % 16 = 0
  · rw [outsAt1_A V c t h0]
    dsimp only
    frame_out
    rw [do_pay, dattn_pay]
    simp only [dh1_pay]
    pointwise
    rfl
  · rw [outsAt1_B V c t h0]
    dsimp only
    frame_out
    rw [do_pay, dattn_pay]
    simp only [dh1_pay]
    pointwise
    rfl

theorem pt_dpool : ((outsAt1 V c t.val t.isLt).2.2.2.2.2.2.1 : S256x1024.Idx → EReal) (ix2 r b) = rowC V c t r (OutBlock.hi b) := by
  by_cases h0 : t.val % 16 = 0
  · rw [outsAt1_A V c t h0]
    dsimp only
    frame_out
    rw [dpool_pay]
    simp only [dh1_pay]
    pointwise
    rfl
  · rw [outsAt1_B V c t h0]
    dsimp only
    frame_out
    rw [dpool_pay]
    simp only [dh1_pay]
    pointwise
    rfl

/-- The gradient of the normalisation's scale at the first point: its own rows. -/
theorem pt_dg_first (h0 : t.val % 16 = 0) : ((outsAt1 V c t.val t.isLt).2.2.2.2.2.2.2.2 : S1x1024.Idx → EReal) (ix2 0 b)
    = 0 + ∑ r : Fin 256, rowY V c t r b * kX V c t (ix2 r b) * RmsNorm.r (rowX V c t r) := by
  rw [outsAt1_A V c t h0]
  dsimp only
  frame_out
  refine (dg_pay _ _ _ b).trans ?_
  simp only [dh1_pay, zero_pay]

/-- A later point adds its rows. -/
theorem pt_dg_next (h0 : ¬ t.val % 16 = 0) : ((outsAt1 V c t.val t.isLt).2.2.2.2.2.2.2.2 : S1x1024.Idx → EReal) (ix2 0 b)
    = ((outsAt1 V c (t.val - 1) (Nat.lt_of_le_of_lt (Nat.sub_le _ _) t.isLt)).2.2.2.2.2.2.2.2 : S1x1024.Idx → EReal) (ix2 0 b)
      + ∑ r : Fin 256, rowY V c t r b * kX V c t (ix2 r b) * RmsNorm.r (rowX V c t r) := by
  rw [outsAt1_B V c t h0]
  dsimp only
  frame_out
  refine (dg_pay _ _ _ b).trans ?_
  simp only [dh1_pay]

end Points

/-! ## The arrays -/

/-- The row of the arrays that row `r` of block `t` is. -/
def rowAt (t : Fin cfg1.N) (r : Fin 256) : Fin 4096 := ⟨t.val * 256 + r.val, by have h : t.val < 16 := t.isLt; omega⟩

/-- Rows of the arrays, and the gradients they make: of the residual (`Y`), of the projection (`U`) and of the concatenation (`C`). -/
def aRowD (c : Dev nD) (a : Fin 4096) : Fin 1024 → EReal := fun k => vD V c (ix2 a k)
def aRowS (c : Dev nD) (a : Fin 4096) : Fin 1024 → EReal := fun k => vS V c (ix2 a k)
def aRowE (c : Dev nD) (a : Fin 4096) : Fin 1024 → EReal := fun k => vE V c (ix2 a k)
def aRowX (c : Dev nD) (a : Fin 4096) : Fin 1024 → EReal := fun k => vX V c (ix2 a k)
def aRowY (c : Dev nD) (a : Fin 4096) : Fin 1024 → EReal :=
  OutBlock.dh1 (aRowD V c a) (aRowS V c a) (aRowE V c a) (fun b k => vWg V c (ix2 b k))
def aRowU (c : Dev nD) (a : Fin 4096) : Fin 1024 → EReal := OutBlock.dmix (aRowY V c a) (aRowX V c a) (fun k => vG V c (ix2 0 k))
def aRowC (c : Dev nD) (a : Fin 4096) : Fin 2048 → EReal := OutBlock.dcat (aRowU V c a) (fun b k => vWo V c (ix2 b k))

section Rows
variable (c : Dev nD) (t : Fin cfg1.N) (r : Fin 256)

theorem rowD_eq : rowD V c t r = aRowD V c (rowAt t r) := funext fun k => kD_apply V c t r (rowAt t r) rfl k
theorem rowS_eq : rowS V c t r = aRowS V c (rowAt t r) := funext fun k => kS_apply V c t r (rowAt t r) rfl k
theorem rowE_eq : rowE V c t r = aRowE V c (rowAt t r) := funext fun k => kE_apply V c t r (rowAt t r) rfl k
theorem rowX_eq : rowX V c t r = aRowX V c (rowAt t r) := funext fun k => kX_apply V c t r (rowAt t r) rfl k
theorem wg_eq : (fun b k => kWg V c t (ix2 b k)) = fun (b k : Fin 1024) => vWg V c (ix2 b k) := funext fun b => funext fun k => kWg_apply V c t b k
theorem wo_eq : (fun b k => kWo V c t (ix2 b k)) = fun (b : Fin 2048) (k : Fin 1024) => vWo V c (ix2 b k) := funext fun b => funext fun k => kWo_apply V c t b k
theorem g_eq : (fun k => kG V c t (ix2 0 k)) = fun (k : Fin 1024) => vG V c (ix2 0 k) := funext fun k => kG_apply V c t k
theorem rowY_eq : rowY V c t r = aRowY V c (rowAt t r) := by
  unfold rowY aRowY
  rw [rowD_eq, rowS_eq, rowE_eq, wg_eq]
theorem rowU_eq : rowU V c t r = aRowU V c (rowAt t r) := by
  unfold rowU aRowU
  rw [rowY_eq, rowX_eq, g_eq]
theorem rowC_eq : rowC V c t r = aRowC V c (rowAt t r) := by
  unfold rowC aRowC
  rw [rowU_eq, wo_eq]

end Rows

/-- The gradient of the residual after the run. -/
theorem value_dh1 (c : Dev nD) : (dat1 V c).arrAt 10 cfg1.N = (fun j : S4096x1024.Idx => aRowY V c (j 0) (j 1)) := by
  refine (dat1 V c).arrAt_eq_of_covers 10 _ (by decide +kernel) fun t _ y => ?_
  blk_simp
  rw [after1_10]
  obtain ⟨r, b, rfl⟩ : ∃ r b, y = (ix2 r b : S256x1024.Idx) := ⟨_, _, eq_ix2 y⟩
  rw [place_dh1 t r (rowAt t r) rfl b]
  refine (pt_dh1 V c t r b).trans ?_
  rw [rowY_eq]
  rfl

/-- The gradient of the gate's argument after the run. -/
theorem value_dgp (c : Dev nD) : (dat1 V c).arrAt 11 cfg1.N = (fun j : S4096x1024.Idx => OutBlock.dgp (aRowD V c (j 0)) (aRowS V c (j 0)) (aRowE V c (j 0)) (j 1)) := by
  refine (dat1 V c).arrAt_eq_of_covers 11 _ (by decide +kernel) fun t _ y => ?_
  blk_simp
  rw [after1_11]
  obtain ⟨r, b, rfl⟩ : ∃ r b, y = (ix2 r b : S256x1024.Idx) := ⟨_, _, eq_ix2 y⟩
  rw [place_dgp t r (rowAt t r) rfl b]
  refine (pt_dgp V c t r b).trans ?_
  rw [rowD_eq, rowS_eq, rowE_eq]
  rfl

/-- The gradient of the per-layer input's projection after the run. -/
theorem value_dpe (c : Dev nD) : (dat1 V c).arrAt 12 cfg1.N = (fun j : S4096x1024.Idx => OutBlock.dpe (aRowD V c (j 0)) (aRowS V c (j 0)) (j 1)) := by
  refine (dat1 V c).arrAt_eq_of_covers 12 _ (by decide +kernel) fun t _ y => ?_
  blk_simp
  rw [after1_12]
  obtain ⟨r, b, rfl⟩ : ∃ r b, y = (ix2 r b : S256x1024.Idx) := ⟨_, _, eq_ix2 y⟩
  rw [place_dpe t r (rowAt t r) rfl b]
  refine (pt_dpe V c t r b).trans ?_
  rw [rowD_eq, rowS_eq]
  rfl

/-- The gradient of the output projection after the run. -/
theorem value_dmix (c : Dev nD) : (dat1 V c).arrAt 13 cfg1.N = (fun j : S4096x1024.Idx => aRowU V c (j 0) (j 1)) := by
  refine (dat1 V c).arrAt_eq_of_covers 13 _ (by decide +kernel) fun t _ y => ?_
  blk_simp
  rw [after1_13]
  obtain ⟨r, b, rfl⟩ : ∃ r b, y = (ix2 r b : S256x1024.Idx) := ⟨_, _, eq_ix2 y⟩
  rw [place_dmix t r (rowAt t r) rfl b]
  refine (pt_dmix V c t r b).trans ?_
  rw [rowU_eq]
  rfl

/-- The gradient of the attention's output after the run. -/
theorem value_do (c : Dev nD) : (dat1 V c).arrAt 14 cfg1.N = (fun j : S4096x1024.Idx => aRowC V c (j 0) (OutBlock.lo (j 1)) * (vZ V c j * OutBlock.sigm (vZ V c j))) := by
  refine (dat1 V c).arrAt_eq_of_covers 14 _ (by decide +kernel) fun t _ y => ?_
  blk_simp
  rw [after1_14]
  obtain ⟨r, b, rfl⟩ : ∃ r b, y = (ix2 r b : S256x1024.Idx) := ⟨_, _, eq_ix2 y⟩
  rw [place_do t r (rowAt t r) rfl b]
  refine (pt_do V c t r b).trans ?_
  rw [rowC_eq, kZ_apply V c t r (rowAt t r) rfl b]
  rfl

/-- The gradient of the pooling's output after the run. -/
theorem value_dpool (c : Dev nD) : (dat1 V c).arrAt 16 cfg1.N = (fun j : S4096x1024.Idx => aRowC V c (j 0) (OutBlock.hi (j 1))) := by
  refine (dat1 V c).arrAt_eq_of_covers 16 _ (by decide +kernel) fun t _ y => ?_
  blk_simp
  rw [after1_16]
  obtain ⟨r, b, rfl⟩ : ∃ r b, y = (ix2 r b : S256x1024.Idx) := ⟨_, _, eq_ix2 y⟩
  rw [place_dpool t r (rowAt t r) rfl b]
  refine (pt_dpool V c t r b).trans ?_
  rw [rowC_eq]
  rfl

/-- What the row `a` adds to the gradient of the normalisation's scale (zero past the last row). -/
def dgTerm (c : Dev nD) (b : Fin 1024) (a : ℕ) : EReal :=
  if h : a < 4096 then aRowY V c ⟨a, h⟩ b * vX V c (ix2 ⟨a, h⟩ b) * RmsNorm.r (aRowX V c ⟨a, h⟩) else 0

/-- What a block's rows add. -/
theorem dg_block (c : Dev nD) (b : Fin 1024) (t : Fin cfg1.N) :
    ∑ r : Fin 256, rowY V c t r b * kX V c t (ix2 r b) * RmsNorm.r (rowX V c t r)
      = ∑ x ∈ Finset.range 256, dgTerm V c b (t.val * 256 + x) := by
  rw [Finset.sum_range]
  refine Finset.sum_congr rfl fun r _ => ?_
  refine Eq.trans ?_ (dif_pos (rowAt t r).isLt).symm
  rw [rowY_eq, rowX_eq, kX_apply V c t r (rowAt t r) rfl b]
  rfl

/-- The gradient of the normalisation's scale after point `n`: the sum over the rows seen. -/
theorem dg_upto (c : Dev nD) (b : Fin 1024) : ∀ (n : ℕ) (h : n < cfg1.N),
    ((outsAt1 V c n h).2.2.2.2.2.2.2.2 : S1x1024.Idx → EReal) (ix2 0 b) = ∑ a ∈ Finset.range ((n + 1) * 256), dgTerm V c b a
  | 0, h => by
    refine (pt_dg_first V c ⟨0, h⟩ b rfl).trans ?_
    rw [dg_block, zero_add]
    simp only [zero_mul, zero_add, one_mul]
  | n + 1, h => by
    have hN : cfg1.N = 16 := N_1
    refine (pt_dg_next V c ⟨n + 1, h⟩ b (by simp only []; omega)).trans ?_
    rw [dg_block, Nat.add_mul (n + 1), Finset.sum_range_add, one_mul]
    exact congrArg (· + _) (dg_upto c b n (by omega))

/-- The gradient of the normalisation's scale after the run. -/
theorem value_dg (c : Dev nD) : (dat1 V c).arrAt 18 cfg1.N
    = (fun j : S1x1024.Idx => ∑ a : Fin 4096, aRowY V c a (j 1) * vX V c (ix2 a (j 1)) * RmsNorm.r (aRowX V c a)) := by
  have hN : cfg1.N = 16 := N_1
  refine (dat1 V c).arrAt_eq_of_covers 18 _ (by decide +kernel) fun t ht y => ?_
  have hl : t.val = 15 := (by decide +kernel : ∀ t : Fin grid1.N, (cfg1.win 18).flush t = true → t.val = 15) t ht
  blk_simp
  rw [after1_18]
  obtain ⟨r, b, rfl⟩ : ∃ r b, y = (ix2 r b : S1x1024.Idx) := ⟨_, _, eq_ix2 y⟩
  obtain rfl : r = 0 := Subsingleton.elim _ _
  rw [place_dg t b]
  refine (dg_upto V c b t.val t.isLt).trans ?_
  rw [hl, Finset.sum_range]
  exact Finset.sum_congr rfl fun a _ => dif_pos a.isLt

end Cert.OutGradIdeal.Grad
end
-- ==== Proof.OutGradRun.lean ====
module

public import proofs.«01_k».proof.Proof.Gen.OutGradIdeal.Frame

/-!
# What the memory holds when the two calls have run

The program's run, from the segments of its frame: at the end every buffer that outlives the calls holds the contents `W5`, the
last of the contents at the boundaries between the segments.
-/

@[expose] public section

set_option maxRecDepth 16384

noncomputable section

namespace Cert.OutGradIdeal.Grad

open Cert.OutGradIdeal Cert.OutGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, with every buffer that outlives the calls at the last boundary's contents. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c b hb => h c b hb)

/-- The same, read at the results and at the arguments: the arguments are as the program was given them. -/
theorem run_values : θ_run defs (onTc (τ := τ) (main (F := F))) ⟨m, fun _ => 0, ρ⟩ (fun r => ∀ c : Dev nD,
      r.2.mem ((c.tc : Thread nD τ).loc main_v0_0) = W5 m ρ c (Proc.devRef .tc main_v0_0)
      ∧ r.2.mem ((c.tc : Thread nD τ).loc main_v0_1) = W5 m ρ c (Proc.devRef .tc main_v0_1)
      ∧ r.2.mem ((c.tc : Thread nD τ).loc main_v0_2) = W5 m ρ c (Proc.devRef .tc main_v0_2)
      ∧ r.2.mem ((c.tc : Thread nD τ).loc main_v0_3) = W5 m ρ c (Proc.devRef .tc main_v0_3)
      ∧ r.2.mem ((c.tc : Thread nD τ).loc main_v0_4) = W5 m ρ c (Proc.devRef .tc main_v0_4)
      ∧ r.2.mem ((c.tc : Thread nD τ).loc main_v0_5) = W5 m ρ c (Proc.devRef .tc main_v0_5)
      ∧ r.2.mem ((c.tc : Thread nD τ).loc main_v10_0) = W5 m ρ c (Proc.devRef .tc main_v10_0)
      ∧ r.2.mem ((c.tc : Thread nD τ).loc main_v10_1) = W5 m ρ c (Proc.devRef .tc main_v10_1)
      ∧ r.2.mem ((c.tc : Thread nD τ).loc main_v10_2) = W5 m ρ c (Proc.devRef .tc main_v10_2)
      ∧ r.2.mem ((c.tc : Thread nD τ).loc main_v10_3) = W5 m ρ c (Proc.devRef .tc main_v10_3)
      ∧ r.2.mem ((c.tc : Thread nD τ).loc main_v10_4) = W5 m ρ c (Proc.devRef .tc main_v10_4)
      ∧ r.2.mem ((c.tc : Thread nD τ).loc main_v10_6) = W5 m ρ c (Proc.devRef .tc main_v10_6)
      ∧ r.2.mem ((c.tc : Thread nD τ).loc main_v10_8) = W5 m ρ c (Proc.devRef .tc main_v10_8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v0_0 (by decide)),
    h c _ (mem_uc main_v0_1 (by decide)),
    h c _ (mem_uc main_v0_2 (by decide)),
    h c _ (mem_uc main_v0_3 (by decide)),
    h c _ (mem_uc main_v0_4 (by decide)),
    h c _ (mem_uc main_v0_5 (by decide)),
    h c _ (mem_uc main_v10_0 (by decide)),
    h c _ (mem_uc main_v10_1 (by decide)),
    h c _ (mem_uc main_v10_2 (by decide)),
    h c _ (mem_uc main_v10_3 (by decide)),
    h c _ (mem_uc main_v10_4 (by decide)),
    h c _ (mem_uc main_v10_6 (by decide)),
    h c _ (mem_uc main_v10_8 (by decide)),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c)⟩) (run_contents m ρ)

end Cert.OutGradIdeal.Grad
end
-- ==== Proof.OutGradValue.lean ====
module

public import proofs.«01_k».proof.Proof.OutGradFwd
public import proofs.«01_k».proof.Proof.OutGradBwd
public import proofs.«01_k».proof.Proof.OutGradRun

/-!
# The results of the two calls in terms of the arguments

The backward call reads the gate, the per-layer input's projection and the output projection as the forward call wrote them, and
the other arrays as the program was given them. So every result is a function of the arguments' rows.
-/

@[expose] public section

set_option maxRecDepth 16384

noncomputable section

open Idealize.ShloMosaic Idealize.ShloMosaic.TcCoe Idealize.SL.Sem

namespace Cert.OutGradIdeal.Grad

open Cert.OutGradIdeal Cert.OutGradIdeal.Gen

variable (m : (ℓ : Loc nD τ sig) → Buf (Elt Ideal) ℓ) (ρ : Dev nD → PrngReg)

/-- The cotangent of the residual stream, the first argument. -/
abbrev aD (c : Dev nD) : S4096x1024.Idx → EReal := m ((c : Thread nD τ).loc main_arg0)

/-- A row of it, of the residual's gradient, the projection's and the concatenation's. -/
def dRow (c : Dev nD) (a : Fin 4096) : Fin 1024 → EReal := fun k => aD m c (ix2 a k)
def dh1 (c : Dev nD) (a : Fin 4096) : Fin 1024 → EReal :=
  OutBlock.dh1 (dRow m c a) (gate m c a) (pe m c a) (fun b k => aWg m c (ix2 b k))
def dmix (c : Dev nD) (a : Fin 4096) : Fin 1024 → EReal := OutBlock.dmix (dh1 m c a) (mix m c a) (fun k => aG m c (ix2 0 k))
def dcat (c : Dev nD) (a : Fin 4096) : Fin 2048 → EReal := OutBlock.dcat (dmix m c a) (fun b k => aWo m c (ix2 b k))

/-! ## What the backward call finds -/

section Entry
variable (c : Dev nD)

/-- An array the forward call wrote is there still when the backward call starts. -/
theorem entry_out (w : Fin cfg0.W) (h1 : Pipeline.arrRef spec0 w ∉ hostOps1_W) (h2 : Pipeline.arrRef spec0 w ∉ hostOps1_1_W)
    (h3 : Pipeline.arrRef spec0 w ∉ hostOps1_2_W) :
    W4 m ρ c (Proc.devRef .tc (Pipeline.arrRef spec0 w)) = (dat0 (V0 m ρ) c).arrAt w cfg0.N :=
  (W4_of m ρ c _ h3).trans ((W3_of m ρ c _ h2).trans ((W2_of m ρ c _ h1).trans (W1_arr m ρ c w)))

theorem entry_x : vX (V4 m ρ) c = fun j => mix m c (j 0) (j 1) :=
  (entry_out m ρ c 10 (by decide) (by decide) (by decide)).trans (value_mix m ρ c)
theorem entry_s : vS (V4 m ρ) c = fun j => gate m c (j 0) (j 1) :=
  (entry_out m ρ c 12 (by decide) (by decide) (by decide)).trans (value_gate m ρ c)
theorem entry_e : vE (V4 m ρ) c = fun j => pe m c (j 0) (j 1) :=
  (entry_out m ρ c 13 (by decide) (by decide) (by decide)).trans (value_pe m ρ c)
theorem entry_d : vD (V4 m ρ) c = aD m c := W4_args m ρ c main_arg0 (by decide)
theorem entry_z : vZ (V4 m ρ) c = aZ m c := W4_args m ρ c main_arg3 (by decide)
theorem entry_wo : vWo (V4 m ρ) c = aWo m c := W4_args m ρ c main_arg6 (by decide)
theorem entry_wg : vWg (V4 m ρ) c = aWg m c := W4_args m ρ c main_arg7 (by decide)
theorem entry_g : vG (V4 m ρ) c = aG m c := W4_args m ρ c main_arg9 (by decide)

theorem entry_rowD : aRowD (V4 m ρ) c = dRow m c := funext fun a => by unfold aRowD dRow; rw [entry_d]
theorem entry_rowS : aRowS (V4 m ρ) c = gate m c := funext fun a => by unfold aRowS; rw [entry_s]; rfl
theorem entry_rowE : aRowE (V4 m ρ) c = pe m c := funext fun a => by unfold aRowE; rw [entry_e]; rfl
theorem entry_rowX : aRowX (V4 m ρ) c = mix m c := funext fun a => by unfold aRowX; rw [entry_x]; rfl
theorem entry_rowY : aRowY (V4 m ρ) c = dh1 m c := funext fun a => by unfold aRowY dh1; rw [entry_rowD, entry_rowS, entry_rowE, entry_wg]
theorem entry_rowU : aRowU (V4 m ρ) c = dmix m c := funext fun a => by unfold aRowU dmix; rw [entry_rowY, entry_rowX, entry_g]
theorem entry_rowC : aRowC (V4 m ρ) c = dcat m c := funext fun a => by unfold aRowC dcat; rw [entry_rowU, entry_wo]

end Entry

/-! ## The results -/

section Results
variable (c : Dev nD)

/-- An array the forward call wrote is left alone by the backward call, if it is none of that call's results. -/
theorem final_out (w : Fin cfg0.W) (h1 : Pipeline.arrRef spec0 w ∉ hostOps1_W) (h2 : Pipeline.arrRef spec0 w ∉ hostOps1_1_W)
    (h3 : Pipeline.arrRef spec0 w ∉ hostOps1_2_W)
    (h4 : ∀ v : Fin cfg1.W, Pipeline.arrRef spec1 v = Pipeline.arrRef spec0 w → (cfg1.win v).isOut = false) :
    W5 m ρ c (Proc.devRef .tc (Pipeline.arrRef spec0 w)) = (dat0 (V0 m ρ) c).arrAt w cfg0.N :=
  (W5_of m ρ c _ h4).trans (entry_out m ρ c w h1 h2 h3)

theorem final_h2 : W5 m ρ c (Proc.devRef .tc main_v0_0)
    = (fun j : S4096x1024.Idx => h1 m c (j 0) (j 1) + gate m c (j 0) (j 1) * pe m c (j 0) (j 1)) :=
  (final_out m ρ c 9 (by decide) (by decide) (by decide) (by decide)).trans (value_h2 m ρ c)
theorem final_mix : W5 m ρ c (Proc.devRef .tc main_v0_1) = (fun j : S4096x1024.Idx => mix m c (j 0) (j 1)) :=
  (final_out m ρ c 10 (by decide) (by decide) (by decide) (by decide)).trans (value_mix m ρ c)
theorem final_h1 : W5 m ρ c (Proc.devRef .tc main_v0_2) = (fun j : S4096x1024.Idx => h1 m c (j 0) (j 1)) :=
  (final_out m ρ c 11 (by decide) (by decide) (by decide) (by decide)).trans (value_h1 m ρ c)
theorem final_gate : W5 m ρ c (Proc.devRef .tc main_v0_3) = (fun j : S4096x1024.Idx => gate m c (j 0) (j 1)) :=
  (final_out m ρ c 12 (by decide) (by decide) (by decide) (by decide)).trans (value_gate m ρ c)
theorem final_pe : W5 m ρ c (Proc.devRef .tc main_v0_4) = (fun j : S4096x1024.Idx => pe m c (j 0) (j 1)) :=
  (final_out m ρ c 13 (by decide) (by decide) (by decide) (by decide)).trans (value_pe m ρ c)
theorem final_cat : W5 m ρ c (Proc.devRef .tc main_v0_5) = (fun j : S4096x2048.Idx => cat m c (j 0) (j 1)) :=
  (final_out m ρ c 14 (by decide) (by decide) (by decide) (by decide)).trans (value_cat m ρ c)

theorem final_dh1 : W5 m ρ c (Proc.devRef .tc main_v10_0) = (fun j : S4096x1024.Idx => dh1 m c (j 0) (j 1)) := by
  refine ((W5_arr m ρ c 10).trans (value_dh1 (V4 m ρ) c)).trans ?_
  rw [entry_rowY]
theorem final_dgp : W5 m ρ c (Proc.devRef .tc main_v10_1)
    = (fun j : S4096x1024.Idx => OutBlock.dgp (dRow m c (j 0)) (gate m c (j 0)) (pe m c (j 0)) (j 1)) := by
  refine ((W5_arr m ρ c 11).trans (value_dgp (V4 m ρ) c)).trans ?_
  rw [entry_rowD, entry_rowS, entry_rowE]
theorem final_dpe : W5 m ρ c (Proc.devRef .tc main_v10_2)
    = (fun j : S4096x1024.Idx => OutBlock.dpe (dRow m c (j 0)) (gate m c (j 0)) (j 1)) := by
  refine ((W5_arr m ρ c 12).trans (value_dpe (V4 m ρ) c)).trans ?_
  rw [entry_rowD, entry_rowS]
theorem final_dmix : W5 m ρ c (Proc.devRef .tc main_v10_3) = (fun j : S4096x1024.Idx => dmix m c (j 0) (j 1)) := by
  refine ((W5_arr m ρ c 13).trans (value_dmix (V4 m ρ) c)).trans ?_
  rw [entry_rowU]
theorem final_do : W5 m ρ c (Proc.devRef .tc main_v10_4)
    = (fun j : S4096x1024.Idx => dcat m c (j 0) (OutBlock.lo (j 1)) * (aZ m c j * OutBlock.sigm (aZ m c j))) := by
  refine ((W5_arr m ρ c 14).trans (value_do (V4 m ρ) c)).trans ?_
  rw [entry_rowC, entry_z]
theorem final_dpool : W5 m ρ c (Proc.devRef .tc main_v10_6) = (fun j : S4096x1024.Idx => dcat m c (j 0) (OutBlock.hi (j 1))) := by
  refine ((W5_arr m ρ c 16).trans (value_dpool (V4 m ρ) c)).trans ?_
  rw [entry_rowC]
theorem final_dg : W5 m ρ c (Proc.devRef .tc main_v10_8)
    = (fun j : S1x1024.Idx => ∑ a : Fin 4096, dh1 m c a (j 1) * mix m c a (j 1) * RmsNorm.r (mix m c a)) := by
  refine ((W5_arr m ρ c 18).trans (value_dg (V4 m ρ) c)).trans ?_
  rw [entry_rowY, entry_rowX, entry_x]
  rfl

end Results

end Cert.OutGradIdeal.Grad
end
-- ==== Proof.OutGradRefValue.lean ====
module

public import proofs.«01_k».proof.Proof.Gen.OutGradRefIdeal.Run
public import proofs.«01_k».proof.Proof.OutBlockBwd
public import Idealize.ShloMosaic.Lib.IdealHost
public import Idealize.ShloMosaic.Lib.Pointwise
public import Idealize.ShloMosaic.Lib.Tactic

/-!
# The output block's reference and its derivative, an entry at a time

The reference's arrays are named one after another, each from the ones before it: first those of the forward lines, then those of
their derivative. Each is then read at an index as the row functions of `OutBlock`.
-/

@[expose] public section

set_option maxRecDepth 16384

noncomputable section

open Idealize.ShloMosaic Idealize.ShloMosaic.TcCoe Idealize.SL.Sem

namespace Cert.OutGradRefIdeal.Grad

open Cert.OutGradRefIdeal Cert.OutGradRefIdeal.Gen Cert.OutGradRefIdeal.Value

section Terms
variable {F : FTy → Type} [FloatOps F] (m : (ℓ : Loc nD τ sig) → Buf (Elt F) ℓ) (c : Dev nD)

/-- SiLU of the gate's argument. -/
def hSilu : FVec F S4096x1024 .f32 :=
  mulf (m ((c.tc : Thread nD τ).loc main_arg3)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (m ((c.tc : Thread nD τ).loc main_arg3))))))

/-- The two heads' outputs side by side. -/
def hCat : FVec F S4096x2048 .f32 :=
  concatenate S4096x2048 1 [⟨S4096x1024, (mulf (m ((c.tc : Thread nD τ).loc main_arg2)) (hSilu m c) : (⟨S4096x1024, .f32⟩ : BufTy).Contents (Elt F))⟩, ⟨S4096x1024, (extf .f32 (m ((c.tc : Thread nD τ).loc main_arg4)) bitsLt_bf16_f32 : (⟨S4096x1024, .f32⟩ : BufTy).Contents (Elt F))⟩] concatenates_S4096x1024_S4096x1024_S4096x2048_d1

/-- Their projection. -/
def hMix : FVec F S4096x1024 .f32 :=
  Host.dotGeneral dot_S4096x2048_S2048x1024_S4096x1024_1_0_0_1_n_n none (hCat m c) (extf .f32 (m ((c.tc : Thread nD τ).loc main_arg6)) bitsLt_bf16_f32)

/-- Its rows' mean squares, kept away from zero. -/
def hQ : FVec F S4096x1 .f32 :=
  addf (Host.divf (broadcastInDim S4096x1 ![0] bcast_S4096_S4096x1_0 (Host.reduceAdd (mulf (hMix m c) (hMix m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The normalised projection, before the scale. -/
def hNorm : FVec F S4096x1024 .f32 :=
  mulf (hMix m c) (broadcastInDim S4096x1024 ![0, 1] bcast_S4096x1_S4096x1024_0_1 (Host.rsqrt (hQ m c)))

/-- The residual after the projection. -/
def hH1 : FVec F S4096x1024 .f32 :=
  addf (m ((c.tc : Thread nD τ).loc main_arg1)) (mulf (hNorm m c) (broadcastInDim S4096x1024 ![0, 1] bcast_S1x1024_S4096x1024_0_1 (m ((c.tc : Thread nD τ).loc main_arg9))))

/-- The gate. -/
def hGate : FVec F S4096x1024 .f32 :=
  Host.divf (broadcastInDim S4096x1024 ![] bcast_S_S4096x1024 (constant S_ .f32 0x3F800000#32)) (addf (broadcastInDim S4096x1024 ![] bcast_S_S4096x1024 (constant S_ .f32 0x3F800000#32)) (Host.exp (Host.negf (Host.dotGeneral dot_S4096x1024_S1024x1024_S4096x1024_1_0_0_1_n_n none (hH1 m c) (extf .f32 (m ((c.tc : Thread nD τ).loc main_arg7)) bitsLt_bf16_f32)))))

/-- The per-layer input's projection. -/
def hPe : FVec F S4096x1024 .f32 :=
  Host.dotGeneral dot_S4096x256_S256x1024_S4096x1024_1_0_0_1_n_n none (m ((c.tc : Thread nD τ).loc main_arg5)) (extf .f32 (m ((c.tc : Thread nD τ).loc main_arg8)) bitsLt_bf16_f32)

/-- The cotangent of the residual stream handed on. -/
def hD : FVec F S4096x1024 .f32 := shapeCast _ (m ((c.tc : Thread nD τ).loc main_arg0)) shapeCasts_S4096x1024_S4096x1024

/-- The gradient of the gate's argument. -/
def hDgp : FVec F S4096x1024 .f32 :=
  mulf (mulf (hD m c) (hPe m c)) (mulf (hGate m c) (subf (broadcastInDim S4096x1024 ![] bcast_S_S4096x1024 (constant S_ .f32 0x3F800000#32)) (hGate m c)))

/-- The gradient of the residual. -/
def hDh1 : FVec F S4096x1024 .f32 :=
  addf (hD m c) (Host.dotGeneral dot_S4096x1024_S1024x1024_S4096x1024_1_1_0_0_n_n none (hDgp m c) (extf .f32 (m ((c.tc : Thread nD τ).loc main_arg7)) bitsLt_bf16_f32))

/-- The same times the normalisation's scale. -/
def hY : FVec F S4096x1024 .f32 :=
  mulf (hDh1 m c) (broadcastInDim S4096x1024 ![0, 1] bcast_S1x1024_S4096x1024_0_1 (m ((c.tc : Thread nD τ).loc main_arg9)))

/-- What comes back through the mean square. -/
def hT : FVec F S4096x1024 .f32 :=
  broadcastInDim S4096x1024 ![0] bcast_S4096_S4096x1024_0 (Host.reduceAdd (Host.divf (mulf (shapeCast _ (Host.reduceAdd (mulf (hMix m c) (hY m c)) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (hQ m c)) (hQ m c)))) (broadcastInDim S4096x1 ![] bcast_S_S4096x1 (constant S_ .f32 0x44800000#32))) (constant S_ .f32 0x00000000#32) reducesTo_S4096x1_S4096_d1 h_S_)

/-- The gradient of the projection. -/
def hDmix : FVec F S4096x1024 .f32 :=
  addf (addf (mulf (hY m c) (broadcastInDim S4096x1024 ![0, 1] bcast_S4096x1_S4096x1024_0_1 (Host.rsqrt (hQ m c)))) (mulf (hMix m c) (hT m c))) (mulf (hT m c) (hMix m c))

/-- The gradient of the two heads' outputs side by side. -/
def hDcat : FVec F S4096x2048 .f32 :=
  Host.dotGeneral dot_S4096x1024_S2048x1024_S4096x2048_1_1_0_0_n_n none (hDmix m c) (extf .f32 (m ((c.tc : Thread nD τ).loc main_arg6)) bitsLt_bf16_f32)

/-- The gradient of the normalisation's scale. -/
def hDg : FVec F S1x1024 .f32 :=
  shapeCast _ (Host.reduceAdd (mulf (hNorm m c) (hDh1 m c)) (constant S_ .f32 0x00000000#32) reducesTo_S4096x1024_S1024_d0 h_S_) shapeCasts_S1024_S1x1024

/-! The results are made of the arrays above. -/

theorem res_h2 : res_main_v36 m c = addf (hH1 m c) (mulf (hGate m c) (hPe m c)) := rfl
theorem res_dh1 : res_main_v43 m c = hDh1 m c := rfl
theorem res_dgp : res_main_v75 m c = truncf .bf16 (hDgp m c) bitsLt_bf16_f32 := rfl
theorem res_dmix : res_main_v77 m c = truncf .bf16 (hDmix m c) bitsLt_bf16_f32 := rfl
theorem res_do : res_main_v78 m c
    = truncf .bf16 (mulf (extractStridedSlice S4096x1024 ![0, 0] (hDcat m c) slices_S4096x2048_S4096x1024_0_0) (hSilu m c)) bitsLt_bf16_f32 := rfl
theorem res_dpool : res_main_v65 m c = extractStridedSlice S4096x1024 ![0, 1024] (hDcat m c) slices_S4096x2048_S4096x1024_0_1024 := rfl
theorem res_dg : res_main_v46 m c = hDg m c := rfl

end Terms

variable (m : (ℓ : Loc nD τ sig) → Buf (Elt Ideal) ℓ)

/-- The arguments: the cotangent, the residual, the attention's output, its gate's argument, the pooling's output, the per-layer
input, the three weights, the normalisation's scale. -/
abbrev aD (c : Dev nD) : S4096x1024.Idx → EReal := m ((c : Thread nD τ).loc main_arg0)
abbrev aH (c : Dev nD) : S4096x1024.Idx → EReal := m ((c : Thread nD τ).loc main_arg1)
abbrev aO (c : Dev nD) : S4096x1024.Idx → EReal := m ((c : Thread nD τ).loc main_arg2)
abbrev aZ (c : Dev nD) : S4096x1024.Idx → EReal := m ((c : Thread nD τ).loc main_arg3)
abbrev aU (c : Dev nD) : S4096x1024.Idx → EReal := m ((c : Thread nD τ).loc main_arg4)
abbrev aP (c : Dev nD) : S4096x256.Idx → EReal := m ((c : Thread nD τ).loc main_arg5)
abbrev aWo (c : Dev nD) : S2048x1024.Idx → EReal := m ((c : Thread nD τ).loc main_arg6)
abbrev aWg (c : Dev nD) : S1024x1024.Idx → EReal := m ((c : Thread nD τ).loc main_arg7)
abbrev aWe (c : Dev nD) : S256x1024.Idx → EReal := m ((c : Thread nD τ).loc main_arg8)
abbrev aG (c : Dev nD) : S1x1024.Idx → EReal := m ((c : Thread nD τ).loc main_arg9)

variable (c : Dev nD) (a : Fin 4096)

/-! ## The forward lines -/

/-- SiLU at an index. -/
theorem silu_apply (b : Fin 1024) : (hSilu m c : S4096x1024.Idx → EReal) (ix2 a b)
    = aZ m c (ix2 a b) * OutBlock.sigm (aZ m c (ix2 a b)) := by
  unfold hSilu
  pointwise
  rfl

/-- The concatenation at an index. -/
theorem cat_apply (b : Fin 2048) : (hCat m c : S4096x2048.Idx → EReal) (ix2 a b)
    = OutBlock.cat (fun k => aO m c (ix2 a k)) (fun k => aZ m c (ix2 a k)) (fun k => aU m c (ix2 a k)) b := by
  unfold hCat hSilu OutBlock.cat
  pointwise
  rfl

/-- The projection at an index. -/
theorem mix_apply (b : Fin 1024) : (hMix m c : S4096x1024.Idx → EReal) (ix2 a b)
    = OutBlock.mix (fun k => (hCat m c : S4096x2048.Idx → EReal) (ix2 a k)) (fun k b => aWo m c (ix2 k b)) b := by
  unfold hMix
  generalize hCat m c = D
  pointwise
  rfl

/-- A row of the projection. -/
def rowX : Fin 1024 → EReal := fun k => (hMix m c : S4096x1024.Idx → EReal) (ix2 a k)

/-- The mean square of a row. -/
theorem q_apply (z : Fin 1) : (hQ m c : S4096x1.Idx → EReal) (ix2 a z) = RmsNorm.q (rowX m c a) := by
  unfold hQ rowX
  generalize hMix m c = D
  pointwise
  rfl

/-- The normalised projection at an index. -/
theorem norm_apply (b : Fin 1024) : (hNorm m c : S4096x1024.Idx → EReal) (ix2 a b) = rowX m c a b * RmsNorm.r (rowX m c a) := by
  unfold hNorm RmsNorm.r
  rw [← q_apply m c a 0]
  unfold rowX
  generalize hMix m c = D
  generalize hQ m c = E
  pointwise

/-- The residual after the projection at an index. -/
theorem h1_apply (b : Fin 1024) : (hH1 m c : S4096x1024.Idx → EReal) (ix2 a b)
    = OutBlock.h1 (fun b => aH m c (ix2 a b)) (rowX m c a) (fun b => aG m c (ix2 0 b)) b := by
  unfold hH1 OutBlock.h1
  rw [← norm_apply]
  generalize hNorm m c = D
  pointwise

/-- The gate at an index. -/
theorem gate_apply (b : Fin 1024) : (hGate m c : S4096x1024.Idx → EReal) (ix2 a b)
    = OutBlock.gate (fun b => (hH1 m c : S4096x1024.Idx → EReal) (ix2 a b)) (fun k b => aWg m c (ix2 k b)) b := by
  unfold hGate
  generalize hH1 m c = D
  pointwise
  rfl

/-- The per-layer input's projection at an index. -/
theorem pe_apply (b : Fin 1024) : (hPe m c : S4096x1024.Idx → EReal) (ix2 a b)
    = OutBlock.pe (fun k => aP m c (ix2 a k)) (fun k b => aWe m c (ix2 k b)) b := by
  unfold hPe
  pointwise
  rfl

/-- The first result at an index. -/
theorem h2_apply (b : Fin 1024) : (res_main_v36 m c : S4096x1024.Idx → EReal) (ix2 a b)
    = (hH1 m c : S4096x1024.Idx → EReal) (ix2 a b) + (hGate m c : S4096x1024.Idx → EReal) (ix2 a b) * (hPe m c : S4096x1024.Idx → EReal) (ix2 a b) := by
  rw [res_h2]
  rfl

/-! ## Their derivative -/

/-- The cotangent at an index. -/
theorem d_apply (b : Fin 1024) : (hD m c : S4096x1024.Idx → EReal) (ix2 a b) = aD m c (ix2 a b) := by
  unfold hD
  pointwise

/-- Rows of the cotangent, the gate and the per-layer input's projection. -/
def rowD : Fin 1024 → EReal := fun k => aD m c (ix2 a k)
def rowS : Fin 1024 → EReal := fun k => (hGate m c : S4096x1024.Idx → EReal) (ix2 a k)
def rowP : Fin 1024 → EReal := fun k => (hPe m c : S4096x1024.Idx → EReal) (ix2 a k)

/-- The gradient of the gate's argument at an index. -/
theorem dgp_apply (b : Fin 1024) : (hDgp m c : S4096x1024.Idx → EReal) (ix2 a b) = OutBlock.dgp (rowD m c a) (rowS m c a) (rowP m c a) b := by
  unfold OutBlock.dgp rowD rowS rowP
  rw [← d_apply, mul_assoc ((hD m c : S4096x1024.Idx → EReal) (ix2 a b) * _)]
  unfold hDgp
  generalize hD m c = D
  generalize hGate m c = S
  generalize hPe m c = P
  pointwise

/-- The gradient of the per-layer input's projection at an index. -/
theorem dpe_apply (b : Fin 1024) : (mulf (hGate m c) (hD m c) : S4096x1024.Idx → EReal) (ix2 a b) = OutBlock.dpe (rowD m c a) (rowS m c a) b := by
  unfold OutBlock.dpe rowD rowS
  rw [← d_apply, mul_comm]
  rfl

/-- The gradient of the residual at an index. -/
theorem dh1_apply (b : Fin 1024) : (hDh1 m c : S4096x1024.Idx → EReal) (ix2 a b)
    = OutBlock.dh1 (rowD m c a) (rowS m c a) (rowP m c a) (fun b k => aWg m c (ix2 b k)) b := by
  unfold OutBlock.dh1
  simp only [← dgp_apply]
  unfold rowD
  rw [← d_apply]
  unfold hDh1
  generalize hD m c = D
  generalize hDgp m c = P
  pointwise

/-- A row of the gradient of the residual. -/
def rowY : Fin 1024 → EReal := fun k => (hDh1 m c : S4096x1024.Idx → EReal) (ix2 a k)

/-- The same times the scale at an index. -/
theorem y_apply (b : Fin 1024) : (hY m c : S4096x1024.Idx → EReal) (ix2 a b) = rowY m c a b * aG m c (ix2 0 b) := by
  unfold hY rowY
  generalize hDh1 m c = D
  pointwise

/-- What comes back through the mean square, at an index. -/
theorem t_apply (b : Fin 1024) : (hT m c : S4096x1024.Idx → EReal) (ix2 a b)
    = Ideal.div ((∑ k, rowY m c a k * aG m c (ix2 0 k) * rowX m c a k) * (RmsNorm.negHalf * Ideal.div (RmsNorm.r (rowX m c a)) (RmsNorm.q (rowX m c a)))) RmsNorm.len := by
  unfold RmsNorm.r
  rw [← q_apply m c a 0]
  simp only [← y_apply]
  unfold hT rowX
  generalize hY m c = Y
  generalize hMix m c = X
  generalize hQ m c = Q
  simp only [mul_comm ((Y : S4096x1024.Idx → EReal) _)]
  pointwise
  rw [Fin.sum_univ_one]

/-- The gradient of the projection at an index. -/
theorem dmix_apply (b : Fin 1024) : (hDmix m c : S4096x1024.Idx → EReal) (ix2 a b)
    = OutBlock.dmix (rowY m c a) (rowX m c a) (fun k => aG m c (ix2 0 k)) b := by
  have h := RmsNorm.bwd_eq (rowX m c a) 0 (rowY m c a b * aG m c (ix2 0 b)) (rowX m c a b) (∑ k, rowY m c a k * aG m c (ix2 0 k) * rowX m c a k)
  rw [zero_add, zero_add] at h
  refine Eq.trans ?_ h.symm
  rw [← t_apply m c a b, ← y_apply]
  unfold RmsNorm.r
  rw [← q_apply m c a 0]
  unfold hDmix rowX
  generalize hY m c = Y
  generalize hMix m c = X
  generalize hQ m c = Q
  generalize hT m c = T
  pointwise

/-- The gradient of the concatenation at an index. -/
theorem dcat_apply (b : Fin 2048) : (hDcat m c : S4096x2048.Idx → EReal) (ix2 a b)
    = OutBlock.dcat (fun k => (hDmix m c : S4096x1024.Idx → EReal) (ix2 a k)) (fun b k => aWo m c (ix2 b k)) b := by
  unfold hDcat OutBlock.dcat
  generalize hDmix m c = D
  pointwise

/-- The gradient of the attention's output at an index. -/
theorem do_apply (b : Fin 1024) : (res_main_v78 m c : S4096x1024.Idx → EReal) (ix2 a b)
    = (hDcat m c : S4096x2048.Idx → EReal) (ix2 a (OutBlock.lo b)) * (aZ m c (ix2 a b) * OutBlock.sigm (aZ m c (ix2 a b))) := by
  rw [res_do, ← silu_apply]
  generalize hDcat m c = D
  generalize hSilu m c = S
  pointwise
  rfl

/-- The gradient of the pooling's output at an index. -/
theorem dpool_apply (b : Fin 1024) : (res_main_v65 m c : S4096x1024.Idx → EReal) (ix2 a b)
    = (hDcat m c : S4096x2048.Idx → EReal) (ix2 a (OutBlock.hi b)) := by
  rw [res_dpool]
  generalize hDcat m c = D
  pointwise
  rfl

/-- The gradient of the normalisation's scale at an index. -/
theorem dg_apply (b : Fin 1024) : (hDg m c : S1x1024.Idx → EReal) (ix2 0 b)
    = ∑ a : Fin 4096, rowY m c a b * rowX m c a b * RmsNorm.r (rowX m c a) := by
  have h : ∀ a : Fin 4096, rowY m c a b * rowX m c a b * RmsNorm.r (rowX m c a)
      = (hNorm m c : S4096x1024.Idx → EReal) (ix2 a b) * rowY m c a b := fun a => by
    rw [norm_apply, mul_assoc, mul_comm]
  simp only [h]
  unfold hDg rowY
  generalize hNorm m c = N
  generalize hDh1 m c = Y
  pointwise

end Cert.OutGradRefIdeal.Grad
end
-- ==== Proof.OutGradTie.lean ====
module

public import proofs.«01_k».proof.Proof.OutGradValue
public import proofs.«01_k».proof.Proof.OutGradRefValue

/-!
# The output block's two calls give the layer's lines and their derivative

On memories that agree on the ten arguments, the thirteen result arrays of the two calls are the reference's.
-/

@[expose] public section

set_option maxRecDepth 16384

noncomputable section

open Idealize.ShloMosaic Idealize.ShloMosaic.TcCoe Idealize.SL.Sem

namespace Cert.OutGradTie

variable (m : (ℓ : Loc Cert.OutGradIdeal.nD Cert.OutGradIdeal.τ Cert.OutGradIdeal.sig) → Buf (Elt Ideal) ℓ)
  (ρ : Dev Cert.OutGradIdeal.nD → PrngReg)
  (m' : (ℓ : Loc Cert.OutGradRefIdeal.nD Cert.OutGradRefIdeal.τ Cert.OutGradRefIdeal.sig) → Buf (Elt Ideal) ℓ)
  (c : Dev Cert.OutGradIdeal.nD)

open Cert.OutGradIdeal Cert.OutGradIdeal.Grad Cert.OutGradIdeal.Gen

/-- The two memories hold the same arguments. -/
structure Agree : Prop where
  d : Cert.OutGradRefIdeal.Grad.aD m' c = aD m c
  h : Cert.OutGradRefIdeal.Grad.aH m' c = aH m c
  o : Cert.OutGradRefIdeal.Grad.aO m' c = aO m c
  z : Cert.OutGradRefIdeal.Grad.aZ m' c = aZ m c
  u : Cert.OutGradRefIdeal.Grad.aU m' c = aU m c
  p : Cert.OutGradRefIdeal.Grad.aP m' c = aP m c
  wo : Cert.OutGradRefIdeal.Grad.aWo m' c = aWo m c
  wg : Cert.OutGradRefIdeal.Grad.aWg m' c = aWg m c
  we : Cert.OutGradRefIdeal.Grad.aWe m' c = aWe m c
  g : Cert.OutGradRefIdeal.Grad.aG m' c = aG m c

variable {m m' c}

/-! The rows agree. -/
section Rows
variable (e : Agree m m' c) (a : Fin 4096)
include e

/-- The concatenation. -/
theorem cat_row (b : Fin 2048) : (Cert.OutGradRefIdeal.Grad.hCat m' c : S4096x2048.Idx → EReal) (ix2 a b) = cat m c a b := by
  rw [Cert.OutGradRefIdeal.Grad.cat_apply, e.o, e.z, e.u]
  rfl

/-- The projection. -/
theorem mix_row (b : Fin 1024) : (Cert.OutGradRefIdeal.Grad.hMix m' c : S4096x1024.Idx → EReal) (ix2 a b) = mix m c a b := by
  rw [Cert.OutGradRefIdeal.Grad.mix_apply]
  simp only [cat_row e, e.wo]
  rfl

theorem x_row : Cert.OutGradRefIdeal.Grad.rowX m' c a = mix m c a := funext fun k => mix_row e a k

/-- The residual after the projection. -/
theorem h1_row (b : Fin 1024) : (Cert.OutGradRefIdeal.Grad.hH1 m' c : S4096x1024.Idx → EReal) (ix2 a b) = h1 m c a b := by
  rw [Cert.OutGradRefIdeal.Grad.h1_apply, x_row e, e.h, e.g]
  rfl

/-- The gate. -/
theorem gate_row (b : Fin 1024) : (Cert.OutGradRefIdeal.Grad.hGate m' c : S4096x1024.Idx → EReal) (ix2 a b) = gate m c a b := by
  rw [Cert.OutGradRefIdeal.Grad.gate_apply]
  simp only [h1_row e, e.wg]
  rfl

theorem s_row : Cert.OutGradRefIdeal.Grad.rowS m' c a = gate m c a := funext fun k => gate_row e a k

/-- The per-layer input's projection. -/
theorem pe_row (b : Fin 1024) : (Cert.OutGradRefIdeal.Grad.hPe m' c : S4096x1024.Idx → EReal) (ix2 a b) = pe m c a b := by
  rw [Cert.OutGradRefIdeal.Grad.pe_apply, e.p, e.we]
  rfl

theorem p_row : Cert.OutGradRefIdeal.Grad.rowP m' c a = pe m c a := funext fun k => pe_row e a k

/-- The cotangent. -/
theorem d_row : Cert.OutGradRefIdeal.Grad.rowD m' c a = dRow m c a := by
  unfold Cert.OutGradRefIdeal.Grad.rowD
  rw [e.d]
  rfl

/-- The gradient of the residual. -/
theorem dh1_row (b : Fin 1024) : (Cert.OutGradRefIdeal.Grad.hDh1 m' c : S4096x1024.Idx → EReal) (ix2 a b) = dh1 m c a b := by
  rw [Cert.OutGradRefIdeal.Grad.dh1_apply, d_row e, s_row e, p_row e, e.wg]
  rfl

theorem y_row : Cert.OutGradRefIdeal.Grad.rowY m' c a = dh1 m c a := funext fun k => dh1_row e a k

/-- The gradient of the projection. -/
theorem dmix_row (b : Fin 1024) : (Cert.OutGradRefIdeal.Grad.hDmix m' c : S4096x1024.Idx → EReal) (ix2 a b) = dmix m c a b := by
  rw [Cert.OutGradRefIdeal.Grad.dmix_apply, y_row e, x_row e, e.g]
  rfl

/-- The gradient of the concatenation. -/
theorem dcat_row (b : Fin 2048) : (Cert.OutGradRefIdeal.Grad.hDcat m' c : S4096x2048.Idx → EReal) (ix2 a b) = dcat m c a b := by
  rw [Cert.OutGradRefIdeal.Grad.dcat_apply, e.wo]
  simp only [dmix_row e]
  rfl

end Rows

/-! The results agree: first the forward call's, then the backward call's. -/
section Results
variable (e : Agree m m' c)
include e

/-- The residual stream handed on. -/
theorem h2_eq : (Cert.OutGradRefIdeal.Value.res_main_v36 m' c : S4096x1024.Idx → EReal) = W5 m ρ c (Proc.devRef .tc main_v0_0) := by
  rw [final_h2]
  funext i
  obtain ⟨a, b, rfl⟩ : ∃ a b, i = (ix2 a b : S4096x1024.Idx) := ⟨_, _, eq_ix2 i⟩
  rw [Cert.OutGradRefIdeal.Grad.h2_apply, h1_row e, gate_row e, pe_row e]
  rfl

/-- The projection. -/
theorem mix_eq : (Cert.OutGradRefIdeal.Grad.hMix m' c : S4096x1024.Idx → EReal) = W5 m ρ c (Proc.devRef .tc main_v0_1) := by
  rw [final_mix]
  funext i
  obtain ⟨a, b, rfl⟩ : ∃ a b, i = (ix2 a b : S4096x1024.Idx) := ⟨_, _, eq_ix2 i⟩
  exact mix_row e a b

/-- The residual after the projection. -/
theorem h1_eq : (Cert.OutGradRefIdeal.Grad.hH1 m' c : S4096x1024.Idx → EReal) = W5 m ρ c (Proc.devRef .tc main_v0_2) := by
  rw [final_h1]
  funext i
  obtain ⟨a, b, rfl⟩ : ∃ a b, i = (ix2 a b : S4096x1024.Idx) := ⟨_, _, eq_ix2 i⟩
  exact h1_row e a b

/-- The gate. -/
theorem gate_eq : (Cert.OutGradRefIdeal.Grad.hGate m' c : S4096x1024.Idx → EReal) = W5 m ρ c (Proc.devRef .tc main_v0_3) := by
  rw [final_gate]
  funext i
  obtain ⟨a, b, rfl⟩ : ∃ a b, i = (ix2 a b : S4096x1024.Idx) := ⟨_, _, eq_ix2 i⟩
  exact gate_row e a b

/-- The per-layer input's projection. -/
theorem pe_eq : (Cert.OutGradRefIdeal.Grad.hPe m' c : S4096x1024.Idx → EReal) = W5 m ρ c (Proc.devRef .tc main_v0_4) := by
  rw [final_pe]
  funext i
  obtain ⟨a, b, rfl⟩ : ∃ a b, i = (ix2 a b : S4096x1024.Idx) := ⟨_, _, eq_ix2 i⟩
  exact pe_row e a b

/-- The concatenation. -/
theorem cat_eq : (Cert.OutGradRefIdeal.Grad.hCat m' c : S4096x2048.Idx → EReal) = W5 m ρ c (Proc.devRef .tc main_v0_5) := by
  rw [final_cat]
  funext i
  obtain ⟨a, b, rfl⟩ : ∃ a b, i = (ix2 a b : S4096x2048.Idx) := ⟨_, _, eq_ix2 i⟩
  exact cat_row e a b

/-- The gradient of the residual. -/
theorem dh1_eq : (Cert.OutGradRefIdeal.Value.res_main_v43 m' c : S4096x1024.Idx → EReal) = W5 m ρ c (Proc.devRef .tc main_v10_0) := by
  rw [final_dh1, Cert.OutGradRefIdeal.Grad.res_dh1]
  funext i
  obtain ⟨a, b, rfl⟩ : ∃ a b, i = (ix2 a b : S4096x1024.Idx) := ⟨_, _, eq_ix2 i⟩
  exact dh1_row e a b

/-- The gradient of the gate's argument. -/
theorem dgp_eq : (Cert.OutGradRefIdeal.Value.res_main_v75 m' c : S4096x1024.Idx → EReal) = W5 m ρ c (Proc.devRef .tc main_v10_1) := by
  rw [final_dgp, Cert.OutGradRefIdeal.Grad.res_dgp]
  funext i
  obtain ⟨a, b, rfl⟩ : ∃ a b, i = (ix2 a b : S4096x1024.Idx) := ⟨_, _, eq_ix2 i⟩
  refine (Cert.OutGradRefIdeal.Grad.dgp_apply m' c a b).trans ?_
  rw [d_row e, s_row e, p_row e]
  rfl

/-- The gradient of the per-layer input's projection. -/
theorem dpe_eq : (mulf (Cert.OutGradRefIdeal.Grad.hGate m' c) (Cert.OutGradRefIdeal.Grad.hD m' c) : S4096x1024.Idx → EReal)
    = W5 m ρ c (Proc.devRef .tc main_v10_2) := by
  rw [final_dpe]
  funext i
  obtain ⟨a, b, rfl⟩ : ∃ a b, i = (ix2 a b : S4096x1024.Idx) := ⟨_, _, eq_ix2 i⟩
  refine (Cert.OutGradRefIdeal.Grad.dpe_apply m' c a b).trans ?_
  rw [d_row e, s_row e]
  rfl

/-- The gradient of the projection. -/
theorem dmix_eq : (Cert.OutGradRefIdeal.Value.res_main_v77 m' c : S4096x1024.Idx → EReal) = W5 m ρ c (Proc.devRef .tc main_v10_3) := by
  rw [final_dmix, Cert.OutGradRefIdeal.Grad.res_dmix]
  funext i
  obtain ⟨a, b, rfl⟩ : ∃ a b, i = (ix2 a b : S4096x1024.Idx) := ⟨_, _, eq_ix2 i⟩
  exact dmix_row e a b

/-- The gradient of the attention's output. -/
theorem do_eq : (Cert.OutGradRefIdeal.Value.res_main_v78 m' c : S4096x1024.Idx → EReal) = W5 m ρ c (Proc.devRef .tc main_v10_4) := by
  rw [final_do]
  funext i
  obtain ⟨a, b, rfl⟩ : ∃ a b, i = (ix2 a b : S4096x1024.Idx) := ⟨_, _, eq_ix2 i⟩
  rw [Cert.OutGradRefIdeal.Grad.do_apply, dcat_row e, e.z]
  rfl

/-- The gradient of the pooling's output. -/
theorem dpool_eq : (Cert.OutGradRefIdeal.Value.res_main_v65 m' c : S4096x1024.Idx → EReal) = W5 m ρ c (Proc.devRef .tc main_v10_6) := by
  rw [final_dpool]
  funext i
  obtain ⟨a, b, rfl⟩ : ∃ a b, i = (ix2 a b : S4096x1024.Idx) := ⟨_, _, eq_ix2 i⟩
  rw [Cert.OutGradRefIdeal.Grad.dpool_apply, dcat_row e]
  rfl

/-- The gradient of the normalisation's scale. -/
theorem dg_eq : (Cert.OutGradRefIdeal.Value.res_main_v46 m' c : S1x1024.Idx → EReal) = W5 m ρ c (Proc.devRef .tc main_v10_8) := by
  rw [final_dg, Cert.OutGradRefIdeal.Grad.res_dg]
  funext i
  obtain ⟨b, rfl⟩ : ∃ b, i = (ix2 0 b : S1x1024.Idx) :=
    ⟨i 1, funext fun d => match d with | ⟨0, _⟩ => Subsingleton.elim (α := Fin 1) _ _ | ⟨1, _⟩ => rfl⟩
  refine (Cert.OutGradRefIdeal.Grad.dg_apply m' c b).trans (Finset.sum_congr rfl fun a _ => ?_)
  rw [y_row e, x_row e]
  rfl

end Results

end Cert.OutGradTie
end
-- ==== Proof.InFwdBody.lean ====
module

public import proofs.«01_k».proof.Proof.Gen.InFwdIdeal.Frame
public import proofs.«01_k».proof.Proof.Gen.InFwdIdeal.Skeleton
public import Idealize.ShloMosaic.Lib.VecWindow

/-!
# The body of the input projection's forward call

The grid has two points for each row block: at the first the body normalises the rows, keeps them in a result's staging
memref, and projects them onto the queries, keys, values and the forget gates' logits; at the second it reads the normalised
rows back and projects them onto the other three. `evenRun` and `oddRun` are the body's triples at the two.
-/

@[expose] public section

set_option maxRecDepth 16384

noncomputable section

namespace Cert.InFwdIdeal.Grad

open Cert.InFwdIdeal Cert.InFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The body at the first point of a row block. -/
theorem evenRun (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1024x128 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x128 .f32) (harg12 : arg12.IsWhole) (arg13 : Memref sig .tc .vmem S512x1024 .bf16) (harg13 : arg13.IsWhole)
    (hc0 : k0_cond1 i = 1#1) (hc1 : k0_cond2 i = 1#1) (hc2 : ¬ k0_cond3 i = 1#1)
    (x0 : Vec F S512x1024 .f32) (x1 : Vec F S1x1024 .f32) (x2 : Vec F S1024x3072 .bf16) (x3 : Vec F S1024x128 .bf16)
    (y9 : Vec F S512x1024 .f32) (y10 : Vec F S512x1024 .f32) (y11 : Vec F S512x1024 .f32) (K : PUnit → sProp 𝕄) :
    iprop(owns (c : Thread nD τ) arg2 fullShare x0
          ∗ owns (c : Thread nD τ) arg3 fullShare x1
          ∗ owns (c : Thread nD τ) arg4 fullShare x2
          ∗ owns (c : Thread nD τ) arg5 fullShare x3
          ∗ (∃ d : Vec F S512x1024 .bf16, owns (c : Thread nD τ) arg6 fullShare d)
          ∗ (∃ d : Vec F S512x1024 .bf16, owns (c : Thread nD τ) arg7 fullShare d)
          ∗ (∃ d : Vec F S512x1024 .bf16, owns (c : Thread nD τ) arg8 fullShare d)
          ∗ owns (c : Thread nD τ) arg9 fullShare y9
          ∗ owns (c : Thread nD τ) arg10 fullShare y10
          ∗ owns (c : Thread nD τ) arg11 fullShare y11
          ∗ (∃ d : Vec F S512x128 .f32, owns (c : Thread nD τ) arg12 fullShare d)
          ∗ (∃ d : Vec F S512x1024 .bf16, owns (c : Thread nD τ) arg13 fullShare d)
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare (k0_pay4 (k0_pay1 x0 x1) x2)
          ∗ owns (c : Thread nD τ) arg7 fullShare (k0_pay5 (k0_pay1 x0 x1) x2)
          ∗ owns (c : Thread nD τ) arg8 fullShare (k0_pay6 (k0_pay1 x0 x1) x2)
          ∗ owns (c : Thread nD τ) arg9 fullShare y9
          ∗ owns (c : Thread nD τ) arg10 fullShare y10
          ∗ owns (c : Thread nD τ) arg11 fullShare y11
          ∗ owns (c : Thread nD τ) arg12 fullShare (k0_pay2 x0 x1 x3)
          ∗ owns (c : Thread nD τ) arg13 fullShare (k0_pay1 x0 x1)) -∗ K ⟨⟩))
      ⊢ wp frame (wpE (defs₀ (F := F)) Variants.none c none) Set.univ (cc0_norm_in_proj i arg2 harg2 arg3 harg3 arg4 harg4 arg5 harg5 arg6 harg6 arg7 harg7 arg8 harg8 arg9 harg9 arg10 harg10 arg11 harg11 arg12 harg12 arg13 harg13) K := by
  simp only [cc0_norm_in_proj_eq_skeleton]
  unfold cc0_norm_in_proj_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%d12, %f12, -, H12⟩, ⟨%d13, %f13, -, H13⟩, Hk⟩
  obtain rfl := harg2.eq_unread hf2; obtain rfl := harg3.eq_unread hf3; obtain rfl := harg4.eq_unread hf4; obtain rfl := harg5.eq_unread hf5; obtain rfl := harg9.eq_unread hf9; obtain rfl := harg10.eq_unread hf10; obtain rfl := harg11.eq_unread hf11
  sl_exec (disch := first | sl_exact hc0 | sl_exact hc1 | sl_exact hc2)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; rw [View.read_writes_full]; unfold evenRun.sl.v3; unfold evenRun.sl.H13_1; rw [View.readCov_full]; rw [View.readAt_full, View.readAt_full, View.readAt_full, harg2.read_unread, harg3.read_unread, harg4.read_unread]
  isplitl [H7]
  · iexists _; isplitr; swap; · iexact H7
    ipureintro; rw [View.read_writes_full]; unfold evenRun.sl.v3; unfold evenRun.sl.H13_1; rw [View.readCov_full]; rw [View.readAt_full, View.readAt_full, View.readAt_full, harg2.read_unread, harg3.read_unread, harg4.read_unread]
  isplitl [H8]
  · iexists _; isplitr; swap; · iexact H8
    ipureintro; rw [View.read_writes_full]; unfold evenRun.sl.v3; unfold evenRun.sl.H13_1; rw [View.readCov_full]; rw [View.readAt_full, View.readAt_full, View.readAt_full, harg2.read_unread, harg3.read_unread, harg4.read_unread]
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; rw [View.read_writes_full]; rw [View.readAt_full, View.readAt_full, View.readAt_full, harg2.read_unread, harg3.read_unread, harg5.read_unread]
  iexists _; isplitr; swap; · iexact H13
  ipureintro; unfold evenRun.sl.H13_1; rw [View.read_writes_full]; rw [View.readAt_full, View.readAt_full, harg2.read_unread, harg3.read_unread]

/-- The body at the second point of a row block. -/
theorem oddRun (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1024x128 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x128 .f32) (harg12 : arg12.IsWhole) (arg13 : Memref sig .tc .vmem S512x1024 .bf16) (harg13 : arg13.IsWhole)
    (hc0 : ¬ k0_cond1 i = 1#1) (hc1 : ¬ k0_cond2 i = 1#1) (hc2 : k0_cond3 i = 1#1)
    (x0 : Vec F S512x1024 .f32) (x1 : Vec F S1x1024 .f32) (x2 : Vec F S1024x3072 .bf16) (x3 : Vec F S1024x128 .bf16)
    (y6 : Vec F S512x1024 .bf16) (y7 : Vec F S512x1024 .bf16) (y8 : Vec F S512x1024 .bf16) (y12 : Vec F S512x128 .f32) (y13 : Vec F S512x1024 .bf16) (K : PUnit → sProp 𝕄) :
    iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare y6
          ∗ owns (c : Thread nD τ) arg7 fullShare y7
          ∗ owns (c : Thread nD τ) arg8 fullShare y8
          ∗ (∃ d : Vec F S512x1024 .f32, owns (c : Thread nD τ) arg9 fullShare d)
          ∗ (∃ d : Vec F S512x1024 .f32, owns (c : Thread nD τ) arg10 fullShare d)
          ∗ (∃ d : Vec F S512x1024 .f32, owns (c : Thread nD τ) arg11 fullShare d)
          ∗ owns (c : Thread nD τ) arg12 fullShare y12
          ∗ owns (c : Thread nD τ) arg13 fullShare y13
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare y6
          ∗ owns (c : Thread nD τ) arg7 fullShare y7
          ∗ owns (c : Thread nD τ) arg8 fullShare y8
          ∗ owns (c : Thread nD τ) arg9 fullShare (k0_pay7 y13 x2)
          ∗ owns (c : Thread nD τ) arg10 fullShare (k0_pay8 y13 x2)
          ∗ owns (c : Thread nD τ) arg11 fullShare (k0_pay9 y13 x2)
          ∗ owns (c : Thread nD τ) arg12 fullShare y12
          ∗ owns (c : Thread nD τ) arg13 fullShare y13) -∗ K ⟨⟩))
      ⊢ wp frame (wpE (defs₀ (F := F)) Variants.none c none) Set.univ (cc0_norm_in_proj i arg2 harg2 arg3 harg3 arg4 harg4 arg5 harg5 arg6 harg6 arg7 harg7 arg8 harg8 arg9 harg9 arg10 harg10 arg11 harg11 arg12 harg12 arg13 harg13) K := by
  simp only [cc0_norm_in_proj_eq_skeleton]
  unfold cc0_norm_in_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12; obtain rfl := harg13.eq_unread hf13
  sl_exec (disch := first | sl_exact hc0 | sl_exact hc1 | sl_exact hc2)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; rw [View.read_writes_full]; rw [View.readAt_full, View.readAt_full, harg13.read_unread, harg4.read_unread]
  isplitl [H10]
  · iexists _; isplitr; swap; · iexact H10
    ipureintro; rw [View.read_writes_full]; rw [View.readAt_full, View.readAt_full, harg13.read_unread, harg4.read_unread]
  isplitl [H11]
  · iexists _; isplitr; swap; · iexact H11
    ipureintro; rw [View.read_writes_full]; rw [View.readAt_full, View.readAt_full, harg13.read_unread, harg4.read_unread]
  isplitl [H12]
  · iexists _; isplitr; swap; · iexact H12
    ipureintro; exact harg12.read_unread _
  iexists _; isplitr; swap; · iexact H13
  ipureintro; exact harg13.read_unread _

end Cert.InFwdIdeal.Grad
end
-- ==== Proof.InFwdRun.lean ====
module

public import proofs.«01_k».proof.Proof.InFwdBody
public import Idealize.ShloMosaic.Lib.Claim

/-!
# The run of the input projection's forward call

What every staging memref holds after every point of the grid (`dats`), that the body keeps to it (`body_obligation`), and
what follows for the whole program: its results, block by block, and its frame. Eight row blocks, two points each.
-/

@[expose] public section

set_option maxRecDepth 16384

noncomputable section

namespace Cert.InFwdIdeal.Grad

open Cert.InFwdIdeal Cert.InFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two points of a row block -/

/-- The first point of the row block that point `t` works on. -/
def ev (t : Fin cfg0.N) : Fin cfg0.N := ⟨t.val - t.val % 2, Nat.lt_of_le_of_lt (Nat.sub_le _ _) t.isLt⟩

/-- The point before `t`. -/
abbrev pred (t : Fin cfg0.N) : Fin cfg0.N := ⟨t.val - 1, Nat.lt_of_le_of_lt (Nat.sub_le _ _) t.isLt⟩

theorem ev_even {t : Fin cfg0.N} (h : t.val % 2 = 0) : ev t = t := Fin.ext (by show t.val - t.val % 2 = t.val; omega)

theorem ev_pred {t : Fin cfg0.N} (h : t.val % 2 = 1) : ev (pred t) = ev t :=
  Fin.ext (by show t.val - 1 - (t.val - 1) % 2 = t.val - t.val % 2; omega)

/-- Condition 1 of the body holds at the first point of a row block. -/
theorem cond1_iff : ∀ t : Fin cfg0.N, k0_cond1 (grid0.coords t) = 1#1 ↔ t.val % 2 = 0 :=
  (fun t => by
    have ht : t.val < 16 := Nat.lt_of_lt_of_eq t.isLt N_0
    have e0 : (grid0.coords t 0).val = t.val / 2 % 8 := Pipeline.Grid.coords_val t 0 (by decide) rfl
    have e1 : (grid0.coords t 1).val = t.val / 1 % 2 := Pipeline.Grid.coords_val t 1 (by decide) rfl
    simp only [k0_cond1, e0, e1]
    word_cmp
   : ∀ t : Fin grid0.N, k0_cond1 (grid0.coords t) = 1#1 ↔ t.val % 2 = 0)

/-- Condition 2 of the body holds at the first point of a row block. -/
theorem cond2_iff : ∀ t : Fin cfg0.N, k0_cond2 (grid0.coords t) = 1#1 ↔ t.val % 2 = 0 :=
  (fun t => by
    have ht : t.val < 16 := Nat.lt_of_lt_of_eq t.isLt N_0
    have e0 : (grid0.coords t 0).val = t.val / 2 % 8 := Pipeline.Grid.coords_val t 0 (by decide) rfl
    have e1 : (grid0.coords t 1).val = t.val / 1 % 2 := Pipeline.Grid.coords_val t 1 (by decide) rfl
    simp only [k0_cond2, e0, e1]
    word_cmp
   : ∀ t : Fin grid0.N, k0_cond2 (grid0.coords t) = 1#1 ↔ t.val % 2 = 0)

/-- Condition 3 of the body holds at the second point of a row block. -/
theorem cond3_iff : ∀ t : Fin cfg0.N, k0_cond3 (grid0.coords t) = 1#1 ↔ t.val % 2 = 1 :=
  (fun t => by
    have ht : t.val < 16 := Nat.lt_of_lt_of_eq t.isLt N_0
    have e0 : (grid0.coords t 0).val = t.val / 2 % 8 := Pipeline.Grid.coords_val t 0 (by decide) rfl
    have e1 : (grid0.coords t 1).val = t.val / 1 % 2 := Pipeline.Grid.coords_val t 1 (by decide) rfl
    simp only [k0_cond3, e0, e1]
    word_cmp
   : ∀ t : Fin grid0.N, k0_cond3 (grid0.coords t) = 1#1 ↔ t.val % 2 = 1)

/-! ## What the staging memrefs hold -/

/-- The normalised rows of the row block that point `t` works on. -/
def rows (c : Dev nD) (t : Fin cfg0.N) : Vec F S512x1024 .bf16 := k0_pay1 (iblk m c 0 (ev t)) (iblk m c 1 (ev t))

/-- The proof data: an input's block stays; the queries, keys, values, logits and normalised rows are those made at the row
    block's first point, the other three those made at its second. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (rows m c t) (iblk m c 2 (ev t))
    | ⟨5, _⟩ => k0_pay5 (rows m c t) (iblk m c 2 (ev t))
    | ⟨6, _⟩ => k0_pay6 (rows m c t) (iblk m c 2 (ev t))
    | ⟨7, _⟩ => k0_pay7 (rows m c t) (iblk m c 2 t)
    | ⟨8, _⟩ => k0_pay8 (rows m c t) (iblk m c 2 t)
    | ⟨9, _⟩ => k0_pay9 (rows m c t) (iblk m c 2 t)
    | ⟨10, _⟩ => k0_pay2 (iblk m c 0 (ev t)) (iblk m c 1 (ev t)) (iblk m c 3 (ev t))
    | ⟨11, _⟩ => rows m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay4 (rows m c t) (iblk m c 2 (ev t)) := by dsimp only [dats]
theorem after_5 (c : Dev nD) (t : Fin cfg0.N) : (dats m 0 c).after 5 t = k0_pay5 (rows m c t) (iblk m c 2 (ev t)) := by dsimp only [dats]
theorem after_6 (c : Dev nD) (t : Fin cfg0.N) : (dats m 0 c).after 6 t = k0_pay6 (rows m c t) (iblk m c 2 (ev t)) := by dsimp only [dats]
theorem after_7 (c : Dev nD) (t : Fin cfg0.N) : (dats m 0 c).after 7 t = k0_pay7 (rows m c t) (iblk m c 2 t) := by dsimp only [dats]
theorem after_8 (c : Dev nD) (t : Fin cfg0.N) : (dats m 0 c).after 8 t = k0_pay8 (rows m c t) (iblk m c 2 t) := by dsimp only [dats]
theorem after_9 (c : Dev nD) (t : Fin cfg0.N) : (dats m 0 c).after 9 t = k0_pay9 (rows m c t) (iblk m c 2 t) := by dsimp only [dats]
theorem after_10 (c : Dev nD) (t : Fin cfg0.N) : (dats m 0 c).after 10 t = k0_pay2 (iblk m c 0 (ev t)) (iblk m c 1 (ev t)) (iblk m c 3 (ev t)) := by dsimp only [dats]
theorem after_11 (c : Dev nD) (t : Fin cfg0.N) : (dats m 0 c).after 11 t = rows m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- At a row block's second point, a result stored at the first and not written back since still holds what was stored. -/
theorem before_odd (c : Dev nD) (w : Fin cfg0.W) (hw : (cfg0.win w).isOut = true)
    (hclip : ∀ (i : cfg0.grid.Coords) a, (cfg0.win w).clip i a = none) (t : Fin cfg0.N) (h : t.val % 2 = 1)
    (hi : cfg0.idle w (cfg0.grid.coords (pred t)) = false) (hf : (cfg0.win w).flush (pred t) = false) (d) :
    (dats m 0 c).before w t d = (dats m 0 c).after w (pred t) := by
  rw [Dat.before_of_pos _ w t (by omega) ((cfg0.win w).fetch_out hw t) d, hf, if_neg Bool.false_ne_true]
  unfold Dat.left
  rw [hi]
  show (dats m 0 c).kept w (pred t) d = _
  unfold Dat.kept
  rw [Pipeline.fill_of_clip_none w _ (hclip _) d ((dats m 0 c).after w _), Window.fill_cut]

/-- A result live at a point holds there what it was given. -/
theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- So does a result idle at the point that writes it back. -/
theorem leaves_flushed (c : Dev nD) (w : Fin cfg0.W) (t : Fin cfg0.N) (hf : (cfg0.win w).flush t = true) :
    (dats m 0 c).leavesExact w t = owns (c : Thread nD τ) ((cfg0.win w).stage (cfg0.slots t w)) fullShare ((dats m 0 c).after w t) := by
  unfold Dat.leavesExact; rw [hf]; cases cfg0.idle w (cfg0.grid.coords t) <;> rfl

theorem live_4 {t : Fin cfg0.N} (h : t.val % 2 = 0) : cfg0.idle 4 (cfg0.grid.coords t) = false := by
  show (!(k0_cond2 (grid0.coords t) == 1#1)) = false
  rw [(cond2_iff t).mpr h]; rfl
theorem unflushed_4 {t : Fin cfg0.N} (h : t.val % 2 = 0) : (cfg0.win 4).flush t = false :=
  Bool.eq_false_iff.mpr fun e => by have := (flush0_4 t).mp e; omega
theorem before_odd_4 (c : Dev nD) {t : Fin cfg0.N} (h : t.val % 2 = 1) (d) : (dats m 0 c).before 4 t d = (dats m 0 c).after 4 t := by
  rw [before_odd m c 4 rfl (fun _ _ => rfl) t h (live_4 (by show (t.val - 1) % 2 = 0; omega)) (unflushed_4 (by show (t.val - 1) % 2 = 0; omega)) d,
    after_4, after_4]
  unfold rows; rw [ev_pred h]
theorem live_5 {t : Fin cfg0.N} (h : t.val % 2 = 0) : cfg0.idle 5 (cfg0.grid.coords t) = false := by
  show (!(k0_cond2 (grid0.coords t) == 1#1)) = false
  rw [(cond2_iff t).mpr h]; rfl
theorem unflushed_5 {t : Fin cfg0.N} (h : t.val % 2 = 0) : (cfg0.win 5).flush t = false :=
  Bool.eq_false_iff.mpr fun e => by have := (flush0_5 t).mp e; omega
theorem before_odd_5 (c : Dev nD) {t : Fin cfg0.N} (h : t.val % 2 = 1) (d) : (dats m 0 c).before 5 t d = (dats m 0 c).after 5 t := by
  rw [before_odd m c 5 rfl (fun _ _ => rfl) t h (live_5 (by show (t.val - 1) % 2 = 0; omega)) (unflushed_5 (by show (t.val - 1) % 2 = 0; omega)) d,
    after_5, after_5]
  unfold rows; rw [ev_pred h]
theorem live_6 {t : Fin cfg0.N} (h : t.val % 2 = 0) : cfg0.idle 6 (cfg0.grid.coords t) = false := by
  show (!(k0_cond2 (grid0.coords t) == 1#1)) = false
  rw [(cond2_iff t).mpr h]; rfl
theorem unflushed_6 {t : Fin cfg0.N} (h : t.val % 2 = 0) : (cfg0.win 6).flush t = false :=
  Bool.eq_false_iff.mpr fun e => by have := (flush0_6 t).mp e; omega
theorem before_odd_6 (c : Dev nD) {t : Fin cfg0.N} (h : t.val % 2 = 1) (d) : (dats m 0 c).before 6 t d = (dats m 0 c).after 6 t := by
  rw [before_odd m c 6 rfl (fun _ _ => rfl) t h (live_6 (by show (t.val - 1) % 2 = 0; omega)) (unflushed_6 (by show (t.val - 1) % 2 = 0; omega)) d,
    after_6, after_6]
  unfold rows; rw [ev_pred h]
theorem live_7 {t : Fin cfg0.N} (h : t.val % 2 = 1) : cfg0.idle 7 (cfg0.grid.coords t) = false := by
  show (!(k0_cond3 (grid0.coords t) == 1#1)) = false
  rw [(cond3_iff t).mpr h]; rfl
theorem unflushed_7 {t : Fin cfg0.N} (h : t.val % 2 = 0) : (cfg0.win 7).flush t = false :=
  Bool.eq_false_iff.mpr fun e => by have := (flush0_7 t).mp e; omega
theorem idle_7 {t : Fin cfg0.N} (h : t.val % 2 = 0) : cfg0.idle 7 (cfg0.grid.coords t) = true := by
  show (!(k0_cond3 (grid0.coords t) == 1#1)) = true
  rw [Bool.not_eq_true', beq_eq_false_iff_ne]; exact fun e => by have := (cond3_iff t).mp e; omega
theorem live_8 {t : Fin cfg0.N} (h : t.val % 2 = 1) : cfg0.idle 8 (cfg0.grid.coords t) = false := by
  show (!(k0_cond3 (grid0.coords t) == 1#1)) = false
  rw [(cond3_iff t).mpr h]; rfl
theorem unflushed_8 {t : Fin cfg0.N} (h : t.val % 2 = 0) : (cfg0.win 8).flush t = false :=
  Bool.eq_false_iff.mpr fun e => by have := (flush0_8 t).mp e; omega
theorem idle_8 {t : Fin cfg0.N} (h : t.val % 2 = 0) : cfg0.idle 8 (cfg0.grid.coords t) = true := by
  show (!(k0_cond3 (grid0.coords t) == 1#1)) = true
  rw [Bool.not_eq_true', beq_eq_false_iff_ne]; exact fun e => by have := (cond3_iff t).mp e; omega
theorem live_9 {t : Fin cfg0.N} (h : t.val % 2 = 1) : cfg0.idle 9 (cfg0.grid.coords t) = false := by
  show (!(k0_cond3 (grid0.coords t) == 1#1)) = false
  rw [(cond3_iff t).mpr h]; rfl
theorem unflushed_9 {t : Fin cfg0.N} (h : t.val % 2 = 0) : (cfg0.win 9).flush t = false :=
  Bool.eq_false_iff.mpr fun e => by have := (flush0_9 t).mp e; omega
theorem idle_9 {t : Fin cfg0.N} (h : t.val % 2 = 0) : cfg0.idle 9 (cfg0.grid.coords t) = true := by
  show (!(k0_cond3 (grid0.coords t) == 1#1)) = true
  rw [Bool.not_eq_true', beq_eq_false_iff_ne]; exact fun e => by have := (cond3_iff t).mp e; omega
theorem live_10 {t : Fin cfg0.N} (h : t.val % 2 = 0) : cfg0.idle 10 (cfg0.grid.coords t) = false := by
  show (!(k0_cond1 (grid0.coords t) == 1#1)) = false
  rw [(cond1_iff t).mpr h]; rfl
theorem unflushed_10 {t : Fin cfg0.N} (h : t.val % 2 = 0) : (cfg0.win 10).flush t = false :=
  Bool.eq_false_iff.mpr fun e => by have := (flush0_10 t).mp e; omega
theorem before_odd_10 (c : Dev nD) {t : Fin cfg0.N} (h : t.val % 2 = 1) (d) : (dats m 0 c).before 10 t d = (dats m 0 c).after 10 t := by
  rw [before_odd m c 10 rfl (fun _ _ => rfl) t h (live_10 (by show (t.val - 1) % 2 = 0; omega)) (unflushed_10 (by show (t.val - 1) % 2 = 0; omega)) d,
    after_10, after_10]
  rw [ev_pred h]
theorem live_11 {t : Fin cfg0.N} (h : t.val % 2 = 0) : cfg0.idle 11 (cfg0.grid.coords t) = false := by
  show (!(k0_cond1 (grid0.coords t) == 1#1)) = false
  rw [(cond1_iff t).mpr h]; rfl
theorem unflushed_11 {t : Fin cfg0.N} (h : t.val % 2 = 0) : (cfg0.win 11).flush t = false :=
  Bool.eq_false_iff.mpr fun e => by have := (flush0_11 t).mp e; omega
theorem before_odd_11 (c : Dev nD) {t : Fin cfg0.N} (h : t.val % 2 = 1) (d) : (dats m 0 c).before 11 t d = (dats m 0 c).after 11 t := by
  rw [before_odd m c 11 rfl (fun _ _ => rfl) t h (live_11 (by show (t.val - 1) % 2 = 0; omega)) (unflushed_11 (by show (t.val - 1) % 2 = 0; omega)) d,
    after_11, after_11]
  unfold rows; rw [ev_pred h]

/-! ## The body at any point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d))
    ∗ (∃ d, owns (c : Thread nD τ) ((cfg0.win 9).stage (cfg0.slots t 9)) fullShare ((dats m 0 c).before 9 t d))
    ∗ (∃ d, owns (c : Thread nD τ) ((cfg0.win 10).stage (cfg0.slots t 10)) fullShare ((dats m 0 c).before 10 t d))
    ∗ (∃ d, owns (c : Thread nD τ) ((cfg0.win 11).stage (cfg0.slots t 11)) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 2400000 in
/-- The body at a row block's first point. -/
theorem sound_even (c : Dev nD) (t : Fin cfg0.N) (h : t.val % 2 = 0) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl]
  rw [leaves_live m c 0 t rfl, leaves_live m c 1 t rfl, leaves_live m c 2 t rfl, leaves_live m c 3 t rfl, leaves_live m c 4 t (live_4 h), leaves_live m c 5 t (live_5 h), leaves_live m c 6 t (live_6 h), Dat.leavesExact_idle _ 7 t (idle_7 h) (unflushed_7 h), Dat.leavesExact_idle _ 8 t (idle_8 h) (unflushed_8 h), Dat.leavesExact_idle _ 9 t (idle_9 h) (unflushed_9 h), leaves_live m c 10 t (live_10 h), leaves_live m c 11 t (live_11 h)]
  rw [after_0, after_1, after_2, after_3, after_4, after_5, after_6, after_10, after_11]
  unfold rows; rw [ev_even h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((evenRun c (grid0.coords t) _ _ _ _ _ _ _ _ _ _ _ _ _ _ _ _ _ _ _ _ _ _ _ _ ((cond1_iff t).mpr h) ((cond2_iff t).mpr h) (fun e => by have := (cond3_iff t).mp e; omega) (iblk m c 0 t) (iblk m c 1 t) (iblk m c 2 t) (iblk m c 3 t) _ _ _ _))
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexact H10
  iexact H11

set_option maxHeartbeats 2400000 in
/-- The body at a row block's second point. -/
theorem sound_odd (c : Dev nD) (t : Fin cfg0.N) (h : t.val % 2 = 1) :
    bodyPre m c t ⊢ wp frame (wpE (defs₀ (F := F)) Variants.none c none) Set.univ (bodyAt0 t) (fun _ => bodyPost m c t) := by
  unfold bodyPre bodyPost bodyAt0
  simp only [before_0, before_1, before_2, before_3]
  simp only [before_odd_4 m c h, before_odd_5 m c h, before_odd_6 m c h, before_odd_10 m c h, before_odd_11 m c h]
  rw [show (dats m 0 c).Φ t.succ = (dats m 0 c).Φ t.castSucc from rfl,
    show (dats m 0 c).owesAt () t.succ = (dats m 0 c).owesAt () t.castSucc from rfl]
  rw [leaves_live m c 0 t rfl, leaves_live m c 1 t rfl, leaves_live m c 2 t rfl, leaves_live m c 3 t rfl, leaves_flushed m c 4 t ((flush0_4 t).mpr h), leaves_flushed m c 5 t ((flush0_5 t).mpr h), leaves_flushed m c 6 t ((flush0_6 t).mpr h), leaves_live m c 7 t (live_7 h), leaves_live m c 8 t (live_8 h), leaves_live m c 9 t (live_9 h), leaves_flushed m c 10 t ((flush0_10 t).mpr h), leaves_flushed m c 11 t ((flush0_11 t).mpr h)]
  rw [after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((oddRun c (grid0.coords t) _ _ _ _ _ _ _ _ _ _ _ _ _ _ _ _ _ _ _ _ _ _ _ _ (fun e => by have := (cond1_iff t).mp e; omega) (fun e => by have := (cond2_iff t).mp e; omega) ((cond3_iff t).mpr h) (iblk m c 0 t) (iblk m c 1 t) (iblk m c 2 t) (iblk m c 3 t) _ _ _ _ _ _))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body at any point. -/
theorem sound_body (c : Dev nD) (t : Fin cfg0.N) :
    bodyPre m c t ⊢ wp frame (wpE (defs₀ (F := F)) Variants.none c none) Set.univ (bodyAt0 t) (fun _ => bodyPost m c t) := by
  rcases Nat.mod_two_eq_zero_or_one t.val with h | h
  · exact sound_even m c t h
  · exact sound_odd m c t h

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The body keeps to the proof data at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution ends with every array at what the proof data give it, every other buffer at what the host lines after the
    region give it, and every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- `run_main_quiescent` without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: every execution ends, the arguments are unchanged, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.InFwdIdeal.Grad

end
-- ==== Proof.InFwdBits.lean ====
module

public import proofs.«01_k».proof.Defs
public import proofs.«01_k».proof.Proof.Gen.InFwd
public import proofs.«01_k».proof.Proof.InFwdRun

/-!
# The bit-exact program of the input projection's forward call

The bit-exact program and the one read over the reals are one text, printed twice. So the run of the second, stated at
every reading of the floats, is the run of the first at the bit-exact reading.
-/

@[expose] public section

set_option maxRecDepth 1000000
set_option maxHeartbeats 4000000

noncomputable section

namespace Cert.InFwdIdeal.Grad

open Idealize.ShloMosaic Idealize.ShloMosaic.TcCoe Idealize.SL.Sem

/-- The two programs have one body. -/
theorem kernels_eq : Cert.InFwd.defs₀ (F := Bits) = Cert.InFwdIdeal.defs₀ (F := Bits) := by
  unfold Cert.InFwd.defs₀ Cert.InFwdIdeal.defs₀
  refine congrArg Defs.onTc ?_
  funext l a
  match l, a with
  | 0, (t, s) => rfl

/-- The two programs have one table of definitions. -/
theorem defs_eq : Cert.InFwd.defs (F := Bits) = Cert.InFwdIdeal.defs (F := Bits) :=
  congrArg (Pipeline.defs (Cert.InFwdIdeal.pcfgs (F := Bits))) kernels_eq

/-- The bit-exact program ends without a race, with its arguments unchanged and every counter at zero. -/
theorem quiescent_bits : Cert.quiescent_InFwd := fun m ρ _ =>
  Eq.mpr (congrArg (fun d => (θ_run d (onTc (Cert.InFwdIdeal.main (F := Bits))) ⟨m, fun _ => 0, ρ⟩) _) defs_eq)
    (frame (F := Bits) m ρ)

end Cert.InFwdIdeal.Grad

end
-- ==== Proof.InFwdValue.lean ====
module

public import proofs.«01_k».proof.Proof.InFwdRun
public import proofs.«01_k».proof.Proof.RmsNormBwd
public import Idealize.ShloMosaic.Lib.Pipeline.ValueKit
public import Idealize.ShloMosaic.Lib.Pipeline.ReadBack
public import Idealize.ShloMosaic.Lib.IdealHost
public import Idealize.ShloMosaic.Lib.Pointwise
public import Idealize.ShloMosaic.Lib.Tactic

/-!
# The input projection's forward call, element by element

Row `a` of the normalised input is `hn m c a`, and its product with column `b` of the weight is `proj m c a b`. The weight's
6160 columns are the queries', keys', values' and attention gate's (1024 each), the sixteen forget gates', and the pooling
branch's two (1024 each); the host lays the forget gates' columns apart, padded to 128. `run_values` states what the eight
results hold at the end: `hn`, and `proj` on the result's own columns.
-/

@[expose] public section

set_option maxRecDepth 16384

noncomputable section

open Idealize.ShloMosaic Idealize.ShloMosaic.TcCoe Idealize.SL.Sem

namespace Cert.InFwdIdeal.Grad

open Cert.InFwdIdeal Cert.InFwdIdeal.Gen

/-! ## The body's values -/

section Body
variable (x0 : Vec Ideal S512x1024 .f32) (x1 : Vec Ideal S1x1024 .f32) (y : Vec Ideal S512x1024 .bf16) (x2 : Vec Ideal S1024x3072 .bf16)
  (x3 : Vec Ideal S1024x128 .bf16) (r : Fin 512)

/-- The normalised rows. -/
theorem rows_pay (b : Fin 1024) : (k0_pay1 x0 x1 : S512x1024.Idx → EReal) (ix2 r b)
    = x0 (ix2 r b) * RmsNorm.r (fun k => x0 (ix2 r k)) * x1 (ix2 0 b) := by
  pointwise [k0_pay1]
  rfl

/-- Their product with half of the weights' segments. -/
theorem half_pay (b : Fin 3072) : (k0_pay3 y x2 : S512x3072.Idx → EReal) (ix2 r b) = ∑ k : Fin 1024, y (ix2 r k) * x2 (ix2 k b) := by
  pointwise [k0_pay3]

/-- Their product with the forget gates' weights. -/
theorem gates_pay (b : Fin 128) : (k0_pay2 x0 x1 x3 : S512x128.Idx → EReal) (ix2 r b)
    = ∑ k : Fin 1024, (k0_pay1 x0 x1 : S512x1024.Idx → EReal) (ix2 r k) * x3 (ix2 k b) := by
  pointwise [k0_pay2]

/-! The three segments of a half. -/

theorem seg_pay4 (b : Fin 1024) : (k0_pay4 y x2 : S512x1024.Idx → EReal) (ix2 r b)
    = (k0_pay3 y x2 : S512x3072.Idx → EReal) (ix2 r ⟨0 + b.val, by omega⟩) := by
  pointwise [k0_pay4]

theorem seg_pay5 (b : Fin 1024) : (k0_pay5 y x2 : S512x1024.Idx → EReal) (ix2 r b)
    = (k0_pay3 y x2 : S512x3072.Idx → EReal) (ix2 r ⟨1024 + b.val, by omega⟩) := by
  pointwise [k0_pay5]

theorem seg_pay6 (b : Fin 1024) : (k0_pay6 y x2 : S512x1024.Idx → EReal) (ix2 r b)
    = (k0_pay3 y x2 : S512x3072.Idx → EReal) (ix2 r ⟨2048 + b.val, by omega⟩) := by
  pointwise [k0_pay6]

theorem seg_pay7 (b : Fin 1024) : (k0_pay7 y x2 : S512x1024.Idx → EReal) (ix2 r b)
    = (k0_pay3 y x2 : S512x3072.Idx → EReal) (ix2 r ⟨0 + b.val, by omega⟩) := by
  pointwise [k0_pay7]

theorem seg_pay8 (b : Fin 1024) : (k0_pay8 y x2 : S512x1024.Idx → EReal) (ix2 r b)
    = (k0_pay3 y x2 : S512x3072.Idx → EReal) (ix2 r ⟨1024 + b.val, by omega⟩) := by
  pointwise [k0_pay8]

theorem seg_pay9 (b : Fin 1024) : (k0_pay9 y x2 : S512x1024.Idx → EReal) (ix2 r b)
    = (k0_pay3 y x2 : S512x3072.Idx → EReal) (ix2 r ⟨2048 + b.val, by omega⟩) := by
  pointwise [k0_pay9]

end Body

/-! ## The arguments -/

variable (m : (ℓ : Loc nD τ sig) → Buf (Elt Ideal) ℓ)

/-- The printed index maps, decided over the grid: point `t` is the row block `t / 2` and the half `t % 2` of the weights. -/
theorem idx : ∀ t : Fin cfg0.N, win0_0.index t = ![t.val / 2, 0] ∧ win0_1.index t = ![0, 0] ∧ win0_2.index t = ![0, t.val % 2]
    ∧ win0_3.index t = ![0, 0] :=
  (by decide +kernel : ∀ t : Fin grid0.N, _)

/-- A result's block at point `t` is the row block `t / 2`. -/
theorem idx_out : ∀ t : Fin cfg0.N, win0_4.index t = ![t.val / 2, 0] ∧ win0_5.index t = ![t.val / 2, 0] ∧ win0_6.index t = ![t.val / 2, 0]
    ∧ win0_7.index t = ![t.val / 2, 0] ∧ win0_8.index t = ![t.val / 2, 0] ∧ win0_9.index t = ![t.val / 2, 0]
    ∧ win0_10.index t = ![t.val / 2, 0] ∧ win0_11.index t = ![t.val / 2, 0] :=
  (by decide +kernel : ∀ t : Fin grid0.N, _)

/-- The arguments: the rows, the normalisation's scale, the weight. -/
abbrev aH (c : Dev nD) : S4096x1024.Idx → EReal := m ((c : Thread nD τ).loc main_arg0)
abbrev aG (c : Dev nD) : S1x1024.Idx → EReal := m ((c : Thread nD τ).loc main_arg1)
abbrev aW (c : Dev nD) : S1024x6160.Idx → EReal := m ((c : Thread nD τ).loc main_arg2)

/-- A row of the normalised input. -/
def hn (c : Dev nD) (a : Fin 4096) (b : Fin 1024) : EReal :=
  aH m c (ix2 a b) * RmsNorm.r (fun k => aH m c (ix2 a k)) * aG m c (ix2 0 b)

/-- Its product with a column of the weight. -/
def proj (c : Dev nD) (a : Fin 4096) (b : Fin 6160) : EReal := ∑ k : Fin 1024, hn m c a k * aW m c (ix2 k b)

/-- The product with 1024 columns of the weight in a row. -/
def seg (c : Dev nD) (o : ℕ) (h : o + 1024 ≤ 6160) (a : Fin 4096) (b : Fin 1024) : EReal := proj m c a ⟨o + b.val, by omega⟩

/-- The product with the forget gates' columns. -/
def gates (c : Dev nD) (a : Fin 4096) (b : Fin 16) : EReal := proj m c a ⟨4096 + b.val, by omega⟩

/-- The product with their columns as the host pads them. -/
def padded (c : Dev nD) (a : Fin 4096) (b : Fin 128) : EReal := ∑ k : Fin 1024, hn m c a k * (V m c main_v4 : S1024x128.Idx → EReal) (ix2 k b)

/-- The host's main weights: all columns but the forget gates', which lie between column 4096 and column 4112. -/
theorem main_apply (c : Dev nD) (j : Fin 1024) (b : Fin 6144) (a : Fin 6160)
    (ha : a.val = if b.val < 4096 then b.val else b.val + 16) :
    (V m c main_v2 : S1024x6144.Idx → EReal) (ix2 j b) = aW m c (ix2 j a) := by
  unfold V V0
  simp only [hostOps0, hostOps0_1, List.flatten_cons, List.flatten_nil, List.append_nil, List.cons_append, List.nil_append]
  after_results_simp
  pointwise
  split at ha <;> rename_i h
  · rw [dif_pos h]
    exact congrArg _ (congrArg _ (Fin.ext ha.symm))
  · rw [dif_neg h]
    exact congrArg _ (congrArg _ (Fin.ext (by simp only []; omega)))

/-- The block of the main weights at a point. -/
theorem w_apply (c : Dev nD) (t : Fin cfg0.N) (j : Fin 1024) (k : Fin 3072) (a : Fin 6160)
    (ha : a.val = if t.val % 2 * 3072 + k.val < 4096 then t.val % 2 * 3072 + k.val else t.val % 2 * 3072 + k.val + 16) :
    (iblk m c 2 t : S1024x3072.Idx → EReal) (ix2 j k) = aW m c (ix2 j a) := by
  rw [← main_apply m c j ⟨t.val % 2 * 3072 + k.val, by omega⟩ a ha]
  blk_ext! [iblk, (idx t).2.2.1]

/-- The forget gates' weights: sixteen columns, then padding. -/
theorem gates_w (c : Dev nD) (j : Fin 1024) (k : Fin 128) (h : k.val < 16) :
    (V m c main_v4 : S1024x128.Idx → EReal) (ix2 j k) = aW m c (ix2 j ⟨4096 + k.val, by omega⟩) := by
  have p : V m c main_v4 = pad S1024x128 ![0, 0] ![0, 112] ![0, 0] (extractStridedSlice S1024x16 ![0, 4096] (m (c, Proc.tc.devRef main_arg2)) slices_S1024x6160_S1024x16_0_4096)
      (sitofp (F := Ideal) FTy.bf16 (constantI S_ 32 0#32)) pads_S1024x16_S1024x128_000_01120 h_S_ := by
    unfold V V0
    simp only [hostOps0, hostOps0_1, List.flatten_cons, List.flatten_nil, List.append_nil, List.cons_append, List.nil_append]
    after_results_simp
    rfl
  rw [p]
  pointwise
  rw [dif_pos h]

/-- The block of them. -/
theorem bWf_apply (c : Dev nD) (t : Fin cfg0.N) (j : Fin 1024) (k : Fin 128) :
    (iblk m c 3 t : S1024x128.Idx → EReal) (ix2 j k) = (V m c main_v4 : S1024x128.Idx → EReal) (ix2 j k) := by
  blk_ext! [iblk, (idx t).2.2.2]

/-- A block of the rows. -/
theorem bH_apply (c : Dev nD) (t : Fin cfg0.N) (r : Fin 512) (a : Fin 4096) (ha : a.val = t.val / 2 * 512 + r.val) (k : Fin 1024) :
    (iblk m c 0 t : S512x1024.Idx → EReal) (ix2 r k) = aH m c (ix2 a k) := by
  blk_ext! [iblk, V, (idx t).1]

/-- The scale. -/
theorem bG_apply (c : Dev nD) (t : Fin cfg0.N) (k : Fin 1024) : (iblk m c 1 t : S1x1024.Idx → EReal) (ix2 0 k) = aG m c (ix2 0 k) := by
  blk_ext! [iblk, V, (idx t).2.1]

/-! ## What the points leave -/

/-- The row of the arrays that row `r` of point `t`'s block is. -/
def rowOf (t : Fin cfg0.N) (r : Fin 512) : Fin 4096 := ⟨t.val / 2 * 512 + r.val, by have h : t.val < 16 := t.isLt; omega⟩

section Points
variable (c : Dev nD) (t : Fin cfg0.N) (r : Fin 512)

/-- The normalised rows of a row block. -/
theorem rows_at (b : Fin 1024) : (rows m c t : S512x1024.Idx → EReal) (ix2 r b) = hn m c (rowOf t r) b := by
  have e : (rowOf t r).val = (ev t).val / 2 * 512 + r.val := by
    show t.val / 2 * 512 + r.val = (t.val - t.val % 2) / 2 * 512 + r.val
    omega
  unfold rows
  rw [rows_pay]
  simp only [bH_apply m c (ev t) r (rowOf t r) e, bG_apply]
  rfl

/-- Their product with a column of the half of the weights that point `s` has. -/
theorem half_at (s : Fin cfg0.N) (k : Fin 3072) (b : Fin 6160)
    (hb : b.val = if s.val % 2 * 3072 + k.val < 4096 then s.val % 2 * 3072 + k.val else s.val % 2 * 3072 + k.val + 16) :
    (k0_pay3 (rows m c t) (iblk m c 2 s) : S512x3072.Idx → EReal) (ix2 r k) = proj m c (rowOf t r) b := by
  rw [half_pay]
  simp only [rows_at, w_apply m c s _ k b hb]
  rfl

/-- Their product with a whole segment of it: the half's columns from `o'` on are the weight's from `o` on. -/
theorem seg_at (s : Fin cfg0.N) (o o' : ℕ) (h : o + 1024 ≤ 6160) (h' : o' + 1024 ≤ 3072)
    (hb : s.val % 2 * 3072 + o' + 1024 ≤ 4096 ∧ o = s.val % 2 * 3072 + o' ∨ 4096 ≤ s.val % 2 * 3072 + o' ∧ o = s.val % 2 * 3072 + o' + 16) (b : Fin 1024) :
    (k0_pay3 (rows m c t) (iblk m c 2 s) : S512x3072.Idx → EReal) (ix2 r ⟨o' + b.val, by omega⟩) = seg m c o h (rowOf t r) b := by
  refine half_at m c t r s _ ⟨o + b.val, by omega⟩ ?_
  show o + b.val = if s.val % 2 * 3072 + (o' + b.val) < 4096 then s.val % 2 * 3072 + (o' + b.val) else s.val % 2 * 3072 + (o' + b.val) + 16
  split <;> omega

end Points

/-- A row block's first point is even. -/
theorem ev_mod (t : Fin cfg0.N) : (ev t).val % 2 = 0 := by show (t.val - t.val % 2) % 2 = 0; omega

/-! ## The arrays -/

section Places
variable (t : Fin cfg0.N) (r : Fin 512)

theorem place_4 (b : Fin 1024) : (win0_4.blk t).view.emb (ix2 r b) = (ix2 (rowOf t r) b : S4096x1024.Idx) := by
  funext d
  match d with
  | ⟨0, _⟩ => exact Fin.ext (by blk_simp [(idx_out t).1]; rfl)
  | ⟨1, _⟩ => exact Fin.ext (by blk_simp [(idx_out t).1])

theorem place_5 (b : Fin 1024) : (win0_5.blk t).view.emb (ix2 r b) = (ix2 (rowOf t r) b : S4096x1024.Idx) := by
  funext d
  match d with
  | ⟨0, _⟩ => exact Fin.ext (by blk_simp [(idx_out t).2.1]; rfl)
  | ⟨1, _⟩ => exact Fin.ext (by blk_simp [(idx_out t).2.1])

theorem place_6 (b : Fin 1024) : (win0_6.blk t).view.emb (ix2 r b) = (ix2 (rowOf t r) b : S4096x1024.Idx) := by
  funext d
  match d with
  | ⟨0, _⟩ => exact Fin.ext (by blk_simp [(idx_out t).2.2.1]; rfl)
  | ⟨1, _⟩ => exact Fin.ext (by blk_simp [(idx_out t).2.2.1])

theorem place_7 (b : Fin 1024) : (win0_7.blk t).view.emb (ix2 r b) = (ix2 (rowOf t r) b : S4096x1024.Idx) := by
  funext d
  match d with
  | ⟨0, _⟩ => exact Fin.ext (by blk_simp [(idx_out t).2.2.2.1]; rfl)
  | ⟨1, _⟩ => exact Fin.ext (by blk_simp [(idx_out t).2.2.2.1])

theorem place_8 (b : Fin 1024) : (win0_8.blk t).view.emb (ix2 r b) = (ix2 (rowOf t r) b : S4096x1024.Idx) := by
  funext d
  match d with
  | ⟨0, _⟩ => exact Fin.ext (by blk_simp [(idx_out t).2.2.2.2.1]; rfl)
  | ⟨1, _⟩ => exact Fin.ext (by blk_simp [(idx_out t).2.2.2.2.1])

theorem place_9 (b : Fin 1024) : (win0_9.blk t).view.emb (ix2 r b) = (ix2 (rowOf t r) b : S4096x1024.Idx) := by
  funext d
  match d with
  | ⟨0, _⟩ => exact Fin.ext (by blk_simp [(idx_out t).2.2.2.2.2.1]; rfl)
  | ⟨1, _⟩ => exact Fin.ext (by blk_simp [(idx_out t).2.2.2.2.2.1])

theorem place_10 (b : Fin 128) : (win0_10.blk t).view.emb (ix2 r b) = (ix2 (rowOf t r) b : S4096x128.Idx) := by
  funext d
  match d with
  | ⟨0, _⟩ => exact Fin.ext (by blk_simp [(idx_out t).2.2.2.2.2.2.1]; rfl)
  | ⟨1, _⟩ => exact Fin.ext (by blk_simp [(idx_out t).2.2.2.2.2.2.1])

theorem place_11 (b : Fin 1024) : (win0_11.blk t).view.emb (ix2 r b) = (ix2 (rowOf t r) b : S4096x1024.Idx) := by
  funext d
  match d with
  | ⟨0, _⟩ => exact Fin.ext (by blk_simp [(idx_out t).2.2.2.2.2.2.2]; rfl)
  | ⟨1, _⟩ => exact Fin.ext (by blk_simp [(idx_out t).2.2.2.2.2.2.2])

end Places

/-! Each result's array at the end. -/

/-- The queries. -/
theorem value_4 (c : Dev nD) : (dats m 0 c).arrAt 4 cfg0.N = (fun j : S4096x1024.Idx => seg m c 0 (by omega) (j 0) (j 1)) := by
  refine (dats m 0 c).arrAt_eq_of_covers 4 _ (by decide +kernel) fun t ht y => ?_
  have h2 := ev_mod t
  blk_simp
  rw [after_4]
  obtain ⟨r, b, rfl⟩ : ∃ r b, y = (ix2 r b : S512x1024.Idx) := ⟨_, _, eq_ix2 y⟩
  rw [place_4 t r b]
  exact (seg_pay4 _ _ r b).trans (seg_at m c t r (ev t) 0 0 (by omega) (by omega) (by omega) b)

/-- The keys. -/
theorem value_5 (c : Dev nD) : (dats m 0 c).arrAt 5 cfg0.N = (fun j : S4096x1024.Idx => seg m c 1024 (by omega) (j 0) (j 1)) := by
  refine (dats m 0 c).arrAt_eq_of_covers 5 _ (by decide +kernel) fun t ht y => ?_
  have h2 := ev_mod t
  blk_simp
  rw [after_5]
  obtain ⟨r, b, rfl⟩ : ∃ r b, y = (ix2 r b : S512x1024.Idx) := ⟨_, _, eq_ix2 y⟩
  rw [place_5 t r b]
  exact (seg_pay5 _ _ r b).trans (seg_at m c t r (ev t) 1024 1024 (by omega) (by omega) (by omega) b)

/-- The values. -/
theorem value_6 (c : Dev nD) : (dats m 0 c).arrAt 6 cfg0.N = (fun j : S4096x1024.Idx => seg m c 2048 (by omega) (j 0) (j 1)) := by
  refine (dats m 0 c).arrAt_eq_of_covers 6 _ (by decide +kernel) fun t ht y => ?_
  have h2 := ev_mod t
  blk_simp
  rw [after_6]
  obtain ⟨r, b, rfl⟩ : ∃ r b, y = (ix2 r b : S512x1024.Idx) := ⟨_, _, eq_ix2 y⟩
  rw [place_6 t r b]
  exact (seg_pay6 _ _ r b).trans (seg_at m c t r (ev t) 2048 2048 (by omega) (by omega) (by omega) b)

/-- The attention gate's argument. -/
theorem value_7 (c : Dev nD) : (dats m 0 c).arrAt 7 cfg0.N = (fun j : S4096x1024.Idx => seg m c 3072 (by omega) (j 0) (j 1)) := by
  refine (dats m 0 c).arrAt_eq_of_covers 7 _ (by decide +kernel) fun t ht y => ?_
  have h2 := (flush0_7 t).mp ht
  blk_simp
  rw [after_7]
  obtain ⟨r, b, rfl⟩ : ∃ r b, y = (ix2 r b : S512x1024.Idx) := ⟨_, _, eq_ix2 y⟩
  rw [place_7 t r b]
  exact (seg_pay7 _ _ r b).trans (seg_at m c t r t 3072 0 (by omega) (by omega) (by omega) b)

/-- The pooling branch's first part. -/
theorem value_8 (c : Dev nD) : (dats m 0 c).arrAt 8 cfg0.N = (fun j : S4096x1024.Idx => seg m c 4112 (by omega) (j 0) (j 1)) := by
  refine (dats m 0 c).arrAt_eq_of_covers 8 _ (by decide +kernel) fun t ht y => ?_
  have h2 := (flush0_8 t).mp ht
  blk_simp
  rw [after_8]
  obtain ⟨r, b, rfl⟩ : ∃ r b, y = (ix2 r b : S512x1024.Idx) := ⟨_, _, eq_ix2 y⟩
  rw [place_8 t r b]
  exact (seg_pay8 _ _ r b).trans (seg_at m c t r t 4112 1024 (by omega) (by omega) (by omega) b)

/-- The pooling branch's second part. -/
theorem value_9 (c : Dev nD) : (dats m 0 c).arrAt 9 cfg0.N = (fun j : S4096x1024.Idx => seg m c 5136 (by omega) (j 0) (j 1)) := by
  refine (dats m 0 c).arrAt_eq_of_covers 9 _ (by decide +kernel) fun t ht y => ?_
  have h2 := (flush0_9 t).mp ht
  blk_simp
  rw [after_9]
  obtain ⟨r, b, rfl⟩ : ∃ r b, y = (ix2 r b : S512x1024.Idx) := ⟨_, _, eq_ix2 y⟩
  rw [place_9 t r b]
  exact (seg_pay9 _ _ r b).trans (seg_at m c t r t 5136 2048 (by omega) (by omega) (by omega) b)

/-- The forget gates' logits, in the padded layout. -/
theorem value_10 (c : Dev nD) : (dats m 0 c).arrAt 10 cfg0.N = (fun j : S4096x128.Idx => padded m c (j 0) (j 1)) := by
  refine (dats m 0 c).arrAt_eq_of_covers 10 _ (by decide +kernel) fun t ht y => ?_
  blk_simp
  rw [after_10]
  obtain ⟨r, b, rfl⟩ : ∃ r b, y = (ix2 r b : S512x128.Idx) := ⟨_, _, eq_ix2 y⟩
  rw [place_10 t r b]
  refine (gates_pay _ _ _ r b).trans (Finset.sum_congr rfl fun k _ => congrArg₂ _ (rows_at m c t r k) ?_)
  exact bWf_apply m c (ev t) k b

/-- On the columns that are the gates' the padding does not show. -/
theorem padded_eq (c : Dev nD) (a : Fin 4096) (b : Fin 16) : padded m c a ⟨b.val, by omega⟩ = gates m c a b := by
  unfold padded gates proj
  exact Finset.sum_congr rfl fun k _ => congrArg (hn m c a k * ·) (gates_w m c k ⟨b.val, by omega⟩ b.isLt)

/-- The normalised rows. -/
theorem value_11 (c : Dev nD) : (dats m 0 c).arrAt 11 cfg0.N = (fun j : S4096x1024.Idx => hn m c (j 0) (j 1)) := by
  refine (dats m 0 c).arrAt_eq_of_covers 11 _ (by decide +kernel) fun t ht y => ?_
  blk_simp
  rw [after_11]
  obtain ⟨r, b, rfl⟩ : ∃ r b, y = (ix2 r b : S512x1024.Idx) := ⟨_, _, eq_ix2 y⟩
  rw [place_11 t r b]
  exact rows_at m c t r b

/-- The first sixteen columns of an array, read at a place. -/
theorem slice_pad (z : S4096x128.Idx → EReal) (a : Fin 4096) (b : Fin 16) :
    (extractStridedSlice S4096x16 ![0, 0] z slices_S4096x128_S4096x16_0_0 : S4096x16.Idx → EReal) (ix2 a b) = z (ix2 a ⟨b.val, by omega⟩) := by
  pointwise

/-- The host's slice of the logits. -/
theorem value_gates (c : Dev nD) : Pipeline.afterTail₀ cfgs (dats m) 0 (V0 m) [hostOps1] c main_v6
    = (fun j : S4096x16.Idx => gates m c (j 0) (j 1)) := by
  unfold Pipeline.afterTail₀
  simp only [hostOps1, List.flatten_cons, List.flatten_nil, List.append_nil, List.cons_append, List.nil_append]
  after_results_simp
  have key : (Pipeline.withArrays (cfgs 0).spec c (V0 m c) (fun w => (dats m 0 c).arrAt w (cfgs 0).N) (Proc.tc.devRef (Pipeline.arrRef spec0 10)))
      = (dats m 0 c).arrAt 10 cfg0.N :=
    Pipeline.withArrays_arr spec0 launch0.win.arr_inj c (V0 m c) (fun w => (dats m 0 c).arrAt w (cfgs 0).N) 10
  refine (congrArg (fun z : S4096x128.Idx → EReal => (extractStridedSlice S4096x16 ![0, 0] z slices_S4096x128_S4096x16_0_0 : S4096x16.Idx → EReal))
    (key.trans (value_10 m c))).trans ?_
  funext j
  obtain ⟨a, b, rfl⟩ : ∃ a b, j = (ix2 a b : S4096x16.Idx) := ⟨_, _, eq_ix2 j⟩
  refine (slice_pad _ a b).trans ?_
  exact padded_eq m c a b

/-- Every execution ends with the eight results at these values and the arguments unchanged. -/
theorem run_values (ρ : Dev nD → PrngReg) : θ_run defs (onTc (τ := τ) (main (F := Ideal))) ⟨m, fun _ => 0, ρ⟩ fun r => ∀ c : Dev nD,
      r.2.mem ((c.tc : Thread nD τ).loc main_v5_0) = (fun j : S4096x1024.Idx => seg m c 0 (by omega) (j 0) (j 1))
      ∧ r.2.mem ((c.tc : Thread nD τ).loc main_v5_1) = (fun j : S4096x1024.Idx => seg m c 1024 (by omega) (j 0) (j 1))
      ∧ r.2.mem ((c.tc : Thread nD τ).loc main_v5_2) = (fun j : S4096x1024.Idx => seg m c 2048 (by omega) (j 0) (j 1))
      ∧ r.2.mem ((c.tc : Thread nD τ).loc main_v5_3) = (fun j : S4096x1024.Idx => seg m c 3072 (by omega) (j 0) (j 1))
      ∧ r.2.mem ((c.tc : Thread nD τ).loc main_v6) = (fun j : S4096x16.Idx => gates m c (j 0) (j 1))
      ∧ r.2.mem ((c.tc : Thread nD τ).loc main_v5_4) = (fun j : S4096x1024.Idx => seg m c 4112 (by omega) (j 0) (j 1))
      ∧ r.2.mem ((c.tc : Thread nD τ).loc main_v5_5) = (fun j : S4096x1024.Idx => seg m c 5136 (by omega) (j 0) (j 1))
      ∧ r.2.mem ((c.tc : Thread nD τ).loc main_v5_7) = (fun j : S4096x1024.Idx => hn m c (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.2 c).1 4).trans (value_4 m c),
    ((h.2 c).1 5).trans (value_5 m c),
    ((h.2 c).1 6).trans (value_6 m c),
    ((h.2 c).1 7).trans (value_7 m c),
    ((h.2 c).2 main_v6 (Pipeline.mem_restRefs_of main_v6 (by decide) (by decide))).trans (value_gates m c),
    ((h.2 c).1 8).trans (value_8 m c),
    ((h.2 c).1 9).trans (value_9 m c),
    ((h.2 c).1 11).trans (value_11 m c),
    h.1.1 c⟩) (θ_run_and (frame m ρ) (run_main m ρ))

end Cert.InFwdIdeal.Grad

end
-- ==== Proof.InFwdRefValue.lean ====
module

public import proofs.«01_k».proof.Proof.Gen.InFwdRefIdeal.Run
public import proofs.«01_k».proof.Proof.RmsNormBwd
public import Idealize.ShloMosaic.Lib.IdealHost
public import Idealize.ShloMosaic.Lib.Pointwise
public import Idealize.ShloMosaic.Lib.Tactic

/-!
# The input projection's reference, an entry at a time

The normalised rows and their product with the weight are named and read at an index; the results are columns of the product,
and the normalised rows themselves.
-/

@[expose] public section

set_option maxRecDepth 16384

noncomputable section

open Idealize.ShloMosaic Idealize.ShloMosaic.TcCoe Idealize.SL.Sem

namespace Cert.InFwdRefIdeal.Grad

open Cert.InFwdRefIdeal Cert.InFwdRefIdeal.Gen Cert.InFwdRefIdeal.Value

section Terms
variable {F : FTy → Type} [FloatOps F] (m : (ℓ : Loc nD τ sig) → Buf (Elt F) ℓ) (c : Dev nD)

/-- The normalised rows. -/
def hNorm : FVec F S4096x1024 .f32 :=
  (mulf (mulf (m ((c.tc : Thread nD τ).loc main_arg0)) (broadcastInDim S4096x1024 ![0, 1] bcast_S4096x1_S4096x1024_0_1 (Host.rsqrt (addf (Host.divf (broadcastInDim S4096x1 ![0] bcast_S4096_S4096x1_0 (Host.reduceAdd (mulf (m ((c.tc : Thread nD τ).loc main_arg0)) (m ((c.tc : Thread nD τ).loc main_arg0))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (m ((c.tc : Thread nD τ).loc main_arg1))))

/-- Their product with the weight. -/
def hProj : FVec F S4096x6160 .f32 :=
  Host.dotGeneral dot_S4096x1024_S1024x6160_S4096x6160_1_0_0_1_n_n none (hNorm m c) (extf .f32 (m ((c.tc : Thread nD τ).loc main_arg2)) bitsLt_bf16_f32)

end Terms

variable (m : (ℓ : Loc nD τ sig) → Buf (Elt Ideal) ℓ)

/-- The arguments: the rows, the normalisation's scale, the weight. -/
abbrev aH (c : Dev nD) : S4096x1024.Idx → EReal := m ((c : Thread nD τ).loc main_arg0)
abbrev aG (c : Dev nD) : S1x1024.Idx → EReal := m ((c : Thread nD τ).loc main_arg1)
abbrev aW (c : Dev nD) : S1024x6160.Idx → EReal := m ((c : Thread nD τ).loc main_arg2)

variable (c : Dev nD) (a : Fin 4096)

/-- A normalised row at an index. -/
theorem norm_apply (b : Fin 1024) : (hNorm m c : S4096x1024.Idx → EReal) (ix2 a b)
    = aH m c (ix2 a b) * RmsNorm.r (fun k => aH m c (ix2 a k)) * aG m c (ix2 0 b) := by
  unfold hNorm
  pointwise
  rfl

/-- The product at an index. -/
theorem proj_apply (b : Fin 6160) : (hProj m c : S4096x6160.Idx → EReal) (ix2 a b)
    = ∑ k : Fin 1024, (hNorm m c : S4096x1024.Idx → EReal) (ix2 a k) * aW m c (ix2 k b) := by
  unfold hProj
  obtain ⟨D, hD⟩ : ∃ D, D = hNorm m c := ⟨_, rfl⟩
  rw [← hD]
  clear hD
  pointwise

/-! A result's column is the product's. -/
section Slices
variable (z : S4096x6160.Idx → EReal)

theorem slice_0 (b : Fin 1024) : (extractStridedSlice S4096x1024 ![0, 0] z slices_S4096x6160_S4096x1024_0_0 : S4096x1024.Idx → EReal) (ix2 a b)
    = z (ix2 a ⟨0 + b.val, by omega⟩) := by
  pointwise

theorem slice_1024 (b : Fin 1024) : (extractStridedSlice S4096x1024 ![0, 1024] z slices_S4096x6160_S4096x1024_0_1024 : S4096x1024.Idx → EReal) (ix2 a b)
    = z (ix2 a ⟨1024 + b.val, by omega⟩) := by
  pointwise

theorem slice_2048 (b : Fin 1024) : (extractStridedSlice S4096x1024 ![0, 2048] z slices_S4096x6160_S4096x1024_0_2048 : S4096x1024.Idx → EReal) (ix2 a b)
    = z (ix2 a ⟨2048 + b.val, by omega⟩) := by
  pointwise

theorem slice_3072 (b : Fin 1024) : (extractStridedSlice S4096x1024 ![0, 3072] z slices_S4096x6160_S4096x1024_0_3072 : S4096x1024.Idx → EReal) (ix2 a b)
    = z (ix2 a ⟨3072 + b.val, by omega⟩) := by
  pointwise

theorem slice_4096 (b : Fin 16) : (extractStridedSlice S4096x16 ![0, 4096] z slices_S4096x6160_S4096x16_0_4096 : S4096x16.Idx → EReal) (ix2 a b)
    = z (ix2 a ⟨4096 + b.val, by omega⟩) := by
  pointwise

theorem slice_4112 (b : Fin 1024) : (extractStridedSlice S4096x1024 ![0, 4112] z slices_S4096x6160_S4096x1024_0_4112 : S4096x1024.Idx → EReal) (ix2 a b)
    = z (ix2 a ⟨4112 + b.val, by omega⟩) := by
  pointwise

theorem slice_5136 (b : Fin 1024) : (extractStridedSlice S4096x1024 ![0, 5136] z slices_S4096x6160_S4096x1024_0_5136 : S4096x1024.Idx → EReal) (ix2 a b)
    = z (ix2 a ⟨5136 + b.val, by omega⟩) := by
  pointwise

end Slices

end Cert.InFwdRefIdeal.Grad

end
-- ==== Proof.InFwdTie.lean ====
module

public import proofs.«01_k».proof.Proof.InFwdValue
public import proofs.«01_k».proof.Proof.InFwdRefValue

/-!
# The input projection's call gives the layer's lines

On memories that agree on the three arguments, the call's eight result arrays are the reference's.
-/

@[expose] public section

set_option maxRecDepth 16384

noncomputable section

open Idealize.ShloMosaic Idealize.ShloMosaic.TcCoe Idealize.SL.Sem

namespace Cert.InFwdTie

variable (m : (ℓ : Loc Cert.InFwdIdeal.nD Cert.InFwdIdeal.τ Cert.InFwdIdeal.sig) → Buf (Elt Ideal) ℓ)
  (m' : (ℓ : Loc Cert.InFwdRefIdeal.nD Cert.InFwdRefIdeal.τ Cert.InFwdRefIdeal.sig) → Buf (Elt Ideal) ℓ)
  (c : Dev Cert.InFwdIdeal.nD)

open Cert.InFwdIdeal Cert.InFwdIdeal.Grad Cert.InFwdIdeal.Gen

/-- The two memories hold the same arguments. -/
structure Agree : Prop where
  h : Cert.InFwdRefIdeal.Grad.aH m' c = aH m c
  g : Cert.InFwdRefIdeal.Grad.aG m' c = aG m c
  w : Cert.InFwdRefIdeal.Grad.aW m' c = aW m c

variable {m m' c} (e : Agree m m' c)
include e

/-- The normalised rows agree. -/
theorem norm_row (a : Fin 4096) (b : Fin 1024) : (Cert.InFwdRefIdeal.Grad.hNorm m' c : S4096x1024.Idx → EReal) (ix2 a b) = hn m c a b := by
  rw [Cert.InFwdRefIdeal.Grad.norm_apply, e.h, e.g]
  rfl

/-- Their product with the weight agrees. -/
theorem proj_row (a : Fin 4096) (b : Fin 6160) : (Cert.InFwdRefIdeal.Grad.hProj m' c : Cert.InFwdRefIdeal.S4096x6160.Idx → EReal) (ix2 a b) = proj m c a b := by
  rw [Cert.InFwdRefIdeal.Grad.proj_apply, e.w]
  simp only [norm_row e]
  rfl

/-- The queries. -/
theorem q_eq : (truncf .bf16 (extractStridedSlice S4096x1024 ![0, 0] (Cert.InFwdRefIdeal.Grad.hProj m' c) Cert.InFwdRefIdeal.Gen.slices_S4096x6160_S4096x1024_0_0) Cert.InFwdRefIdeal.Gen.bitsLt_bf16_f32 : S4096x1024.Idx → EReal)
    = (fun j : S4096x1024.Idx => seg m c 0 (by omega) (j 0) (j 1)) := by
  funext i
  obtain ⟨a, b, rfl⟩ : ∃ a b, i = (ix2 a b : S4096x1024.Idx) := ⟨_, _, eq_ix2 i⟩
  exact (Cert.InFwdRefIdeal.Grad.slice_0 a _ b).trans (proj_row e a _)

/-- The keys. -/
theorem k_eq : (truncf .bf16 (extractStridedSlice S4096x1024 ![0, 1024] (Cert.InFwdRefIdeal.Grad.hProj m' c) Cert.InFwdRefIdeal.Gen.slices_S4096x6160_S4096x1024_0_1024) Cert.InFwdRefIdeal.Gen.bitsLt_bf16_f32 : S4096x1024.Idx → EReal)
    = (fun j : S4096x1024.Idx => seg m c 1024 (by omega) (j 0) (j 1)) := by
  funext i
  obtain ⟨a, b, rfl⟩ : ∃ a b, i = (ix2 a b : S4096x1024.Idx) := ⟨_, _, eq_ix2 i⟩
  exact (Cert.InFwdRefIdeal.Grad.slice_1024 a _ b).trans (proj_row e a _)

/-- The values. -/
theorem v_eq : (truncf .bf16 (extractStridedSlice S4096x1024 ![0, 2048] (Cert.InFwdRefIdeal.Grad.hProj m' c) Cert.InFwdRefIdeal.Gen.slices_S4096x6160_S4096x1024_0_2048) Cert.InFwdRefIdeal.Gen.bitsLt_bf16_f32 : S4096x1024.Idx → EReal)
    = (fun j : S4096x1024.Idx => seg m c 2048 (by omega) (j 0) (j 1)) := by
  funext i
  obtain ⟨a, b, rfl⟩ : ∃ a b, i = (ix2 a b : S4096x1024.Idx) := ⟨_, _, eq_ix2 i⟩
  exact (Cert.InFwdRefIdeal.Grad.slice_2048 a _ b).trans (proj_row e a _)

/-- The attention gate. -/
theorem z_eq : (extractStridedSlice S4096x1024 ![0, 3072] (Cert.InFwdRefIdeal.Grad.hProj m' c) Cert.InFwdRefIdeal.Gen.slices_S4096x6160_S4096x1024_0_3072 : S4096x1024.Idx → EReal)
    = (fun j : S4096x1024.Idx => seg m c 3072 (by omega) (j 0) (j 1)) := by
  funext i
  obtain ⟨a, b, rfl⟩ : ∃ a b, i = (ix2 a b : S4096x1024.Idx) := ⟨_, _, eq_ix2 i⟩
  exact (Cert.InFwdRefIdeal.Grad.slice_3072 a _ b).trans (proj_row e a _)

/-- The forget gates' logits. -/
theorem f_eq : (extractStridedSlice S4096x16 ![0, 4096] (Cert.InFwdRefIdeal.Grad.hProj m' c) Cert.InFwdRefIdeal.Gen.slices_S4096x6160_S4096x16_0_4096 : S4096x16.Idx → EReal)
    = (fun j : S4096x16.Idx => gates m c (j 0) (j 1)) := by
  funext i
  obtain ⟨a, b, rfl⟩ : ∃ a b, i = (ix2 a b : S4096x16.Idx) := ⟨_, _, eq_ix2 i⟩
  exact (Cert.InFwdRefIdeal.Grad.slice_4096 a _ b).trans (proj_row e a _)

/-- The pooling branch's first projection. -/
theorem u_eq : (extractStridedSlice S4096x1024 ![0, 4112] (Cert.InFwdRefIdeal.Grad.hProj m' c) Cert.InFwdRefIdeal.Gen.slices_S4096x6160_S4096x1024_0_4112 : S4096x1024.Idx → EReal)
    = (fun j : S4096x1024.Idx => seg m c 4112 (by omega) (j 0) (j 1)) := by
  funext i
  obtain ⟨a, b, rfl⟩ : ∃ a b, i = (ix2 a b : S4096x1024.Idx) := ⟨_, _, eq_ix2 i⟩
  exact (Cert.InFwdRefIdeal.Grad.slice_4112 a _ b).trans (proj_row e a _)

/-- The pooling branch's second projection. -/
theorem w_eq : (extractStridedSlice S4096x1024 ![0, 5136] (Cert.InFwdRefIdeal.Grad.hProj m' c) Cert.InFwdRefIdeal.Gen.slices_S4096x6160_S4096x1024_0_5136 : S4096x1024.Idx → EReal)
    = (fun j : S4096x1024.Idx => seg m c 5136 (by omega) (j 0) (j 1)) := by
  funext i
  obtain ⟨a, b, rfl⟩ : ∃ a b, i = (ix2 a b : S4096x1024.Idx) := ⟨_, _, eq_ix2 i⟩
  exact (Cert.InFwdRefIdeal.Grad.slice_5136 a _ b).trans (proj_row e a _)

/-- The normalised rows. -/
theorem hn_eq : (truncf .bf16 (Cert.InFwdRefIdeal.Grad.hNorm m' c) Cert.InFwdRefIdeal.Gen.bitsLt_bf16_f32 : S4096x1024.Idx → EReal)
    = (fun j : S4096x1024.Idx => hn m c (j 0) (j 1)) := by
  funext i
  obtain ⟨a, b, rfl⟩ : ∃ a b, i = (ix2 a b : S4096x1024.Idx) := ⟨_, _, eq_ix2 i⟩
  exact norm_row e a b

end Cert.InFwdTie

end
-- ==== Proof.PoolWValue.lean ====
module

public import proofs.«01_k».proof.Proof.Gen.PoolWIdeal.Value
public import proofs.«01_k».proof.Proof.Gen.PoolWRefIdeal.Run
public import Idealize.ShloMosaic.Lib.Pipeline.ValueKit
public import Idealize.ShloMosaic.Lib.Pipeline.ReadBack
public import Idealize.ShloMosaic.Lib.IdealHost
public import Idealize.ShloMosaic.Lib.Pointwise
public import Idealize.ShloMosaic.Lib.Tactic

@[expose] public section

/-!
# The gradient of the pooled mixing weight, element by element

The weight is block diagonal: four groups of 256 columns, each with a 256 x 256 matrix of its own. The call goes over the
groups, and for each over the 4096 tokens in four blocks of 1024: the first block of a group starts from zero, the others
add to what is there. `value` states what the result array holds at the end, `reference_value` the reference's result.
-/

set_option maxRecDepth 16384

noncomputable section

open Idealize.ShloMosaic Idealize.ShloMosaic.TcCoe Idealize.SL.Sem

namespace Cert.PoolWIdeal.Grad

open Cert.PoolWIdeal Cert.PoolWIdeal.Gen Cert.PoolWIdeal.Value

variable (m : (ℓ : Loc nD τ sig) → Buf (Elt Ideal) ℓ)

/-- The printed index maps, decided over the grid: at point `t` both operands read the block of rows `t % 4` and the group
    of columns `t / 4`. -/
theorem idx : ∀ t : Fin cfg0.N, win0_0.index t = ![t.val % 4, t.val / 4] ∧ win0_1.index t = ![t.val % 4, t.val / 4] :=
  (by decide +kernel : ∀ t : Fin grid0.N, _)

/-- The pooled rows: what argument 0 holds when the program starts. -/
abbrev x0 (c : Dev nD) : S4096x1024.Idx → EReal := m ((c : Thread nD τ).loc main_arg0)

/-- The mixed rows' cotangent: what argument 1 holds when the program starts. -/
abbrev x1 (c : Dev nD) : S4096x1024.Idx → EReal := m ((c : Thread nD τ).loc main_arg1)

/-- The left operand's block at point `t`. -/
abbrev lhs (c : Dev nD) (t : Fin cfg0.N) : S1024x256.Idx → EReal := iblk m c 0 t

/-- The right operand's block at point `t`. -/
abbrev rhs (c : Dev nD) (t : Fin cfg0.N) : S1024x256.Idx → EReal := iblk m c 1 t

/-- The left operand's block at an index, as an entry of the argument array. -/
theorem lhs_apply (c : Dev nD) (t : Fin cfg0.N) (k : Fin 1024) (j : Fin 256) (a : Fin 4096) (b : Fin 1024)
    (ha : a.val = t.val % 4 * 1024 + k.val) (hb : b.val = t.val / 4 * 256 + j.val) : lhs m c t (ix2 k j) = x0 m c (ix2 a b) := by
  blk_ext! [iblk, V, (idx t).1]

/-- The right operand's block at an index, as an entry of the argument array. -/
theorem rhs_apply (c : Dev nD) (t : Fin cfg0.N) (k : Fin 1024) (j : Fin 256) (a : Fin 4096) (b : Fin 1024)
    (ha : a.val = t.val % 4 * 1024 + k.val) (hb : b.val = t.val / 4 * 256 + j.val) : rhs m c t (ix2 k j) = x1 m c (ix2 a b) := by
  blk_ext! [iblk, V, (idx t).2]

/-- What point `n` adds at an index of the block: the product of its blocks, the left one transposed. -/
def part (c : Dev nD) (n : ℕ) (j : S1x256x256.Idx) : EReal :=
  if h : n < cfg0.N then ∑ k : Fin 1024, lhs m c ⟨n, h⟩ (ix2 k (j 1)) * rhs m c ⟨n, h⟩ (ix2 k (j 2)) else 0

/-- A group's first point starts from zero. -/
theorem reset_apply (c : Dev nD) (n : ℕ) (h : n < cfg0.N) (j : S1x256x256.Idx) :
    (reset2 m c n h : S1x256x256.Idx → EReal) j = 0 + part m c n j := by
  unfold reset2 part
  rw [dif_pos h, zero_add]
  pointwise [k0_pay1, k0_pay2]

/-- The other points add to what is there. -/
theorem step_apply (c : Dev nD) (n : ℕ) (h : n < cfg0.N) (acc : S1x256x256.Idx → EReal) (j : S1x256x256.Idx) :
    (step2 m c n h acc : S1x256x256.Idx → EReal) j = acc j + part m c n j := by
  unfold step2 part
  rw [dif_pos h]
  pointwise [k0_pay2]

/-- The column of the argument arrays that the column `d` of group `g` is. -/
def col (g : Fin 4) (d : Fin 256) : Fin 1024 := ⟨g.val * 256 + d.val, by omega⟩

/-- The result array at an index: in each group, the product of the two arguments' columns, the first transposed. -/
theorem value (c : Dev nD) (i : S4x256x256.Idx) :
    (G2 m c : S4x256x256.Idx → EReal) i
      = ∑ k : Fin 4096, x0 m c (ix2 k (col (i 0) (i 1))) * x1 m c (ix2 k (col (i 0) (i 2))) := by
  have b0 : (i 0).val < 4 := (i 0).isLt
  have b1 : (i 1).val < 256 := (i 1).isLt
  have b2 : (i 2).val < 256 := (i 2).isLt
  have hN : cfg0.N = 16 := N_0
  have hr : run2Of i = (i 0).val := by unfold run2Of; omega
  have ht : 4 * run2Of i + 3 < cfg0.N := by omega
  have e1 : (loc2Of i) 1 = i 1 := Fin.ext (Nat.mod_eq_of_lt b1)
  have e2 : (loc2Of i) 2 = i 2 := Fin.ext (Nat.mod_eq_of_lt b2)
  unfold G2
  rw [dif_pos ht]
  refine (Pipeline.accAt_add_apply (ι := S1x256x256.Idx) (β := EReal) (reset2 m c) (step2 m c) (fun _ => 0) (part m c)
    (4 * run2Of i) 3 (fun h j => reset_apply m c _ h j) (fun n h acc j _ _ => step_apply m c n h acc j) 3 le_rfl ht
    (loc2Of i)).trans ?_
  rw [zero_add, Finset.sum_range, Fin.sum_univ_tiles 4 1024 rfl]
  refine Finset.sum_congr rfl fun s _ => ?_
  have hs : 4 * run2Of i + s.val < cfg0.N := by omega
  unfold part
  rw [dif_pos hs, e1, e2]
  refine Finset.sum_congr rfl fun k _ => congr_arg₂ _
    (lhs_apply m c _ k _ _ _ (by dsimp only; omega) (by unfold col; dsimp only; omega))
    (rhs_apply m c _ k _ _ _ (by dsimp only; omega) (by unfold col; dsimp only; omega))

end Cert.PoolWIdeal.Grad

namespace Cert.PoolWRefIdeal.Grad

open Cert.PoolWRefIdeal Cert.PoolWRefIdeal.Gen

/-- The reference's result, as a function of the two argument arrays. -/
def result {F : FTy → Type} [FloatOps F] (p d : FVec F S4096x1024 .bf16) : FVec F S4x256x256 .f32 :=
  transpose S4x256x256 [0, 2, 1] (Host.dotGeneral dot_S4x256x4096_S4096x4x256_S4x256x256_2_0_1_2_0_1 none (transpose S4x256x4096 [1, 2, 0] (shapeCast _ (extf .f32 d bitsLt_bf16_f32) shapeCasts_S4096x1024_S4096x4x256) transposes_S4096x4x256_S4x256x4096_1_2_0) (shapeCast _ (extf .f32 p bitsLt_bf16_f32) shapeCasts_S4096x1024_S4096x4x256)) transposes_S4x256x256_S4x256x256_0_2_1

/-- The reference's result at an index: the same product. -/
theorem reference_value (p d : S4096x1024.Idx → EReal) (i : S4x256x256.Idx) :
    (result (F := Ideal) p d : S4x256x256.Idx → EReal) i
      = ∑ k : Fin 4096, d (ix2 k (Cert.PoolWIdeal.Grad.col (i 0) (i 2))) * p (ix2 k (Cert.PoolWIdeal.Grad.col (i 0) (i 1))) := by
  have b0 : (i 0).val < 4 := (i 0).isLt
  have b1 : (i 1).val < 256 := (i 1).isLt
  have b2 : (i 2).val < 256 := (i 2).isLt
  unfold result
  pointwise
  rfl

end Cert.PoolWRefIdeal.Grad
end
-- ==== Proof.LossGradValue.lean ====
module

public import proofs.«01_k».proof.Proof.Gen.LossGradIdeal.Run
public import proofs.«01_k».proof.Proof.Gen.LossGradRefIdeal.Run
public import proofs.«01_k».proof.Proof.RmsNormBwd
public import Idealize.ShloMosaic.Lib.Pipeline.ValueKit
public import Idealize.ShloMosaic.Lib.Pipeline.ReadBack
public import Idealize.ShloMosaic.Lib.IdealHost
public import Idealize.ShloMosaic.Lib.Pointwise
public import Idealize.ShloMosaic.Lib.Tactic

@[expose] public section

/-!
# The loss and its gradient

The call goes over the rows in eight blocks of 512. Each point writes its block of the gradient, and adds its block's share
to the loss: the sum of the squared errors, times 2⁻¹¹. The reference halves the sum over the rows of the mean squared
error. The two are the same since squares are not negative, so that the constant factor may be pulled out of every sum,
whatever the entries are.
-/

set_option maxRecDepth 16384

noncomputable section

open Idealize.ShloMosaic Idealize.ShloMosaic.TcCoe Idealize.SL.Sem

namespace Cert.LossGradIdeal.Loss

open Cert.LossGradIdeal Cert.LossGradIdeal.Gen Cert.LossGradIdeal.Value

/-! ## The constants, and sums of squares -/

theorem half_eq : Ideal.ofBits .f32 0x3F000000#32 = ((1 / 2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem scale_eq : Ideal.ofBits .f32 0x3A800000#32 = ((1 / 1024 : ℝ) : EReal) := by
  simp [Ideal.ofBits, Ideal.ieee, -EReal.coe_mul]; norm_num
theorem share_eq : Ideal.ofBits .f32 0x3A000000#32 = ((1 / 2048 : ℝ) : EReal) := by
  simp [Ideal.ofBits, Ideal.ieee, -EReal.coe_mul]; norm_num

/-- A factor comes out of a sum of terms that are not negative. -/
theorem sum_mul_of_nonneg {ι : Type*} (s : Finset ι) (f : ι → EReal) (hf : ∀ i, 0 ≤ f i) (a : EReal) :
    (∑ i ∈ s, f i) * a = ∑ i ∈ s, f i * a := by
  classical
  induction s using Finset.induction_on with
  | empty => simp
  | insert i s hi ih =>
    rw [Finset.sum_insert hi, Finset.sum_insert hi, ← ih]
    exact EReal.right_distrib_of_nonneg (hf i) (Finset.sum_nonneg fun k _ => hf k)

/-! ## The blocks -/

variable (m : (ℓ : Loc nD τ sig) → Buf (Elt Ideal) ℓ) (c : Dev nD)

/-- The trunk's output: what argument 0 holds when the program starts. -/
abbrev y : S4096x1024.Idx → EReal := m ((c : Thread nD τ).loc main_arg0)

/-- The target: what argument 1 holds when the program starts. -/
abbrev target : S4096x1024.Idx → EReal := m ((c : Thread nD τ).loc main_arg1)

/-- The error at an index. -/
def err (a : Fin 4096) (b : Fin 1024) : EReal := y m c (ix2 a b) - target m c (ix2 a b)

/-- A row's sum of squared errors. -/
def rowSq (a : Fin 4096) : EReal := ∑ b : Fin 1024, err m c a b * err m c a b

theorem rowSq_nonneg (a : Fin 4096) : 0 ≤ rowSq m c a := Finset.sum_nonneg fun b _ => RmsNorm.sq_nonneg _

/-- The index maps: at point `t` both operands are read, and the gradient written, at the block of rows `t`; the loss's
    block is always the same. -/
theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

/-- The array's row that row `r` of point `t`'s block is. -/
def rowOf (t : Fin cfg0.N) (r : Fin 512) : Fin 4096 := ⟨t.val * 512 + r.val, by have := t.isLt; have : cfg0.N = 8 := N_0; omega⟩

/-- The trunk's output's block at point `t`. -/
abbrev bY (t : Fin cfg0.N) : S512x1024.Idx → EReal := iblk m c 0 t

/-- The target's block at point `t`. -/
abbrev bT (t : Fin cfg0.N) : S512x1024.Idx → EReal := iblk m c 1 t

section Blocks
variable (t : Fin cfg0.N) (r : Fin 512) (b : Fin 1024)

theorem bY_apply : bY m c t (ix2 r b) = y m c (ix2 (rowOf t r) b) := by
  have hr : (rowOf t r).val = t.val * 512 + r.val := rfl
  blk_ext! [iblk, V, (idx t).1]
theorem bT_apply : bT m c t (ix2 r b) = target m c (ix2 (rowOf t r) b) := by
  have hr : (rowOf t r).val = t.val * 512 + r.val := rfl
  blk_ext! [iblk, V, (idx t).2.1]

theorem place_2 : (win0_2.blk t).view.emb (ix2 r b) = (ix2 (rowOf t r) b : S4096x1024.Idx) := by
  funext d
  match d with
  | ⟨0, _⟩ => exact Fin.ext (by blk_simp [(idx t).2.2.1]; rfl)
  | ⟨1, _⟩ => exact Fin.ext (by blk_simp [(idx t).2.2.1])
theorem place_3 (p : Fin 8) (q : Fin 128) : (win0_3.blk t).view.emb (ix2 p q) = (ix2 p q : S8x128.Idx) := by
  funext d
  match d with
  | ⟨0, _⟩ => exact Fin.ext (by blk_simp [(idx t).2.2.2])
  | ⟨1, _⟩ => exact Fin.ext (by blk_simp [(idx t).2.2.2])

end Blocks

/-! ## What a point leaves -/

/-- The gradient's block after point `t`. -/
theorem grad_point (t : Fin cfg0.N) (r : Fin 512) (b : Fin 1024) :
    ((outsAt0 m c t.val t.isLt).1 : S512x1024.Idx → EReal) (ix2 r b) = err m c (rowOf t r) b * Ideal.ofBits .f32 0x3A800000#32 := by
  unfold err
  rw [← bY_apply, ← bT_apply]
  by_cases h0 : t.val % 8 = 0
  · rw [outsAt0_A m c t h0]
    dsimp only
    frame_out
    pointwise [k0_pay2, k0_pay3]
  · rw [outsAt0_B m c t h0]
    dsimp only
    frame_out
    pointwise [k0_pay2, k0_pay3]

/-- What point `t` adds to the loss. -/
def share (n : ℕ) : EReal :=
  if h : n < cfg0.N then (∑ r : Fin 512, rowSq m c (rowOf ⟨n, h⟩ r)) * Ideal.ofBits .f32 0x3A000000#32 else 0

/-- A row's sum of squared errors, over a point's blocks. -/
theorem rowSq_block (t : Fin cfg0.N) (r : Fin 512) :
    rowSq m c (rowOf t r) = ∑ b : Fin 1024, (bY m c t (ix2 r b) - bT m c t (ix2 r b)) *
      (bY m c t (ix2 r b) - bT m c t (ix2 r b)) := by
  unfold rowSq err
  exact Finset.sum_congr rfl fun b _ => by rw [bY_apply, bT_apply]

/-- The body's sum of squares, over a point's blocks. -/
theorem pay_share (t : Fin cfg0.N) (acc : S8x128.Idx → EReal) (j : S8x128.Idx) :
    (k0_pay4 (F := Ideal) (iblk m c 0 t) (iblk m c 1 t) acc : S8x128.Idx → EReal) j = acc j + share m c t.val := by
  have e : share m c t.val = (∑ r : Fin 512, rowSq m c (rowOf t r)) * Ideal.ofBits .f32 0x3A000000#32 := by
    unfold share
    rw [dif_pos t.isLt]
  rw [e, Finset.sum_congr rfl fun r _ => rowSq_block m c t r]
  pointwise [k0_pay4, k0_pay2]

/-- The first point starts the loss from zero. -/
theorem loss_first (t : Fin cfg0.N) (h0 : t.val % 8 = 0) (j : S8x128.Idx) :
    ((outsAt0 m c t.val t.isLt).2 : S8x128.Idx → EReal) j = 0 + share m c t.val := by
  rw [outsAt0_A m c t h0]
  dsimp only
  frame_out
  refine (pay_share m c t _ j).trans ?_
  pointwise [k0_pay1]

/-- The others add to it. -/
theorem loss_next (t : Fin cfg0.N) (h0 : ¬t.val % 8 = 0) (j : S8x128.Idx) :
    ((outsAt0 m c t.val t.isLt).2 : S8x128.Idx → EReal) j
      = ((outsAt0 m c (t.val - 1) (Nat.lt_of_le_of_lt (Nat.sub_le _ _) t.isLt)).2 : S8x128.Idx → EReal) j + share m c t.val := by
  rw [outsAt0_B m c t h0]
  dsimp only
  frame_out
  exact pay_share m c t _ j

/-- The loss, as the call sums it up. -/
def loss : EReal := ∑ s : Fin 8, share m c s.val

/-- The loss's block after the last point: the shares of all eight. -/
theorem loss_last (t : Fin cfg0.N) (h7 : t.val = 7) (j : S8x128.Idx) :
    ((outsAt0 m c t.val t.isLt).2 : S8x128.Idx → EReal) j = loss m c := by
  refine (Pipeline.eq_sum_of_reset_step_single_of_mod (M := EReal) (fun n h => ((outsAt0 m c n h).2 : S8x128.Idx → EReal) j) 8 0 (share m c)
    (fun t h0 => loss_first m c t h0 j) (fun t h0 => loss_next m c t h0 j) (by have : cfg0.N = 8 := N_0; omega) t (r := 7) (by omega)).trans ?_
  rw [zero_add, Finset.sum_range]
  rfl

/-! ## The result arrays -/

/-- The gradient's array. -/
theorem reg_grad : reg_main_v0_0 m c = (fun j : S4096x1024.Idx => err m c (j 0) (j 1) * Ideal.ofBits .f32 0x3A800000#32) := by
  refine (dats m 0 c).arrAt_eq_of_covers 2 _ (by decide +kernel) fun t ht y => ?_
  blk_simp
  rw [after0_2]
  obtain ⟨r, b, rfl⟩ : ∃ r b, y = (ix2 r b : S512x1024.Idx) := ⟨_, _, eq_ix2 y⟩
  rw [place_2 t r b]
  exact grad_point m c t r b

/-- The loss's array. -/
theorem reg_loss : reg_main_v0_1 m c = (fun _ : S8x128.Idx => loss m c) := by
  refine (dats m 0 c).arrAt_eq_of_covers 3 _ (by decide +kernel) fun t ht y => ?_
  have h7 : t.val = 7 := (by decide +kernel : ∀ t : Fin grid0.N, win0_3.flush t = true → t.val = 7) t ht
  blk_simp
  rw [after0_3]
  exact loss_last m c t h7 y

/-! ## The reference -/

/-- The loss over all the rows, as a sum of the rows' sums of squares. -/
theorem loss_eq : loss m c = Ideal.ofBits .f32 0x3F000000#32 * ∑ a : Fin 4096, Ideal.div (rowSq m c a) (Ideal.ofBits .f32 0x44800000#32) := by
  have hd : ∀ a : Fin 4096, Ideal.div (rowSq m c a) (Ideal.ofBits .f32 0x44800000#32) = rowSq m c a * ((1 / 1024 : ℝ) : EReal) := fun a => by
    rw [show Ideal.ofBits .f32 0x44800000#32 = ((1024 : ℝ) : EReal) from RmsNorm.len_eq, Ideal.div_coe (by norm_num)]
  have hs : ∀ s : Fin 8, share m c s.val = ∑ r : Fin 512, rowSq m c (rowOf ⟨s.val, by have : cfg0.N = 8 := N_0; omega⟩ r) * ((1 / 2048 : ℝ) : EReal) := fun s => by
    unfold share
    rw [dif_pos (by have : cfg0.N = 8 := N_0; omega), sum_mul_of_nonneg _ _ (fun r => rowSq_nonneg m c _), share_eq]
  unfold loss
  rw [Finset.sum_congr rfl fun a _ => hd a, ← sum_mul_of_nonneg _ _ (fun a => rowSq_nonneg m c a), half_eq, mul_comm, mul_assoc,
    ← EReal.coe_mul, show (1 / 1024 : ℝ) * (1 / 2) = 1 / 2048 by norm_num, sum_mul_of_nonneg _ _ (fun a => rowSq_nonneg m c a),
    Fin.sum_univ_tiles 8 512 rfl]
  exact Finset.sum_congr rfl fun s _ => hs s

end Cert.LossGradIdeal.Loss

namespace Cert.LossGradRefIdeal.Loss

open Cert.LossGradRefIdeal Cert.LossGradRefIdeal.Gen

section Terms
variable {F : FTy → Type} [FloatOps F]

/-- The reference's loss, as a function of the two argument arrays. -/
def loss (y t : FVec F S4096x1024 .f32) : FVec F S_ .f32 :=
  mulf (constant S_ .f32 0x3F000000#32) (Host.reduceAdd (Host.divf (Host.reduceAdd (mulf (subf y t) (subf y t)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)

/-- The reference's gradient. -/
def grad (y t : FVec F S4096x1024 .f32) : FVec F S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf y t))

end Terms

variable (y t : S4096x1024.Idx → EReal)

theorem loss_apply (i : S_.Idx) : (loss (F := Ideal) y t : S_.Idx → EReal) i =
    Ideal.ofBits .f32 0x3F000000#32 * ∑ a : Fin 4096, Ideal.div (∑ b : Fin 1024, (y (ix2 a b) - t (ix2 a b)) * (y (ix2 a b) - t (ix2 a b))) (Ideal.ofBits .f32 0x44800000#32) := by
  unfold loss
  pointwise

theorem grad_apply (i : S4096x1024.Idx) : (grad (F := Ideal) y t : S4096x1024.Idx → EReal) i = (y i - t i) * Ideal.ofBits .f32 0x3A800000#32 := by
  unfold grad
  pointwise
  open Cert.LossGradIdeal.Loss in
  rw [half_eq, two_eq, scale_eq, show Ideal.ofBits .f32 0x44800000#32 = ((1024 : ℝ) : EReal) from RmsNorm.len_eq,
    Ideal.div_coe (by norm_num), ← EReal.coe_mul, ← mul_assoc, ← EReal.coe_mul, mul_comm]
  norm_num

end Cert.LossGradRefIdeal.Loss

namespace Cert.LossGradTie

open Cert.LossGradIdeal Cert.LossGradIdeal.Gen Cert.LossGradIdeal.Value Cert.LossGradIdeal.Loss

variable (m : (ℓ : Loc nD τ sig) → Buf (Elt Ideal) ℓ) (c : Dev nD)

/-- The losses agree. -/
theorem loss_tie (hs : S8x128.Slices ![0, 0] S1x1) (hc : S1x1.ShapeCasts S_) :
    shapeCast S_ (extractStridedSlice S1x1 ![0, 0] (reg_main_v0_1 m c) hs) hc = Cert.LossGradRefIdeal.Loss.loss (F := Ideal) (y m c) (target m c) := by
  funext i
  refine Eq.trans ?_ (Cert.LossGradRefIdeal.Loss.loss_apply _ _ i).symm
  rw [reg_loss]
  exact loss_eq m c

/-- The gradients agree. -/
theorem grad_tie : reg_main_v0_0 m c = Cert.LossGradRefIdeal.Loss.grad (F := Ideal) (y m c) (target m c) := by
  funext i
  obtain ⟨a, b, rfl⟩ : ∃ a b, i = (ix2 a b : S4096x1024.Idx) := ⟨_, _, eq_ix2 i⟩
  rw [reg_grad]
  exact (Cert.LossGradRefIdeal.Loss.grad_apply _ _ _).symm

end Cert.LossGradTie
end
-- ==== Proof.AdamSmallValue.lean ====
module

public import proofs.«01_k».proof.Proof.Gen.AdamSmallIdeal.Run
public import Idealize.ShloMosaic.Lib.Pipeline.ValueKit
public import Idealize.ShloMosaic.Lib.Pipeline.ReadBack
public import Idealize.ShloMosaic.Lib.IdealHost
public import Idealize.ShloMosaic.Lib.Pointwise
public import Idealize.ShloMosaic.Lib.Tactic

@[expose] public section

/-!
# The optimiser's step on the small weights, element by element

The four small weights lie in one array of eight rows, two rows (one for each layer) a weight, and so do their two
moments; the gates' bias, which is sixteen wide, is padded with zeros. The gradients come from eight devices, in the same
layout, and the call adds them up. Every result is read off the rows it lies in.
-/

set_option maxRecDepth 16384

noncomputable section

open Idealize.ShloMosaic Idealize.ShloMosaic.TcCoe Idealize.SL.Sem

namespace Cert.AdamSmallIdeal.Step

open Cert.AdamSmallIdeal Cert.AdamSmallIdeal.Gen Cert.AdamSmallIdeal.Value

variable (m : (ℓ : Loc nD τ sig) → Buf (Elt Ideal) ℓ) (c : Dev nD)

/-- The devices' gradients: what argument 12 holds when the program starts. -/
abbrev parts : S8x8x1024.Idx → EReal := m ((c : Thread nD τ).loc main_arg12)

/-- The packed weights. -/
abbrev pW : S8x1024.Idx → EReal := V m c main_v4
/-- The packed first moments. -/
abbrev pM : S8x1024.Idx → EReal := V m c main_v9
/-- The packed second moments. -/
abbrev pV : S8x1024.Idx → EReal := V m c main_v14

/-- Four weights packed into one array, the last padded with zeros. -/
def pack (a b d : FVec Ideal S2x1024 .f32) (e : FVec Ideal S2x16 .f32) : FVec Ideal S8x1024 .f32 :=
  concatenate S8x1024 0 [
    ⟨S2x1024, pad S2x1024 ![0, 0] ![0, 0] ![0, 0] a (sitofp (F := Ideal) FTy.f32 (constantI S_ 32 0#32)) pads_S2x1024_S2x1024_000_000 h_S_⟩,
    ⟨S2x1024, pad S2x1024 ![0, 0] ![0, 0] ![0, 0] b (sitofp (F := Ideal) FTy.f32 (constantI S_ 32 0#32)) pads_S2x1024_S2x1024_000_000 h_S_⟩,
    ⟨S2x1024, pad S2x1024 ![0, 0] ![0, 0] ![0, 0] d (sitofp (F := Ideal) FTy.f32 (constantI S_ 32 0#32)) pads_S2x1024_S2x1024_000_000 h_S_⟩,
    ⟨S2x1024, pad S2x1024 ![0, 0] ![0, 1008] ![0, 0] e (sitofp (F := Ideal) FTy.f32 (constantI S_ 32 0#32)) pads_S2x16_S2x1024_000_010080 h_S_⟩]
    concatenates_S2x1024_S2x1024_S2x1024_S2x1024_S8x1024_d0

section Pack
variable (a b d : FVec Ideal S2x1024 .f32) (e : FVec Ideal S2x16 .f32) (q : Fin 8) (r : Fin 2) (k : Fin 1024)

/-- The first weight's rows. -/
theorem pack_0 (hq : q.val = 0 + r.val) : pack a b d e (ix2 q k) = a (ix2 r k) := by
  rw [show q = ⟨r.val, by omega⟩ from Fin.ext (by simp only []; omega)]
  unfold pack
  pointwise

/-- The second weight's rows. -/
theorem pack_2 (hq : q.val = 2 + r.val) : pack a b d e (ix2 q k) = b (ix2 r k) := by
  rw [show q = ⟨2 + r.val, by omega⟩ from Fin.ext hq]
  unfold pack
  pointwise

/-- The third weight's rows. -/
theorem pack_4 (hq : q.val = 4 + r.val) : pack a b d e (ix2 q k) = d (ix2 r k) := by
  rw [show q = ⟨4 + r.val, by omega⟩ from Fin.ext hq]
  unfold pack
  pointwise
  rw [dif_neg (by omega), dif_neg (by omega), dif_pos (by omega), dif_pos (by omega)]
  exact congrArg d (congrArg₂ ix2 (Fin.ext (by simp only []; omega)) rfl)

/-- The last weight's rows, in its sixteen columns. -/
theorem pack_6 (l : Fin 16) (hq : q.val = 6 + r.val) : pack a b d e (ix2 q ⟨l.val, by omega⟩) = e (ix2 r l) := by
  rw [show q = ⟨6 + r.val, by omega⟩ from Fin.ext hq]
  unfold pack
  pointwise
  rw [dif_neg (by omega), dif_neg (by omega), dif_neg (by omega), dif_pos (by omega)]
  exact congrArg e (congrArg₂ ix2 (Fin.ext (by simp only []; omega)) rfl)

end Pack

set_option maxHeartbeats 1600000 in
/-- The packed weights are the four weights, packed. -/
theorem pW_eq : pW m c = pack (m ((c : Thread nD τ).loc main_arg0)) (m ((c : Thread nD τ).loc main_arg1))
    (m ((c : Thread nD τ).loc main_arg2)) (m ((c : Thread nD τ).loc main_arg3)) := by
  unfold pW V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp
  rfl

set_option maxHeartbeats 1600000 in
/-- The packed first moments. -/
theorem pM_eq : pM m c = pack (m ((c : Thread nD τ).loc main_arg4)) (m ((c : Thread nD τ).loc main_arg5))
    (m ((c : Thread nD τ).loc main_arg6)) (m ((c : Thread nD τ).loc main_arg7)) := by
  unfold pM V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp
  rfl

set_option maxHeartbeats 1600000 in
/-- The packed second moments. -/
theorem pV_eq : pV m c = pack (m ((c : Thread nD τ).loc main_arg8)) (m ((c : Thread nD τ).loc main_arg9))
    (m ((c : Thread nD τ).loc main_arg10)) (m ((c : Thread nD τ).loc main_arg11)) := by
  unfold pV V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp
  rfl

/-! ## The update of one entry -/

/-- The new first moment, from the gradient and the old one. -/
def newM (g mo : EReal) : EReal := Ideal.ofBits FTy.f32 0x3F666666#32 * mo + Ideal.ofBits FTy.f32 0x3DCCCCCD#32 * g

/-- The new second moment, from the gradient and the old one. -/
def newV (g vo : EReal) : EReal := Ideal.ofBits FTy.f32 0x3F7FBE77#32 * vo + Ideal.ofBits FTy.f32 0x3A83126F#32 * (g * g)

/-- The weight's change, from the gradient, the weight and the two old moments. -/
def delta (g w mo vo : EReal) : EReal :=
  Ideal.ofBits FTy.f32 0xBA83126F#32 *
    (Ideal.div (Ideal.div (newM g mo) (Ideal.ofBits FTy.f32 0x3F26BD02#32))
        (Ideal.sqrt (Ideal.div (newV g vo) (Ideal.ofBits FTy.f32 0x3C231ACC#32)) + Ideal.ofBits FTy.f32 0x322BCC77#32) +
      Ideal.ofBits FTy.f32 0x3C23D70A#32 * w)

section Out
variable (x0 x1 x2 : Vec Ideal S8x1024 .f32) (x3 : Vec Ideal S8x8x1024 .f32) (j : S8x1024.Idx)

/-- The gradients' window after the body holds the body's sum of the devices' gradients. -/
theorem out_grad : (out0_4 x0 x1 x2 x3 : S8x1024.Idx → EReal) j = k0_pay8 x0 x1 x2 x3 j := by
  unfold out0_4
  generalize k0_pay8 x0 x1 x2 x3 = p
  frame_out

/-- That sum at an index. -/
theorem sum_apply : (k0_pay8 x0 x1 x2 x3 : S8x1024.Idx → EReal) j = ∑ s : Fin 8, (x3 : S8x8x1024.Idx → EReal) (ix3 s (j 0) (j 1)) := by
  rw [← out_grad]
  unfold_out out0_4
  frame_out
  pointwise [k0_pay4]
  exact (Fin.sum_univ_eight fun s : Fin 8 => (x3 : S8x8x1024.Idx → EReal) (ix3 s (j 0) (j 1))).symm

/-- The changes' window after the body. -/
theorem out_delta : (out0_5 x0 x1 x2 x3 : S8x1024.Idx → EReal) j = delta (k0_pay8 x0 x1 x2 x3 j) (x0 j) (x1 j) (x2 j) := by
  unfold out0_5 delta newM newV
  frame_out
  pointwise [k0_pay3, k0_pay1, k0_pay2, k0_pay5, k0_pay9, k0_pay10, k0_pay6, k0_pay7]

/-- The first moments' window after the body. -/
theorem out_m : (out0_6 x0 x1 x2 x3 : S8x1024.Idx → EReal) j = newM (k0_pay8 x0 x1 x2 x3 j) (x1 j) := by
  unfold out0_6 newM
  frame_out
  pointwise [k0_pay1, k0_pay9, k0_pay6]

/-- The second moments' window after the body. -/
theorem out_v : (out0_7 x0 x1 x2 x3 : S8x1024.Idx → EReal) j = newV (k0_pay8 x0 x1 x2 x3 j) (x2 j) := by
  unfold out0_7 newV
  frame_out
  pointwise [k0_pay2, k0_pay10, k0_pay7]

end Out

/-! ## The one point's blocks are the whole arrays -/

/-- The index maps at the one grid point. -/
theorem idx : ∀ t : Fin cfg0.N, win0_0.index t = ![0, 0] ∧ win0_1.index t = ![0, 0] ∧ win0_2.index t = ![0, 0] ∧
    win0_3.index t = ![0, 0, 0] ∧ win0_4.index t = ![0, 0] ∧ win0_5.index t = ![0, 0] ∧ win0_6.index t = ![0, 0] ∧ win0_7.index t = ![0, 0] :=
  (by decide +kernel : ∀ t : Fin grid0.N, _)

section Blocks
variable (t : Fin cfg0.N) (a : Fin 8) (b : Fin 1024)

theorem bW_apply : (iblk m c 0 t : S8x1024.Idx → EReal) (ix2 a b) = pW m c (ix2 a b) := by blk_ext! [iblk, (idx t).1]
theorem bM_apply : (iblk m c 1 t : S8x1024.Idx → EReal) (ix2 a b) = pM m c (ix2 a b) := by blk_ext! [iblk, (idx t).2.1]
theorem bV_apply : (iblk m c 2 t : S8x1024.Idx → EReal) (ix2 a b) = pV m c (ix2 a b) := by blk_ext! [iblk, (idx t).2.2.1]

/-- The devices' gradients' block. -/
theorem bP_apply (s : Fin 8) : (iblk m c 3 t : S8x8x1024.Idx → EReal) (ix3 s a b) = parts m c (ix3 s a b) := by
  have e : V m c main_arg12 = m ((c : Thread nD τ).loc main_arg12) := V_main_arg12 m c
  unfold parts
  rw [← e]
  blk_ext! [iblk, (idx t).2.2.2.1]

theorem place_4 : (win0_4.blk t).view.emb (ix2 a b) = (ix2 a b : S8x1024.Idx) := by
  funext d
  match d with
  | ⟨0, _⟩ => exact Fin.ext (by blk_simp [(idx t).2.2.2.2.1])
  | ⟨1, _⟩ => exact Fin.ext (by blk_simp [(idx t).2.2.2.2.1])
theorem place_5 : (win0_5.blk t).view.emb (ix2 a b) = (ix2 a b : S8x1024.Idx) := by
  funext d
  match d with
  | ⟨0, _⟩ => exact Fin.ext (by blk_simp [(idx t).2.2.2.2.2.1])
  | ⟨1, _⟩ => exact Fin.ext (by blk_simp [(idx t).2.2.2.2.2.1])
theorem place_6 : (win0_6.blk t).view.emb (ix2 a b) = (ix2 a b : S8x1024.Idx) := by
  funext d
  match d with
  | ⟨0, _⟩ => exact Fin.ext (by blk_simp [(idx t).2.2.2.2.2.2.1])
  | ⟨1, _⟩ => exact Fin.ext (by blk_simp [(idx t).2.2.2.2.2.2.1])
theorem place_7 : (win0_7.blk t).view.emb (ix2 a b) = (ix2 a b : S8x1024.Idx) := by
  funext d
  match d with
  | ⟨0, _⟩ => exact Fin.ext (by blk_simp [(idx t).2.2.2.2.2.2.2])
  | ⟨1, _⟩ => exact Fin.ext (by blk_simp [(idx t).2.2.2.2.2.2.2])

end Blocks

/-! ## The result arrays -/

/-- The gradient, in the packed layout: the sum over the devices. -/
def grad (j : S8x1024.Idx) : EReal := ∑ s : Fin 8, parts m c (ix3 s (j 0) (j 1))

/-- The body's sum, over the blocks of the one point. -/
theorem sum_blocks (t : Fin cfg0.N) (a : Fin 8) (b : Fin 1024) :
    (k0_pay8 (iblk m c 0 t) (iblk m c 1 t) (iblk m c 2 t) (iblk m c 3 t) : S8x1024.Idx → EReal) (ix2 a b) = grad m c (ix2 a b) :=
  (sum_apply _ _ _ _ _).trans (Finset.sum_congr rfl fun s _ => bP_apply m c t a b s)

/-- The gradients' array. -/
theorem reg_grad : reg_main_v15_0 m c = (fun j : S8x1024.Idx => grad m c j) := by
  refine (dats m 0 c).arrAt_eq_of_covers 4 _ (by decide +kernel) fun t ht y => ?_
  blk_simp
  rw [after0_4]
  obtain ⟨a, b, rfl⟩ : ∃ a b, y = (ix2 a b : S8x1024.Idx) := ⟨_, _, eq_ix2 y⟩
  rw [place_4 t a b]
  exact (out_grad _ _ _ _ _).trans (sum_blocks m c t a b)

/-- The changes' array. -/
theorem reg_delta : reg_main_v15_1 m c = (fun j : S8x1024.Idx => delta (grad m c j) (pW m c j) (pM m c j) (pV m c j)) := by
  refine (dats m 0 c).arrAt_eq_of_covers 5 _ (by decide +kernel) fun t ht y => ?_
  blk_simp
  rw [after0_5]
  obtain ⟨a, b, rfl⟩ : ∃ a b, y = (ix2 a b : S8x1024.Idx) := ⟨_, _, eq_ix2 y⟩
  rw [place_5 t a b]
  refine (out_delta _ _ _ _ _).trans ?_
  rw [sum_blocks m c t a b, bW_apply m c t a b, bM_apply m c t a b, bV_apply m c t a b]

/-- The first moments' array. -/
theorem reg_m : reg_main_v15_2 m c = (fun j : S8x1024.Idx => newM (grad m c j) (pM m c j)) := by
  refine (dats m 0 c).arrAt_eq_of_covers 6 _ (by decide +kernel) fun t ht y => ?_
  blk_simp
  rw [after0_6]
  obtain ⟨a, b, rfl⟩ : ∃ a b, y = (ix2 a b : S8x1024.Idx) := ⟨_, _, eq_ix2 y⟩
  rw [place_6 t a b]
  refine (out_m _ _ _ _ _).trans ?_
  rw [sum_blocks m c t a b, bM_apply m c t a b]

/-- The second moments' array. -/
theorem reg_v : reg_main_v15_3 m c = (fun j : S8x1024.Idx => newV (grad m c j) (pV m c j)) := by
  refine (dats m 0 c).arrAt_eq_of_covers 7 _ (by decide +kernel) fun t ht y => ?_
  blk_simp
  rw [after0_7]
  obtain ⟨a, b, rfl⟩ : ∃ a b, y = (ix2 a b : S8x1024.Idx) := ⟨_, _, eq_ix2 y⟩
  rw [place_7 t a b]
  refine (out_v _ _ _ _ _).trans ?_
  rw [sum_blocks m c t a b, bV_apply m c t a b]

end Cert.AdamSmallIdeal.Step
end
-- ==== Proof.AdamSmallTie.lean ====
module

public import proofs.«01_k».proof.Proof.AdamSmallValue
public import proofs.«01_k».proof.Proof.Gen.AdamSmallRefIdeal.Run

@[expose] public section

/-!
# The optimiser's step on the small weights: the call and the reference agree

`wide_…` are for the three weights that fill their rows, `narrow_…` for the gates' bias, whose sixteen columns are the
first of its rows.
-/

set_option maxRecDepth 16384

noncomputable section

open Idealize.ShloMosaic Idealize.ShloMosaic.TcCoe Idealize.SL.Sem

namespace Cert.AdamSmallRefIdeal.Step

open Cert.AdamSmallRefIdeal Cert.AdamSmallRefIdeal.Gen

/-! ## The reference's results, as functions of its arrays -/

section Terms
variable {F : FTy → Type} [FloatOps F]

/-- The sum of the devices' gradients. -/
def total (parts : FVec F S8x8x1024 .f32) : FVec F S8x1024 .f32 :=
  Host.reduceAdd parts (constant S_ .f32 0x00000000#32) reducesTo_S8x8x1024_S8x1024_d0 h_S_

/-- The new first moment of a weight that fills its rows. -/
def newM (mo g : FVec F S2x1024 .f32) : FVec F S2x1024 .f32 :=
  addf (mulf (broadcastInDim S2x1024 ![] bcast_S_S2x1024 (constant S_ .f32 0x3F666666#32)) mo) (mulf (broadcastInDim S2x1024 ![] bcast_S_S2x1024 (constant S_ .f32 0x3DCCCCCD#32)) g)

/-- Its new second moment. -/
def newV (vo g : FVec F S2x1024 .f32) : FVec F S2x1024 .f32 :=
  addf (mulf (broadcastInDim S2x1024 ![] bcast_S_S2x1024 (constant S_ .f32 0x3F7FBE77#32)) vo) (mulf (broadcastInDim S2x1024 ![] bcast_S_S2x1024 (constant S_ .f32 0x3A83126F#32)) (mulf g g))

/-- Its change. -/
def delta (w mo vo g : FVec F S2x1024 .f32) : FVec F S2x1024 .f32 :=
  mulf (broadcastInDim S2x1024 ![] bcast_S_S2x1024 (constant S_ .f32 0xBA83126F#32)) (addf (Host.divf (Host.divf (newM mo g) (broadcastInDim S2x1024 ![] bcast_S_S2x1024 (constant S_ .f32 0x3F26BD02#32))) (addf (Host.sqrt (Host.divf (newV vo g) (broadcastInDim S2x1024 ![] bcast_S_S2x1024 (constant S_ .f32 0x3C231ACC#32)))) (broadcastInDim S2x1024 ![] bcast_S_S2x1024 (constant S_ .f32 0x322BCC77#32)))) (mulf (broadcastInDim S2x1024 ![] bcast_S_S2x1024 (constant S_ .f32 0x3C23D70A#32)) w))

/-- The new first moment of the gates' bias. -/
def newM16 (mo g : FVec F S2x16 .f32) : FVec F S2x16 .f32 :=
  addf (mulf (broadcastInDim S2x16 ![] bcast_S_S2x16 (constant S_ .f32 0x3F666666#32)) mo) (mulf (broadcastInDim S2x16 ![] bcast_S_S2x16 (constant S_ .f32 0x3DCCCCCD#32)) g)

/-- Its new second moment. -/
def newV16 (vo g : FVec F S2x16 .f32) : FVec F S2x16 .f32 :=
  addf (mulf (broadcastInDim S2x16 ![] bcast_S_S2x16 (constant S_ .f32 0x3F7FBE77#32)) vo) (mulf (broadcastInDim S2x16 ![] bcast_S_S2x16 (constant S_ .f32 0x3A83126F#32)) (mulf g g))

/-- Its change. -/
def delta16 (w mo vo g : FVec F S2x16 .f32) : FVec F S2x16 .f32 :=
  mulf (broadcastInDim S2x16 ![] bcast_S_S2x16 (constant S_ .f32 0xBA83126F#32)) (addf (Host.divf (Host.divf (newM16 mo g) (broadcastInDim S2x16 ![] bcast_S_S2x16 (constant S_ .f32 0x3F26BD02#32))) (addf (Host.sqrt (Host.divf (newV16 vo g) (broadcastInDim S2x16 ![] bcast_S_S2x16 (constant S_ .f32 0x3C231ACC#32)))) (broadcastInDim S2x16 ![] bcast_S_S2x16 (constant S_ .f32 0x322BCC77#32)))) (mulf (broadcastInDim S2x16 ![] bcast_S_S2x16 (constant S_ .f32 0x3C23D70A#32)) w))

end Terms

/-! ## Each of them at an index -/

theorem total_apply (parts : S8x8x1024.Idx → EReal) (a : Fin 8) (b : Fin 1024) :
    (total (F := Ideal) parts : S8x1024.Idx → EReal) (ix2 a b) = ∑ s : Fin 8, parts (ix3 s a b) := by
  unfold total
  pointwise

section Wide
variable (w mo vo g : S2x1024.Idx → EReal) (i : S2x1024.Idx)

theorem newM_apply : (newM (F := Ideal) mo g : S2x1024.Idx → EReal) i = Cert.AdamSmallIdeal.Step.newM (g i) (mo i) := by
  unfold newM Cert.AdamSmallIdeal.Step.newM
  pointwise

theorem newV_apply : (newV (F := Ideal) vo g : S2x1024.Idx → EReal) i = Cert.AdamSmallIdeal.Step.newV (g i) (vo i) := by
  unfold newV Cert.AdamSmallIdeal.Step.newV
  pointwise

theorem delta_apply : (delta (F := Ideal) w mo vo g : S2x1024.Idx → EReal) i = Cert.AdamSmallIdeal.Step.delta (g i) (w i) (mo i) (vo i) := by
  unfold delta Cert.AdamSmallIdeal.Step.delta
  rw [← newM_apply, ← newV_apply]
  pointwise

end Wide

section Narrow
variable (w mo vo g : S2x16.Idx → EReal) (i : S2x16.Idx)

theorem newM16_apply : (newM16 (F := Ideal) mo g : S2x16.Idx → EReal) i = Cert.AdamSmallIdeal.Step.newM (g i) (mo i) := by
  unfold newM16 Cert.AdamSmallIdeal.Step.newM
  pointwise

theorem newV16_apply : (newV16 (F := Ideal) vo g : S2x16.Idx → EReal) i = Cert.AdamSmallIdeal.Step.newV (g i) (vo i) := by
  unfold newV16 Cert.AdamSmallIdeal.Step.newV
  pointwise

theorem delta16_apply : (delta16 (F := Ideal) w mo vo g : S2x16.Idx → EReal) i = Cert.AdamSmallIdeal.Step.delta (g i) (w i) (mo i) (vo i) := by
  unfold delta16 Cert.AdamSmallIdeal.Step.delta
  rw [← newM16_apply, ← newV16_apply]
  pointwise

end Narrow

end Cert.AdamSmallRefIdeal.Step

namespace Cert.AdamSmallTie

open Cert.AdamSmallIdeal Cert.AdamSmallIdeal.Gen Cert.AdamSmallIdeal.Value Cert.AdamSmallIdeal.Step

variable (m : (ℓ : Loc nD τ sig) → Buf (Elt Ideal) ℓ) (c : Dev nD)

/-! ## The rows of the packed arrays -/

/-- Two rows of an array of eight, at an index. -/
theorem rows_apply (o : ℕ) (hs : S8x1024.Slices ![o, 0] S2x1024) (x : S8x1024.Idx → EReal) (r : Fin 2) (k : Fin 1024) (q : Fin 8)
    (hq : q.val = o + r.val) : (extractStridedSlice S2x1024 ![o, 0] x hs : S2x1024.Idx → EReal) (ix2 r k) = x (ix2 q k) := by
  pointwise
  exact congrArg x (congrArg₂ ix2 (Fin.ext hq.symm) rfl)

/-- The first sixteen columns of the last two rows, at an index. -/
theorem cols_apply (hs : S8x1024.Slices ![6, 0] S2x16) (x : S8x1024.Idx → EReal) (r : Fin 2) (l : Fin 16) :
    (extractStridedSlice S2x16 ![6, 0] x hs : S2x16.Idx → EReal) (ix2 r l) = x (ix2 ⟨6 + r.val, by omega⟩ ⟨l.val, by omega⟩) := by
  pointwise

/-- A row that starts at row `o`, within the eight. -/
theorem row_lt {o : ℕ} (hs : S8x1024.Slices ![o, 0] S2x1024) (r : Fin 2) : o + r.val < 8 := by
  have h : o + 2 ≤ 8 := hs.2 0
  omega

/-- A weight and its moments lie in the packed arrays from row `o` on. -/
structure Lies (o : ℕ) (w mo vo : S2x1024.Idx → EReal) : Prop where
  fw : ∀ (r : Fin 2) (k : Fin 1024) (q : Fin 8), q.val = o + r.val → pW m c (ix2 q k) = w (ix2 r k)
  fm : ∀ (r : Fin 2) (k : Fin 1024) (q : Fin 8), q.val = o + r.val → pM m c (ix2 q k) = mo (ix2 r k)
  fv : ∀ (r : Fin 2) (k : Fin 1024) (q : Fin 8), q.val = o + r.val → pV m c (ix2 q k) = vo (ix2 r k)

/-- The first weight, the scale of the normalisation before the mixing. -/
theorem lies_0 : Lies m c 0 (m ((c : Thread nD τ).loc main_arg0)) (m ((c : Thread nD τ).loc main_arg4)) (m ((c : Thread nD τ).loc main_arg8)) where
  fw r k q hq := by rw [pW_eq]; exact pack_0 _ _ _ _ q r k hq
  fm r k q hq := by rw [pM_eq]; exact pack_0 _ _ _ _ q r k hq
  fv r k q hq := by rw [pV_eq]; exact pack_0 _ _ _ _ q r k hq

/-- The second weight, the scale of the normalisation after it. -/
theorem lies_2 : Lies m c 2 (m ((c : Thread nD τ).loc main_arg1)) (m ((c : Thread nD τ).loc main_arg5)) (m ((c : Thread nD τ).loc main_arg9)) where
  fw r k q hq := by rw [pW_eq]; exact pack_2 _ _ _ _ q r k hq
  fm r k q hq := by rw [pM_eq]; exact pack_2 _ _ _ _ q r k hq
  fv r k q hq := by rw [pV_eq]; exact pack_2 _ _ _ _ q r k hq

/-- The third weight, the pooling's scale. -/
theorem lies_4 : Lies m c 4 (m ((c : Thread nD τ).loc main_arg2)) (m ((c : Thread nD τ).loc main_arg6)) (m ((c : Thread nD τ).loc main_arg10)) where
  fw r k q hq := by rw [pW_eq]; exact pack_4 _ _ _ _ q r k hq
  fm r k q hq := by rw [pM_eq]; exact pack_4 _ _ _ _ q r k hq
  fv r k q hq := by rw [pV_eq]; exact pack_4 _ _ _ _ q r k hq

/-! ## The weights that fill their rows -/

section Wide

variable {o : ℕ} (hs : S8x1024.Slices ![o, 0] S2x1024)

/-- The reference's gradient of the weight at row `o`. -/
abbrev wideRef : S2x1024.Idx → EReal := extractStridedSlice S2x1024 ![o, 0] (Cert.AdamSmallRefIdeal.Step.total (F := Ideal) (parts m c)) hs

/-- It is the devices' sum at the weight's rows. -/
theorem wideRef_apply (r : Fin 2) (k : Fin 1024) : wideRef m c hs (ix2 r k) = grad m c (ix2 ⟨o + r.val, row_lt hs r⟩ k) :=
  (rows_apply o hs _ r k ⟨o + r.val, row_lt hs r⟩ rfl).trans (Cert.AdamSmallRefIdeal.Step.total_apply _ _ _)

/-- The gradients agree. -/
theorem wide_grad : extractStridedSlice S2x1024 ![o, 0] (reg_main_v15_0 m c) hs = wideRef m c hs := by
  funext i
  obtain ⟨r, k, rfl⟩ : ∃ r k, i = (ix2 r k : S2x1024.Idx) := ⟨_, _, eq_ix2 i⟩
  rw [reg_grad, wideRef_apply]
  exact rows_apply o hs _ r k ⟨o + r.val, row_lt hs r⟩ rfl

variable {w mo vo : S2x1024.Idx → EReal} (e : Lies m c o w mo vo)
include e

/-- The changes agree. -/
theorem wide_delta : extractStridedSlice S2x1024 ![o, 0] (reg_main_v15_1 m c) hs = Cert.AdamSmallRefIdeal.Step.delta (F := Ideal) w mo vo (wideRef m c hs) := by
  funext i
  obtain ⟨r, k, rfl⟩ : ∃ r k, i = (ix2 r k : S2x1024.Idx) := ⟨_, _, eq_ix2 i⟩
  rw [reg_delta]
  refine (rows_apply o hs _ r k ⟨o + r.val, row_lt hs r⟩ rfl).trans (Eq.trans ?_ (Cert.AdamSmallRefIdeal.Step.delta_apply _ _ _ _ _).symm)
  rw [wideRef_apply, ← e.fw r k ⟨o + r.val, row_lt hs r⟩ rfl, ← e.fm r k ⟨o + r.val, row_lt hs r⟩ rfl, ← e.fv r k ⟨o + r.val, row_lt hs r⟩ rfl]

/-- The new first moments agree. -/
theorem wide_m : extractStridedSlice S2x1024 ![o, 0] (reg_main_v15_2 m c) hs = Cert.AdamSmallRefIdeal.Step.newM (F := Ideal) mo (wideRef m c hs) := by
  funext i
  obtain ⟨r, k, rfl⟩ : ∃ r k, i = (ix2 r k : S2x1024.Idx) := ⟨_, _, eq_ix2 i⟩
  rw [reg_m]
  refine (rows_apply o hs _ r k ⟨o + r.val, row_lt hs r⟩ rfl).trans (Eq.trans ?_ (Cert.AdamSmallRefIdeal.Step.newM_apply _ _ _).symm)
  rw [wideRef_apply, ← e.fm r k ⟨o + r.val, row_lt hs r⟩ rfl]

/-- The new second moments agree. -/
theorem wide_v : extractStridedSlice S2x1024 ![o, 0] (reg_main_v15_3 m c) hs = Cert.AdamSmallRefIdeal.Step.newV (F := Ideal) vo (wideRef m c hs) := by
  funext i
  obtain ⟨r, k, rfl⟩ : ∃ r k, i = (ix2 r k : S2x1024.Idx) := ⟨_, _, eq_ix2 i⟩
  rw [reg_v]
  refine (rows_apply o hs _ r k ⟨o + r.val, row_lt hs r⟩ rfl).trans (Eq.trans ?_ (Cert.AdamSmallRefIdeal.Step.newV_apply _ _ _).symm)
  rw [wideRef_apply, ← e.fv r k ⟨o + r.val, row_lt hs r⟩ rfl]

end Wide

/-! ## The gates' bias -/

section Narrow

variable (hs : S8x1024.Slices ![6, 0] S2x16)

/-- The bias. -/
abbrev bias : S2x16.Idx → EReal := m ((c : Thread nD τ).loc main_arg3)
/-- Its first moment. -/
abbrev biasM : S2x16.Idx → EReal := m ((c : Thread nD τ).loc main_arg7)
/-- Its second moment. -/
abbrev biasV : S2x16.Idx → EReal := m ((c : Thread nD τ).loc main_arg11)

/-- The reference's gradient of the bias. -/
abbrev narrowRef : S2x16.Idx → EReal := extractStridedSlice S2x16 ![6, 0] (Cert.AdamSmallRefIdeal.Step.total (F := Ideal) (parts m c)) hs

/-- It is the devices' sum at the bias's place. -/
theorem narrowRef_apply (r : Fin 2) (l : Fin 16) : narrowRef m c hs (ix2 r l) = grad m c (ix2 ⟨6 + r.val, by omega⟩ ⟨l.val, by omega⟩) :=
  (cols_apply hs _ r l).trans (Cert.AdamSmallRefIdeal.Step.total_apply _ _ _)

/-- The bias in the packed weights. -/
theorem bias_w (r : Fin 2) (l : Fin 16) : pW m c (ix2 ⟨6 + r.val, by omega⟩ ⟨l.val, by omega⟩) = bias m c (ix2 r l) := by
  rw [pW_eq]; exact pack_6 _ _ _ _ _ r l rfl
/-- Its first moment in the packed first moments. -/
theorem bias_m (r : Fin 2) (l : Fin 16) : pM m c (ix2 ⟨6 + r.val, by omega⟩ ⟨l.val, by omega⟩) = biasM m c (ix2 r l) := by
  rw [pM_eq]; exact pack_6 _ _ _ _ _ r l rfl
/-- Its second moment in the packed second moments. -/
theorem bias_v (r : Fin 2) (l : Fin 16) : pV m c (ix2 ⟨6 + r.val, by omega⟩ ⟨l.val, by omega⟩) = biasV m c (ix2 r l) := by
  rw [pV_eq]; exact pack_6 _ _ _ _ _ r l rfl

/-- The gradients agree. -/
theorem narrow_grad : extractStridedSlice S2x16 ![6, 0] (reg_main_v15_0 m c) hs = narrowRef m c hs := by
  funext i
  obtain ⟨r, l, rfl⟩ : ∃ r l, i = (ix2 r l : S2x16.Idx) := ⟨_, _, eq_ix2 i⟩
  rw [reg_grad, narrowRef_apply]
  exact cols_apply hs _ r l

/-- The changes agree. -/
theorem narrow_delta : extractStridedSlice S2x16 ![6, 0] (reg_main_v15_1 m c) hs = Cert.AdamSmallRefIdeal.Step.delta16 (F := Ideal) (bias m c) (biasM m c) (biasV m c) (narrowRef m c hs) := by
  funext i
  obtain ⟨r, l, rfl⟩ : ∃ r l, i = (ix2 r l : S2x16.Idx) := ⟨_, _, eq_ix2 i⟩
  rw [reg_delta]
  refine (cols_apply hs _ r l).trans (Eq.trans ?_ (Cert.AdamSmallRefIdeal.Step.delta16_apply _ _ _ _ _).symm)
  rw [narrowRef_apply, ← bias_w, ← bias_m, ← bias_v]

/-- The new first moments agree. -/
theorem narrow_m : extractStridedSlice S2x16 ![6, 0] (reg_main_v15_2 m c) hs = Cert.AdamSmallRefIdeal.Step.newM16 (F := Ideal) (biasM m c) (narrowRef m c hs) := by
  funext i
  obtain ⟨r, l, rfl⟩ : ∃ r l, i = (ix2 r l : S2x16.Idx) := ⟨_, _, eq_ix2 i⟩
  rw [reg_m]
  refine (cols_apply hs _ r l).trans (Eq.trans ?_ (Cert.AdamSmallRefIdeal.Step.newM16_apply _ _ _).symm)
  rw [narrowRef_apply, ← bias_m]

/-- The new second moments agree. -/
theorem narrow_v : extractStridedSlice S2x16 ![6, 0] (reg_main_v15_3 m c) hs = Cert.AdamSmallRefIdeal.Step.newV16 (F := Ideal) (biasV m c) (narrowRef m c hs) := by
  funext i
  obtain ⟨r, l, rfl⟩ : ∃ r l, i = (ix2 r l : S2x16.Idx) := ⟨_, _, eq_ix2 i⟩
  rw [reg_v]
  refine (cols_apply hs _ r l).trans (Eq.trans ?_ (Cert.AdamSmallRefIdeal.Step.newV16_apply _ _ _).symm)
  rw [narrowRef_apply, ← bias_v]

end Narrow

end Cert.AdamSmallTie
end
-- ==== Proof.WInValue.lean ====
module

public import proofs.«01_k».proof.Proof.Gen.WInIdeal.Value
public import Idealize.ShloMosaic.Lib.Pipeline.ValueKit
public import Idealize.ShloMosaic.Lib.Pipeline.ReadBack
public import Idealize.ShloMosaic.Lib.IdealHost
public import Idealize.ShloMosaic.Lib.Pointwise
public import Idealize.ShloMosaic.Lib.Tactic

@[expose] public section

/-!
# The weight gradient `WIn`, element by element

The call goes over its result in blocks of rows, and over the 4096 rows of its operands in two halves: an even grid point
starts the accumulator with the first half, an odd one adds the second half and writes the block. `value` states what the
result array holds at the end: the product of the two arguments, the first transposed.
-/

set_option maxRecDepth 16384

noncomputable section

open Idealize.ShloMosaic Idealize.ShloMosaic.TcCoe Idealize.SL.Sem

namespace Cert.WInIdeal.Grad

open Cert.WInIdeal Cert.WInIdeal.Gen Cert.WInIdeal.Value

variable (m : (ℓ : Loc nD τ sig) → Buf (Elt Ideal) ℓ)

/-- The printed index maps, decided over the grid: at point `t` both operands read their rows' half `t % 2`, and the left
    operand its columns' half `t / 2`. -/
theorem idx : ∀ t : Fin cfg0.N, win0_0.index t = ![t.val % 2, t.val / 2] ∧ win0_1.index t = ![t.val % 2, 0] :=
  (by decide +kernel : ∀ t : Fin grid0.N, _)

/-- The left operand: what argument 0 holds when the program starts. -/
abbrev x0 (c : Dev nD) : S4096x1024.Idx → EReal := m ((c : Thread nD τ).loc main_arg0)

/-- The right operand: what argument 1 holds when the program starts. -/
abbrev x1 (c : Dev nD) : S4096x1024.Idx → EReal := m ((c : Thread nD τ).loc main_arg1)

/-- The left operand's block at point `t`. -/
abbrev lhs (c : Dev nD) (t : Fin cfg0.N) : S2048x512.Idx → EReal := iblk m c 0 t

/-- The right operand's block at point `t`. -/
abbrev rhs (c : Dev nD) (t : Fin cfg0.N) : S2048x1024.Idx → EReal := iblk m c 1 t

/-- The accumulator after point `t`. -/
abbrev acc (c : Dev nD) (t : ℕ) (h : t < cfg0.N) : S512x1024.Idx → EReal := (outsAt0 m c t h).2

/-- The result's block after point `t`. -/
abbrev out (c : Dev nD) (t : ℕ) (h : t < cfg0.N) : S512x1024.Idx → EReal := (outsAt0 m c t h).1

/-- The left operand's block at an index, as an entry of the argument array. -/
theorem lhs_apply (c : Dev nD) (t : Fin cfg0.N) (k : Fin 2048) (j : Fin 512) (a : Fin 4096) (b : Fin 1024)
    (ha : a.val = t.val % 2 * 2048 + k.val) (hb : b.val = t.val / 2 * 512 + j.val) : lhs m c t (ix2 k j) = x0 m c (ix2 a b) := by
  blk_ext! [iblk, V, (idx t).1]

/-- The right operand's block at an index, as an entry of the argument array. -/
theorem rhs_apply (c : Dev nD) (t : Fin cfg0.N) (k : Fin 2048) (j : Fin 1024) (a : Fin 4096)
    (ha : a.val = t.val % 2 * 2048 + k.val) : rhs m c t (ix2 k j) = x1 m c (ix2 a j) := by
  blk_ext! [iblk, V, (idx t).2]

/-- After an even point the accumulator holds the product over the first half of the rows. -/
theorem scratch_A (c : Dev nD) (t : Fin cfg0.N) (h0 : t.val % 2 = 0) (h1 : ¬t.val % 2 = 1) (j : S512x1024.Idx) :
    acc m c t.val t.isLt j
      = ∑ k : Fin 2048, lhs m c t (ix2 k (j 0)) * rhs m c t (ix2 k (j 1)) := by
  unfold acc lhs rhs
  rw [outsAt0_A m c t h0 h1]
  dsimp only
  frame_out
  pointwise [k0_pay1, k0_pay2]

/-- At an odd point the result's block is the accumulator plus the product over the second half of the rows. -/
theorem out_B (c : Dev nD) (t : Fin cfg0.N) (h0 : ¬ t.val % 2 = 0) (h1 : t.val % 2 = 1) (j : S512x1024.Idx) :
    out m c t.val t.isLt j
      = acc m c (t.val - 1) (Nat.lt_of_le_of_lt (Nat.sub_le _ _) t.isLt) j
        + ∑ k : Fin 2048, lhs m c t (ix2 k (j 0)) * rhs m c t (ix2 k (j 1)) := by
  unfold out acc lhs rhs
  rw [outsAt0_B m c t h0 h1]
  dsimp only
  frame_out
  pointwise [k0_pay3, k0_pay2]
  simp only [read_unread_whole]

/-- The result array at an index: the product of the two arguments, the first transposed. -/
theorem value (c : Dev nD) (i : S1024x1024.Idx) :
    (G2 m c : S1024x1024.Idx → EReal) i = ∑ k : Fin 4096, x0 m c (ix2 k (i 0)) * x1 m c (ix2 k (i 1)) := by
  have b0 : (i 0).val < 1024 := (i 0).isLt
  have b1 : (i 1).val < 1024 := (i 1).isLt
  have hN : cfg0.N = 4 := N_0
  have hp : pt2Of i = 2 * ((i 0).val / 512) + 1 := by unfold pt2Of run2Of; omega
  have ht : pt2Of i < cfg0.N := by omega
  have hq : pt2Of i - 1 < cfg0.N := by omega
  unfold G2
  rw [dif_pos ht, ← outsAt0_sweep]
  change out m c _ ht _ = _
  rw [out_B m c ⟨pt2Of i, ht⟩ (by dsimp only; omega) (by dsimp only; omega)]
  change acc m c (pt2Of i - 1) hq _ + _ = _
  rw [scratch_A m c ⟨pt2Of i - 1, hq⟩ (by dsimp only; omega) (by dsimp only; omega)]
  rw [Fin.sum_univ_two_halves 2048 2048 rfl]
  have e0 : ((loc2Of i) 0).val = (i 0).val % 512 := rfl
  have e1 : (loc2Of i) 1 = i 1 := Fin.ext (Nat.mod_eq_of_lt b1)
  rw [e1]
  congr 1 <;>
    exact Finset.sum_congr rfl fun k _ => congr_arg₂ _
      (lhs_apply m c _ k _ _ (i 0) (by simp only [Fin.val_castAdd, Fin.val_natAdd, Fin.val_cast]; omega) (by rw [e0]; simp only []; omega))
      (rhs_apply m c _ k (i 1) _ (by simp only [Fin.val_castAdd, Fin.val_natAdd, Fin.val_cast]; omega))

end Cert.WInIdeal.Grad
end
-- ==== Proof.WPeValue.lean ====
module

public import proofs.«01_k».proof.Proof.Gen.WPeIdeal.Value
public import Idealize.ShloMosaic.Lib.Pipeline.ValueKit
public import Idealize.ShloMosaic.Lib.Pipeline.ReadBack
public import Idealize.ShloMosaic.Lib.IdealHost
public import Idealize.ShloMosaic.Lib.Pointwise
public import Idealize.ShloMosaic.Lib.Tactic

@[expose] public section

/-!
# The weight gradient `WPe`, element by element

The call goes over its result in blocks of rows, and over the 4096 rows of its operands in two halves: an even grid point
starts the accumulator with the first half, an odd one adds the second half and writes the block. `value` states what the
result array holds at the end: the product of the two arguments, the first transposed.
-/

set_option maxRecDepth 16384

noncomputable section

open Idealize.ShloMosaic Idealize.ShloMosaic.TcCoe Idealize.SL.Sem

namespace Cert.WPeIdeal.Grad

open Cert.WPeIdeal Cert.WPeIdeal.Gen Cert.WPeIdeal.Value

variable (m : (ℓ : Loc nD τ sig) → Buf (Elt Ideal) ℓ)

/-- The printed index maps, decided over the grid: at point `t` both operands read their rows' half `t % 2`, and the left
    operand its columns' half `t / 2`. -/
theorem idx : ∀ t : Fin cfg0.N, win0_0.index t = ![t.val % 2, t.val / 2] ∧ win0_1.index t = ![t.val % 2, 0] :=
  (by decide +kernel : ∀ t : Fin grid0.N, _)

/-- The left operand: what argument 0 holds when the program starts. -/
abbrev x0 (c : Dev nD) : S4096x256.Idx → EReal := m ((c : Thread nD τ).loc main_arg0)

/-- The right operand: what argument 1 holds when the program starts. -/
abbrev x1 (c : Dev nD) : S4096x1024.Idx → EReal := m ((c : Thread nD τ).loc main_arg1)

/-- The left operand's block at point `t`. -/
abbrev lhs (c : Dev nD) (t : Fin cfg0.N) : S2048x256.Idx → EReal := iblk m c 0 t

/-- The right operand's block at point `t`. -/
abbrev rhs (c : Dev nD) (t : Fin cfg0.N) : S2048x1024.Idx → EReal := iblk m c 1 t

/-- The accumulator after point `t`. -/
abbrev acc (c : Dev nD) (t : ℕ) (h : t < cfg0.N) : S256x1024.Idx → EReal := (outsAt0 m c t h).2

/-- The result's block after point `t`. -/
abbrev out (c : Dev nD) (t : ℕ) (h : t < cfg0.N) : S256x1024.Idx → EReal := (outsAt0 m c t h).1

/-- The left operand's block at an index, as an entry of the argument array. -/
theorem lhs_apply (c : Dev nD) (t : Fin cfg0.N) (k : Fin 2048) (j : Fin 256) (a : Fin 4096) (b : Fin 256)
    (ha : a.val = t.val % 2 * 2048 + k.val) (hb : b.val = t.val / 2 * 256 + j.val) : lhs m c t (ix2 k j) = x0 m c (ix2 a b) := by
  blk_ext! [iblk, V, (idx t).1]

/-- The right operand's block at an index, as an entry of the argument array. -/
theorem rhs_apply (c : Dev nD) (t : Fin cfg0.N) (k : Fin 2048) (j : Fin 1024) (a : Fin 4096)
    (ha : a.val = t.val % 2 * 2048 + k.val) : rhs m c t (ix2 k j) = x1 m c (ix2 a j) := by
  blk_ext! [iblk, V, (idx t).2]

/-- After an even point the accumulator holds the product over the first half of the rows. -/
theorem scratch_A (c : Dev nD) (t : Fin cfg0.N) (h0 : t.val % 2 = 0) (h1 : ¬t.val % 2 = 1) (j : S256x1024.Idx) :
    acc m c t.val t.isLt j
      = ∑ k : Fin 2048, lhs m c t (ix2 k (j 0)) * rhs m c t (ix2 k (j 1)) := by
  unfold acc lhs rhs
  rw [outsAt0_A m c t h0 h1]
  dsimp only
  frame_out
  pointwise [k0_pay1, k0_pay2]

/-- At an odd point the result's block is the accumulator plus the product over the second half of the rows. -/
theorem out_B (c : Dev nD) (t : Fin cfg0.N) (h0 : ¬ t.val % 2 = 0) (h1 : t.val % 2 = 1) (j : S256x1024.Idx) :
    out m c t.val t.isLt j
      = acc m c (t.val - 1) (Nat.lt_of_le_of_lt (Nat.sub_le _ _) t.isLt) j
        + ∑ k : Fin 2048, lhs m c t (ix2 k (j 0)) * rhs m c t (ix2 k (j 1)) := by
  unfold out acc lhs rhs
  rw [outsAt0_B m c t h0 h1]
  dsimp only
  frame_out
  pointwise [k0_pay3, k0_pay2]
  simp only [read_unread_whole]

/-- The result array at an index: the product of the two arguments, the first transposed. -/
theorem value (c : Dev nD) (i : S256x1024.Idx) :
    (G2 m c : S256x1024.Idx → EReal) i = ∑ k : Fin 4096, x0 m c (ix2 k (i 0)) * x1 m c (ix2 k (i 1)) := by
  have b0 : (i 0).val < 256 := (i 0).isLt
  have b1 : (i 1).val < 1024 := (i 1).isLt
  have hN : cfg0.N = 2 := N_0
  have hp : pt2Of i = 2 * ((i 0).val / 256) + 1 := by unfold pt2Of run2Of; omega
  have ht : pt2Of i < cfg0.N := by omega
  have hq : pt2Of i - 1 < cfg0.N := by omega
  unfold G2
  rw [dif_pos ht, ← outsAt0_sweep]
  change out m c _ ht _ = _
  rw [out_B m c ⟨pt2Of i, ht⟩ (by dsimp only; omega) (by dsimp only; omega)]
  change acc m c (pt2Of i - 1) hq _ + _ = _
  rw [scratch_A m c ⟨pt2Of i - 1, hq⟩ (by dsimp only; omega) (by dsimp only; omega)]
  rw [Fin.sum_univ_two_halves 2048 2048 rfl]
  have e0 : ((loc2Of i) 0).val = (i 0).val % 256 := rfl
  have e1 : (loc2Of i) 1 = i 1 := Fin.ext (Nat.mod_eq_of_lt b1)
  rw [e1]
  congr 1 <;>
    exact Finset.sum_congr rfl fun k _ => congr_arg₂ _
      (lhs_apply m c _ k _ _ (i 0) (by simp only [Fin.val_castAdd, Fin.val_natAdd, Fin.val_cast]; omega) (by rw [e0]; simp only []; omega))
      (rhs_apply m c _ k (i 1) _ (by simp only [Fin.val_castAdd, Fin.val_natAdd, Fin.val_cast]; omega))

end Cert.WPeIdeal.Grad
end
-- ==== Proof.WOutValue.lean ====
module

public import proofs.«01_k».proof.Proof.Gen.WOutIdeal.Value
public import Idealize.ShloMosaic.Lib.Pipeline.ValueKit
public import Idealize.ShloMosaic.Lib.Pipeline.ReadBack
public import Idealize.ShloMosaic.Lib.IdealHost
public import Idealize.ShloMosaic.Lib.Pointwise
public import Idealize.ShloMosaic.Lib.Tactic

@[expose] public section

/-!
# The weight gradient `WOut`, element by element

The call goes over its result in blocks of rows, and over the 4096 rows of its operands in two halves: an even grid point
starts the accumulator with the first half, an odd one adds the second half and writes the block. `value` states what the
result array holds at the end: the product of the two arguments, the first transposed.
-/

set_option maxRecDepth 16384

noncomputable section

open Idealize.ShloMosaic Idealize.ShloMosaic.TcCoe Idealize.SL.Sem

namespace Cert.WOutIdeal.Grad

open Cert.WOutIdeal Cert.WOutIdeal.Gen Cert.WOutIdeal.Value

variable (m : (ℓ : Loc nD τ sig) → Buf (Elt Ideal) ℓ)

/-- The printed index maps, decided over the grid: at point `t` both operands read their rows' half `t % 2`, and the left
    operand its columns' half `t / 2`. -/
theorem idx : ∀ t : Fin cfg0.N, win0_0.index t = ![t.val % 2, t.val / 2] ∧ win0_1.index t = ![t.val % 2, 0] :=
  (by decide +kernel : ∀ t : Fin grid0.N, _)

/-- The left operand: what argument 0 holds when the program starts. -/
abbrev x0 (c : Dev nD) : S4096x2048.Idx → EReal := m ((c : Thread nD τ).loc main_arg0)

/-- The right operand: what argument 1 holds when the program starts. -/
abbrev x1 (c : Dev nD) : S4096x1024.Idx → EReal := m ((c : Thread nD τ).loc main_arg1)

/-- The left operand's block at point `t`. -/
abbrev lhs (c : Dev nD) (t : Fin cfg0.N) : S2048x512.Idx → EReal := iblk m c 0 t

/-- The right operand's block at point `t`. -/
abbrev rhs (c : Dev nD) (t : Fin cfg0.N) : S2048x1024.Idx → EReal := iblk m c 1 t

/-- The accumulator after point `t`. -/
abbrev acc (c : Dev nD) (t : ℕ) (h : t < cfg0.N) : S512x1024.Idx → EReal := (outsAt0 m c t h).2

/-- The result's block after point `t`. -/
abbrev out (c : Dev nD) (t : ℕ) (h : t < cfg0.N) : S512x1024.Idx → EReal := (outsAt0 m c t h).1

/-- The left operand's block at an index, as an entry of the argument array. -/
theorem lhs_apply (c : Dev nD) (t : Fin cfg0.N) (k : Fin 2048) (j : Fin 512) (a : Fin 4096) (b : Fin 2048)
    (ha : a.val = t.val % 2 * 2048 + k.val) (hb : b.val = t.val / 2 * 512 + j.val) : lhs m c t (ix2 k j) = x0 m c (ix2 a b) := by
  blk_ext! [iblk, V, (idx t).1]

/-- The right operand's block at an index, as an entry of the argument array. -/
theorem rhs_apply (c : Dev nD) (t : Fin cfg0.N) (k : Fin 2048) (j : Fin 1024) (a : Fin 4096)
    (ha : a.val = t.val % 2 * 2048 + k.val) : rhs m c t (ix2 k j) = x1 m c (ix2 a j) := by
  blk_ext! [iblk, V, (idx t).2]

/-- After an even point the accumulator holds the product over the first half of the rows. -/
theorem scratch_A (c : Dev nD) (t : Fin cfg0.N) (h0 : t.val % 2 = 0) (h1 : ¬t.val % 2 = 1) (j : S512x1024.Idx) :
    acc m c t.val t.isLt j
      = ∑ k : Fin 2048, lhs m c t (ix2 k (j 0)) * rhs m c t (ix2 k (j 1)) := by
  unfold acc lhs rhs
  rw [outsAt0_A m c t h0 h1]
  dsimp only
  frame_out
  pointwise [k0_pay1, k0_pay2]

/-- At an odd point the result's block is the accumulator plus the product over the second half of the rows. -/
theorem out_B (c : Dev nD) (t : Fin cfg0.N) (h0 : ¬ t.val % 2 = 0) (h1 : t.val % 2 = 1) (j : S512x1024.Idx) :
    out m c t.val t.isLt j
      = acc m c (t.val - 1) (Nat.lt_of_le_of_lt (Nat.sub_le _ _) t.isLt) j
        + ∑ k : Fin 2048, lhs m c t (ix2 k (j 0)) * rhs m c t (ix2 k (j 1)) := by
  unfold out acc lhs rhs
  rw [outsAt0_B m c t h0 h1]
  dsimp only
  frame_out
  pointwise [k0_pay3, k0_pay2]
  simp only [read_unread_whole]

/-- The result array at an index: the product of the two arguments, the first transposed. -/
theorem value (c : Dev nD) (i : S2048x1024.Idx) :
    (G2 m c : S2048x1024.Idx → EReal) i = ∑ k : Fin 4096, x0 m c (ix2 k (i 0)) * x1 m c (ix2 k (i 1)) := by
  have b0 : (i 0).val < 2048 := (i 0).isLt
  have b1 : (i 1).val < 1024 := (i 1).isLt
  have hN : cfg0.N = 8 := N_0
  have hp : pt2Of i = 2 * ((i 0).val / 512) + 1 := by unfold pt2Of run2Of; omega
  have ht : pt2Of i < cfg0.N := by omega
  have hq : pt2Of i - 1 < cfg0.N := by omega
  unfold G2
  rw [dif_pos ht, ← outsAt0_sweep]
  change out m c _ ht _ = _
  rw [out_B m c ⟨pt2Of i, ht⟩ (by dsimp only; omega) (by dsimp only; omega)]
  change acc m c (pt2Of i - 1) hq _ + _ = _
  rw [scratch_A m c ⟨pt2Of i - 1, hq⟩ (by dsimp only; omega) (by dsimp only; omega)]
  rw [Fin.sum_univ_two_halves 2048 2048 rfl]
  have e0 : ((loc2Of i) 0).val = (i 0).val % 512 := rfl
  have e1 : (loc2Of i) 1 = i 1 := Fin.ext (Nat.mod_eq_of_lt b1)
  rw [e1]
  congr 1 <;>
    exact Finset.sum_congr rfl fun k _ => congr_arg₂ _
      (lhs_apply m c _ k _ _ (i 0) (by simp only [Fin.val_castAdd, Fin.val_natAdd, Fin.val_cast]; omega) (by rw [e0]; simp only []; omega))
      (rhs_apply m c _ k (i 1) _ (by simp only [Fin.val_castAdd, Fin.val_natAdd, Fin.val_cast]; omega))

end Cert.WOutIdeal.Grad
end
-- ==== Proof.WFValue.lean ====
module

public import proofs.«01_k».proof.Proof.Gen.WFIdeal.Value
public import Idealize.ShloMosaic.Lib.Pipeline.ValueKit
public import Idealize.ShloMosaic.Lib.Pipeline.ReadBack
public import Idealize.ShloMosaic.Lib.IdealHost
public import Idealize.ShloMosaic.Lib.Pointwise
public import Idealize.ShloMosaic.Lib.Tactic

@[expose] public section

/-!
# The weight gradient `WF`, element by element

The call goes over its result in blocks of rows, and over the 4096 rows of its operands in two halves: an even grid point
starts the accumulator with the first half, an odd one adds the second half and writes the block. `value` states what the
result array holds at the end: the product of the two arguments, the first transposed.
-/

set_option maxRecDepth 16384

noncomputable section

open Idealize.ShloMosaic Idealize.ShloMosaic.TcCoe Idealize.SL.Sem

namespace Cert.WFIdeal.Grad

open Cert.WFIdeal Cert.WFIdeal.Gen Cert.WFIdeal.Value

variable (m : (ℓ : Loc nD τ sig) → Buf (Elt Ideal) ℓ)

/-- The printed index maps, decided over the grid: at point `t` both operands read their rows' half `t % 2`, and the left
    operand its columns' half `t / 2`. -/
theorem idx : ∀ t : Fin cfg0.N, win0_0.index t = ![t.val % 2, t.val / 2] ∧ win0_1.index t = ![t.val % 2, 0] :=
  (by decide +kernel : ∀ t : Fin grid0.N, _)

/-- The left operand: what argument 0 holds when the program starts. -/
abbrev x0 (c : Dev nD) : S4096x1024.Idx → EReal := m ((c : Thread nD τ).loc main_arg0)

/-- The right operand: what argument 1 holds when the program starts. -/
abbrev x1 (c : Dev nD) : S4096x128.Idx → EReal := m ((c : Thread nD τ).loc main_arg1)

/-- The left operand's block at point `t`. -/
abbrev lhs (c : Dev nD) (t : Fin cfg0.N) : S2048x512.Idx → EReal := iblk m c 0 t

/-- The right operand's block at point `t`. -/
abbrev rhs (c : Dev nD) (t : Fin cfg0.N) : S2048x128.Idx → EReal := iblk m c 1 t

/-- The accumulator after point `t`. -/
abbrev acc (c : Dev nD) (t : ℕ) (h : t < cfg0.N) : S512x128.Idx → EReal := (outsAt0 m c t h).2

/-- The result's block after point `t`. -/
abbrev out (c : Dev nD) (t : ℕ) (h : t < cfg0.N) : S512x128.Idx → EReal := (outsAt0 m c t h).1

/-- The left operand's block at an index, as an entry of the argument array. -/
theorem lhs_apply (c : Dev nD) (t : Fin cfg0.N) (k : Fin 2048) (j : Fin 512) (a : Fin 4096) (b : Fin 1024)
    (ha : a.val = t.val % 2 * 2048 + k.val) (hb : b.val = t.val / 2 * 512 + j.val) : lhs m c t (ix2 k j) = x0 m c (ix2 a b) := by
  blk_ext! [iblk, V, (idx t).1]

/-- The right operand's block at an index, as an entry of the argument array. -/
theorem rhs_apply (c : Dev nD) (t : Fin cfg0.N) (k : Fin 2048) (j : Fin 128) (a : Fin 4096)
    (ha : a.val = t.val % 2 * 2048 + k.val) : rhs m c t (ix2 k j) = x1 m c (ix2 a j) := by
  blk_ext! [iblk, V, (idx t).2]

/-- After an even point the accumulator holds the product over the first half of the rows. -/
theorem scratch_A (c : Dev nD) (t : Fin cfg0.N) (h0 : t.val % 2 = 0) (h1 : ¬t.val % 2 = 1) (j : S512x128.Idx) :
    acc m c t.val t.isLt j
      = ∑ k : Fin 2048, lhs m c t (ix2 k (j 0)) * rhs m c t (ix2 k (j 1)) := by
  unfold acc lhs rhs
  rw [outsAt0_A m c t h0 h1]
  dsimp only
  frame_out
  pointwise [k0_pay1, k0_pay2]

/-- At an odd point the result's block is the accumulator plus the product over the second half of the rows. -/
theorem out_B (c : Dev nD) (t : Fin cfg0.N) (h0 : ¬ t.val % 2 = 0) (h1 : t.val % 2 = 1) (j : S512x128.Idx) :
    out m c t.val t.isLt j
      = acc m c (t.val - 1) (Nat.lt_of_le_of_lt (Nat.sub_le _ _) t.isLt) j
        + ∑ k : Fin 2048, lhs m c t (ix2 k (j 0)) * rhs m c t (ix2 k (j 1)) := by
  unfold out acc lhs rhs
  rw [outsAt0_B m c t h0 h1]
  dsimp only
  frame_out
  pointwise [k0_pay3, k0_pay2]
  simp only [read_unread_whole]

/-- The result array at an index: the product of the two arguments, the first transposed. -/
theorem value (c : Dev nD) (i : S1024x128.Idx) :
    (G2 m c : S1024x128.Idx → EReal) i = ∑ k : Fin 4096, x0 m c (ix2 k (i 0)) * x1 m c (ix2 k (i 1)) := by
  have b0 : (i 0).val < 1024 := (i 0).isLt
  have b1 : (i 1).val < 128 := (i 1).isLt
  have hN : cfg0.N = 4 := N_0
  have hp : pt2Of i = 2 * ((i 0).val / 512) + 1 := by unfold pt2Of run2Of; omega
  have ht : pt2Of i < cfg0.N := by omega
  have hq : pt2Of i - 1 < cfg0.N := by omega
  unfold G2
  rw [dif_pos ht, ← outsAt0_sweep]
  change out m c _ ht _ = _
  rw [out_B m c ⟨pt2Of i, ht⟩ (by dsimp only; omega) (by dsimp only; omega)]
  change acc m c (pt2Of i - 1) hq _ + _ = _
  rw [scratch_A m c ⟨pt2Of i - 1, hq⟩ (by dsimp only; omega) (by dsimp only; omega)]
  rw [Fin.sum_univ_two_halves 2048 2048 rfl]
  have e0 : ((loc2Of i) 0).val = (i 0).val % 512 := rfl
  have e1 : (loc2Of i) 1 = i 1 := Fin.ext (Nat.mod_eq_of_lt b1)
  rw [e1]
  congr 1 <;>
    exact Finset.sum_congr rfl fun k _ => congr_arg₂ _
      (lhs_apply m c _ k _ _ (i 0) (by simp only [Fin.val_castAdd, Fin.val_natAdd, Fin.val_cast]; omega) (by rw [e0]; simp only []; omega))
      (rhs_apply m c _ k (i 1) _ (by simp only [Fin.val_castAdd, Fin.val_natAdd, Fin.val_cast]; omega))

end Cert.WFIdeal.Grad
end
-- ==== Proof.lean ====
module

public import proofs.«01_k».proof.Defs
public import proofs.«01_k».proof.Proof.Gen.Kernel
public import proofs.«01_k».proof.Proof.AttnBits
public import proofs.«01_k».proof.Proof.Gen.WIn.Frame
public import proofs.«01_k».proof.Proof.Gen.WInIdeal.Value
public import proofs.«01_k».proof.Proof.Gen.WInRefIdeal.Run
public import proofs.«01_k».proof.Proof.Gen.WPe.Frame
public import proofs.«01_k».proof.Proof.Gen.WPeIdeal.Value
public import proofs.«01_k».proof.Proof.Gen.WPeRefIdeal.Run
public import proofs.«01_k».proof.Proof.Gen.WOut.Frame
public import proofs.«01_k».proof.Proof.Gen.WOutIdeal.Value
public import proofs.«01_k».proof.Proof.Gen.WOutRefIdeal.Run
public import proofs.«01_k».proof.Proof.Gen.WF.Frame
public import proofs.«01_k».proof.Proof.Gen.WFIdeal.Value
public import proofs.«01_k».proof.Proof.Gen.WFRefIdeal.Run
public import proofs.«01_k».proof.Proof.Gen.InProj.Frame
public import proofs.«01_k».proof.Proof.Gen.InProjIdeal.Value
public import proofs.«01_k».proof.Proof.Gen.InProjRefIdeal.Run
public import proofs.«01_k».proof.Proof.InProjTie
public import proofs.«01_k».proof.Proof.Gen.OutGrad.Frame
public import proofs.«01_k».proof.Proof.Gen.OutGradIdeal.Frame
public import proofs.«01_k».proof.Proof.Gen.OutGradRefIdeal.Run
public import proofs.«01_k».proof.Proof.OutGradTie
public import proofs.«01_k».proof.Proof.InFwdBits
public import proofs.«01_k».proof.Proof.Gen.InFwdIdeal.Frame
public import proofs.«01_k».proof.Proof.Gen.InFwdRefIdeal.Run
public import proofs.«01_k».proof.Proof.InFwdTie
public import proofs.«01_k».proof.Proof.Gen.PoolW.Frame
public import proofs.«01_k».proof.Proof.Gen.PoolWIdeal.Value
public import proofs.«01_k».proof.Proof.Gen.PoolWRefIdeal.Run
public import proofs.«01_k».proof.Proof.PoolWValue
public import proofs.«01_k».proof.Proof.Gen.LossGrad.Frame
public import proofs.«01_k».proof.Proof.Gen.LossGradIdeal.Run
public import proofs.«01_k».proof.Proof.Gen.LossGradRefIdeal.Run
public import proofs.«01_k».proof.Proof.LossGradValue
public import proofs.«01_k».proof.Proof.Gen.AdamSmall.Frame
public import proofs.«01_k».proof.Proof.Gen.AdamSmallIdeal.Run
public import proofs.«01_k».proof.Proof.Gen.AdamSmallRefIdeal.Run
public import proofs.«01_k».proof.Proof.AdamSmallTie
public import proofs.«01_k».proof.Proof.WInValue
public import proofs.«01_k».proof.Proof.WPeValue
public import proofs.«01_k».proof.Proof.WOutValue
public import proofs.«01_k».proof.Proof.WFValue
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.ShloMosaic.TcCoe Idealize.SL.Sem

/-- The backward attention call, read over the reals, ends without a race, with its arguments unchanged and every counter
    at zero. -/
theorem quiescent_KernelIdeal : quiescent_KernelIdeal := fun m ρ _ =>
  (θ_run Cert.KernelIdeal.defs _ _).mono (fun _ h => ⟨h.1, h.2⟩) (Cert.KernelIdeal.Attn.run_frame (F := Ideal) m ρ)

/-- The reference for `WIn` changes no argument and leaves every counter at zero. -/
theorem quiescent_WInRefIdeal : quiescent_WInRefIdeal := fun m ρ _ =>
  (θ_run Cert.WInRefIdeal.defs _ _).mono (fun r h => ⟨fun c => (h c).2, sem_eq_zero_of_no_sems (by decide) r.2⟩)
    (Cert.WInRefIdeal.Value.run (F := Ideal) m ρ)

/-- The kernel `WIn` and its reference give the same array: both are the product over all rows. -/
theorem algebraic_WInIdeal_WInRefIdeal : algebraic_WInIdeal_WInRefIdeal := by
  intro m ρ m' ρ' _ hagree
  refine ⟨_, Cert.WInIdeal.Value.run (F := Ideal) m ρ, ?_⟩
  refine (θ_run Cert.WInRefIdeal.defs _ _).mono (fun _ h c => ⟨?_, (h c).2⟩) (Cert.WInRefIdeal.Value.run (F := Ideal) m' ρ')
  rw [(h c).1]
  simp only [hagree c]
  refine funext fun i => Eq.trans ?_ (Cert.WInIdeal.Grad.value m c i).symm
  pointwise
  exact Finset.sum_congr rfl fun k _ => mul_comm _ _

/-- The reference for `WPe` changes no argument and leaves every counter at zero. -/
theorem quiescent_WPeRefIdeal : quiescent_WPeRefIdeal := fun m ρ _ =>
  (θ_run Cert.WPeRefIdeal.defs _ _).mono (fun r h => ⟨fun c => (h c).2, sem_eq_zero_of_no_sems (by decide) r.2⟩)
    (Cert.WPeRefIdeal.Value.run (F := Ideal) m ρ)

/-- The kernel `WPe` and its reference give the same array: both are the product over all rows. -/
theorem algebraic_WPeIdeal_WPeRefIdeal : algebraic_WPeIdeal_WPeRefIdeal := by
  intro m ρ m' ρ' _ hagree
  refine ⟨_, Cert.WPeIdeal.Value.run (F := Ideal) m ρ, ?_⟩
  refine (θ_run Cert.WPeRefIdeal.defs _ _).mono (fun _ h c => ⟨?_, (h c).2⟩) (Cert.WPeRefIdeal.Value.run (F := Ideal) m' ρ')
  rw [(h c).1]
  simp only [hagree c]
  refine funext fun i => Eq.trans ?_ (Cert.WPeIdeal.Grad.value m c i).symm
  pointwise
  exact Finset.sum_congr rfl fun k _ => mul_comm _ _

/-- The reference for `WOut` changes no argument and leaves every counter at zero. -/
theorem quiescent_WOutRefIdeal : quiescent_WOutRefIdeal := fun m ρ _ =>
  (θ_run Cert.WOutRefIdeal.defs _ _).mono (fun r h => ⟨fun c => (h c).2, sem_eq_zero_of_no_sems (by decide) r.2⟩)
    (Cert.WOutRefIdeal.Value.run (F := Ideal) m ρ)

/-- The kernel `WOut` and its reference give the same array: both are the product over all rows. -/
theorem algebraic_WOutIdeal_WOutRefIdeal : algebraic_WOutIdeal_WOutRefIdeal := by
  intro m ρ m' ρ' _ hagree
  refine ⟨_, Cert.WOutIdeal.Value.run (F := Ideal) m ρ, ?_⟩
  refine (θ_run Cert.WOutRefIdeal.defs _ _).mono (fun _ h c => ⟨?_, (h c).2⟩) (Cert.WOutRefIdeal.Value.run (F := Ideal) m' ρ')
  rw [(h c).1]
  simp only [hagree c]
  refine funext fun i => Eq.trans ?_ (Cert.WOutIdeal.Grad.value m c i).symm
  pointwise
  exact Finset.sum_congr rfl fun k _ => mul_comm _ _

/-- The reference for `WF` changes no argument and leaves every counter at zero. -/
theorem quiescent_WFRefIdeal : quiescent_WFRefIdeal := fun m ρ _ =>
  (θ_run Cert.WFRefIdeal.defs _ _).mono (fun r h => ⟨fun c => (h c).2, sem_eq_zero_of_no_sems (by decide) r.2⟩)
    (Cert.WFRefIdeal.Value.run (F := Ideal) m ρ)

/-- The kernel `WF` and its reference give the same array: both are the product over all rows. -/
theorem algebraic_WFIdeal_WFRefIdeal : algebraic_WFIdeal_WFRefIdeal := by
  intro m ρ m' ρ' _ hagree
  refine ⟨_, Cert.WFIdeal.Value.run (F := Ideal) m ρ, ?_⟩
  refine (θ_run Cert.WFRefIdeal.defs _ _).mono (fun _ h c => ⟨?_, (h c).2⟩) (Cert.WFRefIdeal.Value.run (F := Ideal) m' ρ')
  rw [(h c).1]
  simp only [hagree c]
  refine funext fun i => Eq.trans ?_ (Cert.WFIdeal.Grad.value m c i).symm
  pointwise
  exact Finset.sum_congr rfl fun k _ => mul_comm _ _

/-- The reference for `InProj` changes no argument and leaves every counter at zero. -/
theorem quiescent_InProjRefIdeal : quiescent_InProjRefIdeal := fun m ρ _ =>
  (θ_run Cert.InProjRefIdeal.defs _ _).mono (fun r h => ⟨fun c => (h c).2.2, sem_eq_zero_of_no_sems (by decide) r.2⟩)
    (Cert.InProjRefIdeal.Value.run (F := Ideal) m ρ)

/-- The input projection's backward call gives the two gradients that the derivative of the forward lines gives. -/
theorem algebraic_InProjIdeal_InProjRefIdeal : algebraic_InProjIdeal_InProjRefIdeal := by
  intro m ρ m' ρ' _ hagree
  refine ⟨_, _, Cert.InProjIdeal.Value.run (F := Ideal) m ρ, ?_⟩
  refine (θ_run Cert.InProjRefIdeal.defs _ _).mono (fun _ h c => ⟨?_, ?_, (h c).2.2⟩) (Cert.InProjRefIdeal.Value.run (F := Ideal) m' ρ')
  all_goals obtain ⟨h0, h1, h2, h3, h4, h5, h6, h7, h8, h9, h10⟩ := hagree c
  · exact (h c).1.trans (Cert.InProjTie.dh_eq ⟨h0, h1, h2, h3, h4, h5, h6, h7, h8, h9, h10⟩)
  · exact (h c).2.1.trans (Cert.InProjTie.dg_eq ⟨h0, h1, h2, h3, h4, h5, h6, h7, h8, h9, h10⟩)

/-- The reference for `OutGrad` changes no argument and leaves every counter at zero. -/
theorem quiescent_OutGradRefIdeal : quiescent_OutGradRefIdeal := fun m ρ _ =>
  (θ_run Cert.OutGradRefIdeal.defs _ _).mono (fun r h => ⟨fun c => (h c).2.2.2.2.2.2.2.2.2.2.2.2.2, sem_eq_zero_of_no_sems (by decide) r.2⟩)
    (Cert.OutGradRefIdeal.Value.run (F := Ideal) m ρ)

/-- The output block's two calls give the thirteen arrays that the layer's lines and their derivative give. -/
theorem algebraic_OutGradIdeal_OutGradRefIdeal : algebraic_OutGradIdeal_OutGradRefIdeal := by
  intro m ρ m' ρ' _ hagree
  refine ⟨_, _, _, _, _, _, _, _, _, _, _, _, _, Cert.OutGradIdeal.Grad.run_values (F := Ideal) m ρ, ?_⟩
  refine (θ_run Cert.OutGradRefIdeal.defs _ _).mono (fun _ h c => ⟨?_, ?_, ?_, ?_, ?_, ?_, ?_, ?_, ?_, ?_, ?_, ?_, ?_, (h c).2.2.2.2.2.2.2.2.2.2.2.2.2⟩) (Cert.OutGradRefIdeal.Value.run (F := Ideal) m' ρ')
  all_goals obtain ⟨h0, h1, h2, h3, h4, h5, h6, h7, h8, h9⟩ := hagree c
  all_goals have e : Cert.OutGradTie.Agree m m' c := ⟨h0, h1, h2, h3, h4, h5, h6, h7, h8, h9⟩
  · exact (h c).1.trans (Cert.OutGradTie.h2_eq ρ e)
  · exact (h c).2.1.trans (Cert.OutGradTie.mix_eq ρ e)
  · exact (h c).2.2.1.trans (Cert.OutGradTie.h1_eq ρ e)
  · exact (h c).2.2.2.1.trans (Cert.OutGradTie.gate_eq ρ e)
  · exact (h c).2.2.2.2.1.trans (Cert.OutGradTie.pe_eq ρ e)
  · exact (h c).2.2.2.2.2.1.trans (Cert.OutGradTie.cat_eq ρ e)
  · exact (h c).2.2.2.2.2.2.1.trans (Cert.OutGradTie.dh1_eq ρ e)
  · exact (h c).2.2.2.2.2.2.2.1.trans (Cert.OutGradTie.dgp_eq ρ e)
  · exact (h c).2.2.2.2.2.2.2.2.1.trans (Cert.OutGradTie.dpe_eq ρ e)
  · exact (h c).2.2.2.2.2.2.2.2.2.1.trans (Cert.OutGradTie.dmix_eq ρ e)
  · exact (h c).2.2.2.2.2.2.2.2.2.2.1.trans (Cert.OutGradTie.do_eq ρ e)
  · exact (h c).2.2.2.2.2.2.2.2.2.2.2.1.trans (Cert.OutGradTie.dpool_eq ρ e)
  · exact (h c).2.2.2.2.2.2.2.2.2.2.2.2.1.trans (Cert.OutGradTie.dg_eq ρ e)

/-- The reference for `InFwd` changes no argument and leaves every counter at zero. -/
theorem quiescent_InFwdRefIdeal : quiescent_InFwdRefIdeal := fun m ρ _ =>
  (θ_run Cert.InFwdRefIdeal.defs _ _).mono (fun r h => ⟨fun c => (h c).2.2.2.2.2.2.2.2, sem_eq_zero_of_no_sems (by decide) r.2⟩)
    (Cert.InFwdRefIdeal.Value.run (F := Ideal) m ρ)

/-- In exact arithmetic the input projection's forward call gives the layer's lines: the normalised rows and the seven segments. -/
theorem algebraic_InFwdIdeal_InFwdRefIdeal : algebraic_InFwdIdeal_InFwdRefIdeal := by
  intro m ρ m' ρ' _ hagree
  refine ⟨_, _, _, _, _, _, _, _, Cert.InFwdIdeal.Grad.run_values m ρ, ?_⟩
  refine (θ_run Cert.InFwdRefIdeal.defs _ _).mono (fun _ h c => ⟨?_, ?_, ?_, ?_, ?_, ?_, ?_, ?_, (h c).2.2.2.2.2.2.2.2⟩) (Cert.InFwdRefIdeal.Value.run (F := Ideal) m' ρ')
  all_goals obtain ⟨h0, h1, h2⟩ := hagree c
  · exact (h c).1.trans (Cert.InFwdTie.q_eq ⟨h0, h1, h2⟩)
  · exact (h c).2.1.trans (Cert.InFwdTie.k_eq ⟨h0, h1, h2⟩)
  · exact (h c).2.2.1.trans (Cert.InFwdTie.v_eq ⟨h0, h1, h2⟩)
  · exact (h c).2.2.2.1.trans (Cert.InFwdTie.z_eq ⟨h0, h1, h2⟩)
  · exact (h c).2.2.2.2.1.trans (Cert.InFwdTie.f_eq ⟨h0, h1, h2⟩)
  · exact (h c).2.2.2.2.2.1.trans (Cert.InFwdTie.u_eq ⟨h0, h1, h2⟩)
  · exact (h c).2.2.2.2.2.2.1.trans (Cert.InFwdTie.w_eq ⟨h0, h1, h2⟩)
  · exact (h c).2.2.2.2.2.2.2.1.trans (Cert.InFwdTie.hn_eq ⟨h0, h1, h2⟩)

/-- The reference for `PoolW` changes no argument and leaves every counter at zero. -/
theorem quiescent_PoolWRefIdeal : quiescent_PoolWRefIdeal := fun m ρ _ =>
  (θ_run Cert.PoolWRefIdeal.defs _ _).mono (fun r h => ⟨fun c => (h c).2, sem_eq_zero_of_no_sems (by decide) r.2⟩)
    (Cert.PoolWRefIdeal.Value.run (F := Ideal) m ρ)

/-- In each group the mixing weight's gradient is the product of the pooled rows, transposed, and the mixed rows' cotangent. -/
theorem algebraic_PoolWIdeal_PoolWRefIdeal : algebraic_PoolWIdeal_PoolWRefIdeal := by
  intro m ρ m' ρ' _ hagree
  refine ⟨_, Cert.PoolWIdeal.Value.run (F := Ideal) m ρ, ?_⟩
  refine (θ_run Cert.PoolWRefIdeal.defs _ _).mono (fun _ h c => ⟨?_, (h c).2⟩) (Cert.PoolWRefIdeal.Value.run (F := Ideal) m' ρ')
  rw [(h c).1]
  simp only [hagree c]
  refine funext fun i => Eq.trans ?_ (Cert.PoolWIdeal.Grad.value m c i).symm
  exact (Cert.PoolWRefIdeal.Grad.reference_value _ _ i).trans (Finset.sum_congr rfl fun k _ => mul_comm _ _)

/-- The reference for `LossGrad` changes no argument and leaves every counter at zero. -/
theorem quiescent_LossGradRefIdeal : quiescent_LossGradRefIdeal := fun m ρ _ =>
  (θ_run Cert.LossGradRefIdeal.defs _ _).mono (fun r h => ⟨fun c => (h c).2.2, sem_eq_zero_of_no_sems (by decide) r.2⟩)
    (Cert.LossGradRefIdeal.Value.run (F := Ideal) m ρ)

/-- The loss call gives one device's share of the loss and its gradient. -/
theorem algebraic_LossGradIdeal_LossGradRefIdeal : algebraic_LossGradIdeal_LossGradRefIdeal := by
  intro m ρ m' ρ' _ hagree
  refine ⟨_, _, Cert.LossGradIdeal.Value.run (F := Ideal) m ρ, ?_⟩
  refine (θ_run Cert.LossGradRefIdeal.defs _ _).mono (fun _ h c => ⟨?_, ?_, (h c).2.2⟩) (Cert.LossGradRefIdeal.Value.run (F := Ideal) m' ρ')
  · rw [(h c).1]
    simp only [hagree c]
    exact (Cert.LossGradTie.loss_tie m c _ _).symm
  · rw [(h c).2.1]
    simp only [hagree c]
    exact (Cert.LossGradTie.grad_tie m c).symm

/-- The reference for `AdamSmall` changes no argument and leaves every counter at zero. -/
theorem quiescent_AdamSmallRefIdeal : quiescent_AdamSmallRefIdeal := fun m ρ _ =>
  (θ_run Cert.AdamSmallRefIdeal.defs _ _).mono (fun r h => ⟨fun c => (h c).2.2.2.2.2.2.2.2.2.2.2.2.2.2.2.2, sem_eq_zero_of_no_sems (by decide) r.2⟩)
    (Cert.AdamSmallRefIdeal.Value.run (F := Ideal) m ρ)

/-- The optimiser's call on the small weights gives the summed gradients, the weights' changes and the new moments. -/
theorem algebraic_AdamSmallIdeal_AdamSmallRefIdeal : algebraic_AdamSmallIdeal_AdamSmallRefIdeal := by
  intro m ρ m' ρ' _ hagree
  refine ⟨_, _, _, _, _, _, _, _, _, _, _, _, _, _, _, _, Cert.AdamSmallIdeal.Value.run (F := Ideal) m ρ, ?_⟩
  refine (θ_run Cert.AdamSmallRefIdeal.defs _ _).mono (fun _ h c => ⟨?_, ?_, ?_, ?_, ?_, ?_, ?_, ?_, ?_, ?_, ?_, ?_, ?_, ?_, ?_, ?_, (h c).2.2.2.2.2.2.2.2.2.2.2.2.2.2.2.2⟩) (Cert.AdamSmallRefIdeal.Value.run (F := Ideal) m' ρ')
  all_goals obtain ⟨h0, h1, h2, h3, h4, h5, h6, h7, h8, h9, h10, h11, h12⟩ := hagree c
  · rw [(h c).1, h12]; exact (Cert.AdamSmallTie.wide_grad m c _).symm
  · rw [(h c).2.1, h12]; exact (Cert.AdamSmallTie.wide_grad m c _).symm
  · rw [(h c).2.2.1, h12]; exact (Cert.AdamSmallTie.wide_grad m c _).symm
  · rw [(h c).2.2.2.1, h12]; exact (Cert.AdamSmallTie.narrow_grad m c _).symm
  · rw [(h c).2.2.2.2.1, h0, h4, h8, h12]; exact (Cert.AdamSmallTie.wide_delta m c _ (Cert.AdamSmallTie.lies_0 m c)).symm
  · rw [(h c).2.2.2.2.2.1, h1, h5, h9, h12]; exact (Cert.AdamSmallTie.wide_delta m c _ (Cert.AdamSmallTie.lies_2 m c)).symm
  · rw [(h c).2.2.2.2.2.2.1, h2, h6, h10, h12]; exact (Cert.AdamSmallTie.wide_delta m c _ (Cert.AdamSmallTie.lies_4 m c)).symm
  · rw [(h c).2.2.2.2.2.2.2.1, h3, h7, h11, h12]; exact (Cert.AdamSmallTie.narrow_delta m c _).symm
  · rw [(h c).2.2.2.2.2.2.2.2.1, h4, h12]; exact (Cert.AdamSmallTie.wide_m m c _ (Cert.AdamSmallTie.lies_0 m c)).symm
  · rw [(h c).2.2.2.2.2.2.2.2.2.1, h5, h12]; exact (Cert.AdamSmallTie.wide_m m c _ (Cert.AdamSmallTie.lies_2 m c)).symm
  · rw [(h c).2.2.2.2.2.2.2.2.2.2.1, h6, h12]; exact (Cert.AdamSmallTie.wide_m m c _ (Cert.AdamSmallTie.lies_4 m c)).symm
  · rw [(h c).2.2.2.2.2.2.2.2.2.2.2.1, h7, h12]; exact (Cert.AdamSmallTie.narrow_m m c _).symm
  · rw [(h c).2.2.2.2.2.2.2.2.2.2.2.2.1, h8, h12]; exact (Cert.AdamSmallTie.wide_v m c _ (Cert.AdamSmallTie.lies_0 m c)).symm
  · rw [(h c).2.2.2.2.2.2.2.2.2.2.2.2.2.1, h9, h12]; exact (Cert.AdamSmallTie.wide_v m c _ (Cert.AdamSmallTie.lies_2 m c)).symm
  · rw [(h c).2.2.2.2.2.2.2.2.2.2.2.2.2.2.1, h10, h12]; exact (Cert.AdamSmallTie.wide_v m c _ (Cert.AdamSmallTie.lies_4 m c)).symm
  · rw [(h c).2.2.2.2.2.2.2.2.2.2.2.2.2.2.2.1, h11, h12]; exact (Cert.AdamSmallTie.narrow_v m c _).symm

/-- Every claim of this certificate. -/
theorem claim : Cert.Claim := ⟨Cert.Kernel.Gen.facts, Cert.KernelIdeal.Gen.facts, Cert.WIn.Gen.facts, Cert.WInIdeal.Gen.facts, Cert.WInRefIdeal.Gen.facts, Cert.WPe.Gen.facts, Cert.WPeIdeal.Gen.facts, Cert.WPeRefIdeal.Gen.facts, Cert.WOut.Gen.facts, Cert.WOutIdeal.Gen.facts, Cert.WOutRefIdeal.Gen.facts, Cert.WF.Gen.facts, Cert.WFIdeal.Gen.facts, Cert.WFRefIdeal.Gen.facts, Cert.InProj.Gen.facts, Cert.InProjIdeal.Gen.facts, Cert.InProjRefIdeal.Gen.facts, Cert.OutGrad.Gen.facts, Cert.OutGradIdeal.Gen.facts, Cert.OutGradRefIdeal.Gen.facts, Cert.InFwd.Gen.facts, Cert.InFwdIdeal.Gen.facts, Cert.InFwdRefIdeal.Gen.facts, Cert.PoolW.Gen.facts, Cert.PoolWIdeal.Gen.facts, Cert.PoolWRefIdeal.Gen.facts, Cert.LossGrad.Gen.facts, Cert.LossGradIdeal.Gen.facts, Cert.LossGradRefIdeal.Gen.facts, Cert.AdamSmall.Gen.facts, Cert.AdamSmallIdeal.Gen.facts, Cert.AdamSmallRefIdeal.Gen.facts,
  Cert.KernelIdeal.Attn.quiescent_bits, quiescent_KernelIdeal, fun m ρ _ => Cert.WIn.Gen.frame m ρ, fun m ρ _ => Cert.WInIdeal.Gen.frame m ρ, quiescent_WInRefIdeal, fun m ρ _ => Cert.WPe.Gen.frame m ρ, fun m ρ _ => Cert.WPeIdeal.Gen.frame m ρ, quiescent_WPeRefIdeal, fun m ρ _ => Cert.WOut.Gen.frame m ρ, fun m ρ _ => Cert.WOutIdeal.Gen.frame m ρ, quiescent_WOutRefIdeal, fun m ρ _ => Cert.WF.Gen.frame m ρ, fun m ρ _ => Cert.WFIdeal.Gen.frame m ρ, quiescent_WFRefIdeal,
  fun m ρ _ => Cert.InProj.Gen.frame m ρ, fun m ρ _ => Cert.InProjIdeal.Gen.frame m ρ, quiescent_InProjRefIdeal, fun m ρ _ => Cert.OutGrad.Gen.frame m ρ, fun m ρ _ => Cert.OutGradIdeal.Gen.frame m ρ, quiescent_OutGradRefIdeal, Cert.InFwdIdeal.Grad.quiescent_bits, fun m ρ _ => Cert.InFwdIdeal.Grad.frame m ρ, quiescent_InFwdRefIdeal,
  fun m ρ _ => Cert.PoolW.Gen.frame m ρ, fun m ρ _ => Cert.PoolWIdeal.Gen.frame m ρ, quiescent_PoolWRefIdeal, fun m ρ _ => Cert.LossGrad.Gen.frame m ρ, fun m ρ _ => Cert.LossGradIdeal.Gen.frame m ρ, quiescent_LossGradRefIdeal, fun m ρ _ => Cert.AdamSmall.Gen.frame m ρ, fun m ρ _ => Cert.AdamSmallIdeal.Gen.frame m ρ, quiescent_AdamSmallRefIdeal,
  (trivial : preserves_Kernel_KernelIdeal), (trivial : preserves_WIn_WInIdeal), algebraic_WInIdeal_WInRefIdeal, (trivial : preserves_WPe_WPeIdeal), algebraic_WPeIdeal_WPeRefIdeal, (trivial : preserves_WOut_WOutIdeal), algebraic_WOutIdeal_WOutRefIdeal, (trivial : preserves_WF_WFIdeal), algebraic_WFIdeal_WFRefIdeal,
  (trivial : preserves_InProj_InProjIdeal), algebraic_InProjIdeal_InProjRefIdeal,
  (trivial : preserves_OutGrad_OutGradIdeal), algebraic_OutGradIdeal_OutGradRefIdeal,
  (trivial : preserves_InFwd_InFwdIdeal), algebraic_InFwdIdeal_InFwdRefIdeal,
  (trivial : preserves_PoolW_PoolWIdeal), algebraic_PoolWIdeal_PoolWRefIdeal,
  (trivial : preserves_LossGrad_LossGradIdeal), algebraic_LossGradIdeal_LossGradRefIdeal,
  (trivial : preserves_AdamSmall_AdamSmallIdeal), algebraic_AdamSmallIdeal_AdamSmallRefIdeal⟩

end Cert.Proof

end
